-- ==== Defs.lean ====
def Pre_Kernel [hPre_expert_ids : Cert.Pre_expert_ids.Facts] (m : (ℓ : Loc Cert.Kernel.nD Cert.Kernel.τ Cert.Kernel.sig) → Buf (Elt Bits) ℓ) : Prop :=
  ∀ c : Dev Cert.Kernel.nD,
    (Cert.Pre_expert_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_expert_ids : Cert.Pre_expert_ids.Facts] (m : (ℓ : Loc Cert.KernelIdeal.nD Cert.KernelIdeal.τ Cert.KernelIdeal.sig) → Buf (Elt Ideal) ℓ) : Prop :=
  ∀ c : Dev Cert.KernelIdeal.nD,
    (Cert.Pre_expert_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_expert_ids : Cert.Pre_expert_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_weights : Cert.Pre_weights.Facts] (m : (ℓ : Loc Cert.Kernel2.nD Cert.Kernel2.τ Cert.Kernel2.sig) → Buf (Elt Bits) ℓ) : Prop :=
  ∀ c : Dev Cert.Kernel2.nD,
    (Cert.Pre_weights.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_weights : Cert.Pre_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_weights : Cert.Pre_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite1 [hPre_finite1 : Cert.Pre_finite1.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite1.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite1 [hPre_finite1 : Cert.Pre_finite1.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite1.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite2 [hPre_finite2 : Cert.Pre_finite2.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite2.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite2 [hPre_finite2 : Cert.Pre_finite2.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite2.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] [hPre_expert_ids : Cert.Pre_expert_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_expert_ids : Cert.Pre_expert_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_weights : Cert.Pre_weights.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_weights : Cert.Pre_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_weights : Cert.Pre_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite1 [hKernel5Ideal : Cert.Kernel5Ideal.Facts] [hPre_finite1 : Cert.Pre_finite1.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite1 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite1 [hReference5Ideal : Cert.Reference5Ideal.Facts] [hPre_finite1 : Cert.Pre_finite1.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite1 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite2 [hKernel6Ideal : Cert.Kernel6Ideal.Facts] [hPre_finite2 : Cert.Pre_finite2.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite2 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite2 [hReference6Ideal : Cert.Reference6Ideal.Facts] [hPre_finite2 : Cert.Pre_finite2.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite2 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_weights : Cert.Pre_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v121) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)) (v3 : (c : Dev Cert.Kernel4Ideal.nD) → Buf (Elt Ideal) ((c.tc : Thread Cert.Kernel4Ideal.nD Cert.Kernel4Ideal.τ).loc Cert.Kernel4Ideal.main_v37_3)) (v4 : (c : Dev Cert.Kernel4Ideal.nD) → Buf (Elt Ideal) ((c.tc : Thread Cert.Kernel4Ideal.nD Cert.Kernel4Ideal.τ).loc Cert.Kernel4Ideal.main_v37_4)) (v5 : (c : Dev Cert.Kernel4Ideal.nD) → Buf (Elt Ideal) ((c.tc : Thread Cert.Kernel4Ideal.nD Cert.Kernel4Ideal.τ).loc Cert.Kernel4Ideal.main_v37_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_v37_3) = v3 c
          ∧ r.2.mem ((c.tc : Thread Cert.Kernel4Ideal.nD Cert.Kernel4Ideal.τ).loc Cert.Kernel4Ideal.main_v37_4) = v4 c
          ∧ r.2.mem ((c.tc : Thread Cert.Kernel4Ideal.nD Cert.Kernel4Ideal.τ).loc Cert.Kernel4Ideal.main_v37_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v127) = v0 c
          ∧ r.2.mem ((c.tc : Thread Cert.Reference4Ideal.nD Cert.Reference4Ideal.τ).loc Cert.Reference4Ideal.main_v123) = v1 c
          ∧ r.2.mem ((c.tc : Thread Cert.Reference4Ideal.nD Cert.Reference4Ideal.τ).loc Cert.Reference4Ideal.main_v130) = v2 c
          ∧ r.2.mem ((c.tc : Thread Cert.Reference4Ideal.nD Cert.Reference4Ideal.τ).loc Cert.Reference4Ideal.main_v124) = v3 c
          ∧ r.2.mem ((c.tc : Thread Cert.Reference4Ideal.nD Cert.Reference4Ideal.τ).loc Cert.Reference4Ideal.main_v131) = v4 c
          ∧ r.2.mem ((c.tc : Thread Cert.Reference4Ideal.nD Cert.Reference4Ideal.τ).loc Cert.Reference4Ideal.main_v132) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite1 [hKernel5Ideal : Cert.Kernel5Ideal.Facts] [hReference5Ideal : Cert.Reference5Ideal.Facts] [hPre_finite1 : Cert.Pre_finite1.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite1 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v37_0)) (v1 : (c : Dev Cert.Kernel5Ideal.nD) → Buf (Elt Ideal) ((c.tc : Thread Cert.Kernel5Ideal.nD Cert.Kernel5Ideal.τ).loc Cert.Kernel5Ideal.main_v37_1)) (v2 : (c : Dev Cert.Kernel5Ideal.nD) → Buf (Elt Ideal) ((c.tc : Thread Cert.Kernel5Ideal.nD Cert.Kernel5Ideal.τ).loc Cert.Kernel5Ideal.main_v37_2)) (v3 : (c : Dev Cert.Kernel5Ideal.nD) → Buf (Elt Ideal) ((c.tc : Thread Cert.Kernel5Ideal.nD Cert.Kernel5Ideal.τ).loc Cert.Kernel5Ideal.main_v37_3)) (v4 : (c : Dev Cert.Kernel5Ideal.nD) → Buf (Elt Ideal) ((c.tc : Thread Cert.Kernel5Ideal.nD Cert.Kernel5Ideal.τ).loc Cert.Kernel5Ideal.main_v37_4)) (v5 : (c : Dev Cert.Kernel5Ideal.nD) → Buf (Elt Ideal) ((c.tc : Thread Cert.Kernel5Ideal.nD Cert.Kernel5Ideal.τ).loc Cert.Kernel5Ideal.main_v37_5)) (v6 : (c : Dev Cert.Kernel5Ideal.nD) → Buf (Elt Ideal) ((c.tc : Thread Cert.Kernel5Ideal.nD Cert.Kernel5Ideal.τ).loc Cert.Kernel5Ideal.main_v37_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37_0) = v0 c
          ∧ r.2.mem ((c.tc : Thread Cert.Kernel5Ideal.nD Cert.Kernel5Ideal.τ).loc Cert.Kernel5Ideal.main_v37_1) = v1 c
          ∧ r.2.mem ((c.tc : Thread Cert.Kernel5Ideal.nD Cert.Kernel5Ideal.τ).loc Cert.Kernel5Ideal.main_v37_2) = v2 c
          ∧ r.2.mem ((c.tc : Thread Cert.Kernel5Ideal.nD Cert.Kernel5Ideal.τ).loc Cert.Kernel5Ideal.main_v37_3) = v3 c
          ∧ r.2.mem ((c.tc : Thread Cert.Kernel5Ideal.nD Cert.Kernel5Ideal.τ).loc Cert.Kernel5Ideal.main_v37_4) = v4 c
          ∧ r.2.mem ((c.tc : Thread Cert.Kernel5Ideal.nD Cert.Kernel5Ideal.τ).loc Cert.Kernel5Ideal.main_v37_5) = v5 c
          ∧ r.2.mem ((c.tc : Thread Cert.Kernel5Ideal.nD Cert.Kernel5Ideal.τ).loc Cert.Kernel5Ideal.main_v37_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v245) = v0 c
          ∧ r.2.mem ((c.tc : Thread Cert.Reference5Ideal.nD Cert.Reference5Ideal.τ).loc Cert.Reference5Ideal.main_v127) = v1 c
          ∧ r.2.mem ((c.tc : Thread Cert.Reference5Ideal.nD Cert.Reference5Ideal.τ).loc Cert.Reference5Ideal.main_v181) = v2 c
          ∧ r.2.mem ((c.tc : Thread Cert.Reference5Ideal.nD Cert.Reference5Ideal.τ).loc Cert.Reference5Ideal.main_v235) = v3 c
          ∧ r.2.mem ((c.tc : Thread Cert.Reference5Ideal.nD Cert.Reference5Ideal.τ).loc Cert.Reference5Ideal.main_v242) = v4 c
          ∧ r.2.mem ((c.tc : Thread Cert.Reference5Ideal.nD Cert.Reference5Ideal.τ).loc Cert.Reference5Ideal.main_v246) = v5 c
          ∧ r.2.mem ((c.tc : Thread Cert.Reference5Ideal.nD Cert.Reference5Ideal.τ).loc Cert.Reference5Ideal.main_v247) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite2 [hKernel6Ideal : Cert.Kernel6Ideal.Facts] [hReference6Ideal : Cert.Reference6Ideal.Facts] [hPre_finite2 : Cert.Pre_finite2.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite2 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)) (v2 : (c : Dev Cert.Kernel6Ideal.nD) → Buf (Elt Ideal) ((c.tc : Thread Cert.Kernel6Ideal.nD Cert.Kernel6Ideal.τ).loc Cert.Kernel6Ideal.main_v37_2)) (v3 : (c : Dev Cert.Kernel6Ideal.nD) → Buf (Elt Ideal) ((c.tc : Thread Cert.Kernel6Ideal.nD Cert.Kernel6Ideal.τ).loc Cert.Kernel6Ideal.main_v37_3)) (v4 : (c : Dev Cert.Kernel6Ideal.nD) → Buf (Elt Ideal) ((c.tc : Thread Cert.Kernel6Ideal.nD Cert.Kernel6Ideal.τ).loc Cert.Kernel6Ideal.main_v37_4)) (v5 : (c : Dev Cert.Kernel6Ideal.nD) → Buf (Elt Ideal) ((c.tc : Thread Cert.Kernel6Ideal.nD Cert.Kernel6Ideal.τ).loc Cert.Kernel6Ideal.main_v37_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_v37_2) = v2 c
          ∧ r.2.mem ((c.tc : Thread Cert.Kernel6Ideal.nD Cert.Kernel6Ideal.τ).loc Cert.Kernel6Ideal.main_v37_3) = v3 c
          ∧ r.2.mem ((c.tc : Thread Cert.Kernel6Ideal.nD Cert.Kernel6Ideal.τ).loc Cert.Kernel6Ideal.main_v37_4) = v4 c
          ∧ r.2.mem ((c.tc : Thread Cert.Kernel6Ideal.nD Cert.Kernel6Ideal.τ).loc Cert.Kernel6Ideal.main_v37_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v127) = v0 c
          ∧ r.2.mem ((c.tc : Thread Cert.Reference6Ideal.nD Cert.Reference6Ideal.τ).loc Cert.Reference6Ideal.main_v123) = v1 c
          ∧ r.2.mem ((c.tc : Thread Cert.Reference6Ideal.nD Cert.Reference6Ideal.τ).loc Cert.Reference6Ideal.main_v130) = v2 c
          ∧ r.2.mem ((c.tc : Thread Cert.Reference6Ideal.nD Cert.Reference6Ideal.τ).loc Cert.Reference6Ideal.main_v124) = v3 c
          ∧ r.2.mem ((c.tc : Thread Cert.Reference6Ideal.nD Cert.Reference6Ideal.τ).loc Cert.Reference6Ideal.main_v131) = v4 c
          ∧ r.2.mem ((c.tc : Thread Cert.Reference6Ideal.nD Cert.Reference6Ideal.τ).loc Cert.Reference6Ideal.main_v132) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_expert_ids : Cert.Pre_expert_ids.Facts) (hPre_weights : Cert.Pre_weights.Facts) (hPre_finite : Cert.Pre_finite.Facts) (hPre_finite1 : Cert.Pre_finite1.Facts) (hPre_finite2 : Cert.Pre_finite2.Facts),
    quiescent_Kernel (hKernel := hKernel) (hPre_expert_ids := hPre_expert_ids)
    ∧ quiescent_KernelIdeal (hKernelIdeal := hKernelIdeal) (hPre_expert_ids := hPre_expert_ids)
    ∧ quiescent_ReferenceIdeal (hReferenceIdeal := hReferenceIdeal) (hPre_expert_ids := hPre_expert_ids)
    ∧ quiescent_Kernel2 (hKernel2 := hKernel2) (hPre_weights := hPre_weights)
    ∧ quiescent_Kernel2Ideal (hKernel2Ideal := hKernel2Ideal) (hPre_weights := hPre_weights)
    ∧ quiescent_Reference2Ideal (hReference2Ideal := hReference2Ideal) (hPre_weights := hPre_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite1 (hKernel5Ideal := hKernel5Ideal) (hPre_finite1 := hPre_finite1)
    ∧ quiescent_Reference5Ideal (hReference5Ideal := hReference5Ideal)
    ∧ quiescent_Reference5Ideal_pre_finite1 (hReference5Ideal := hReference5Ideal) (hPre_finite1 := hPre_finite1)
    ∧ quiescent_Kernel6 (hKernel6 := hKernel6)
    ∧ quiescent_Kernel6Ideal (hKernel6Ideal := hKernel6Ideal)
    ∧ quiescent_Kernel6Ideal_pre_finite2 (hKernel6Ideal := hKernel6Ideal) (hPre_finite2 := hPre_finite2)
    ∧ quiescent_Reference6Ideal (hReference6Ideal := hReference6Ideal)
    ∧ quiescent_Reference6Ideal_pre_finite2 (hReference6Ideal := hReference6Ideal) (hPre_finite2 := hPre_finite2)
    ∧ preserves_Kernel_KernelIdeal
    ∧ algebraic_KernelIdeal_ReferenceIdeal (hKernelIdeal := hKernelIdeal) (hReferenceIdeal := hReferenceIdeal) (hPre_expert_ids := hPre_expert_ids)
    ∧ preserves_Kernel2_Kernel2Ideal
    ∧ algebraic_Kernel2Ideal_Reference2Ideal (hKernel2Ideal := hKernel2Ideal) (hReference2Ideal := hReference2Ideal) (hPre_weights := hPre_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite1 (hKernel5Ideal := hKernel5Ideal) (hReference5Ideal := hReference5Ideal) (hPre_finite1 := hPre_finite1)
    ∧ preserves_Kernel6_Kernel6Ideal
    ∧ algebraic_Kernel6Ideal_Reference6Ideal_pre_finite2 (hKernel6Ideal := hKernel6Ideal) (hReference6Ideal := hReference6Ideal) (hPre_finite2 := hPre_finite2)
-- ==== Pre_expert_ids.lean ====
abbrev S36864x1024 : Shape := ⟨2, ![36864, 1024]⟩
abbrev S72 : Shape := ⟨1, ![72]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x1024 .f32) (main_arg1 : IVec S72 32) (main_arg2 : IVec S72 32) (main_arg3 : FVec F S8x1024x7168 .f32) (main_arg4 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_finite.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S16384x1024 .f32) (main_arg1 : FVec F S1024 .f32) (main_arg2 : FVec F S1024x3072 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Pre_finite1.lean ====
abbrev S16384x1024 : Shape := ⟨2, ![16384, 1024]⟩
abbrev S1024 : Shape := ⟨1, ![1024]⟩
abbrev S1024x2608 : Shape := ⟨2, ![1024, 2608]⟩
abbrev S64 : Shape := ⟨1, ![64]⟩
abbrev S3x64 : Shape := ⟨2, ![3, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2608 : S_.BroadcastsInDim S1024x2608 (![] : Fin 0 → Fin S1024x2608.rank)
  reducesTo_S1024x2608_S_d0_1 : S1024x2608.ReducesTo [0, 1] S_

variable [Facts]

def fn {F : FTy → Type} [FloatOps F] (main_arg0 : FVec F S16384x1024 .f32) (main_arg1 : FVec F S1024 .f32) (main_arg2 : FVec F S1024x2608 .f32) (main_arg3 : FVec F S64 .f32) (main_arg4 : FVec F S3x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2608 .f32 := Host.absf main_arg2
  let main_cst_0 : FVec F S_ .f32 := constant S_ .f32 0x7F800000#32
  let main_v5 : FVec F S1024x2608 .f32 := broadcastInDim S1024x2608 ![] bcast_S_S1024x2608 main_cst_0
  let main_v6 : IVec S1024x2608 1 := cmpf .olt main_v4 main_v5
  let main_c_1 : IVec S_ 1 := constantI S_ 1 1#1
  let main_v7 : IVec S_ 1 := (fun x v => Host.reduce IntOp.andi x v reducesTo_S1024x2608_S_d0_1 h_S_) main_v6 main_c_1
  let main_v8 : IVec S_ 1 := andi main_v3 main_v7
  main_v8
-- ==== Pre_finite2.lean ====
abbrev S32x1024 : Shape := ⟨2, ![32, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S32x1024 .f32) (main_arg1 : FVec F S1024 .f32) (main_arg2 : FVec F S1024x3072 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Pre_weights.lean ====
abbrev S32x1024 : Shape := ⟨2, ![32, 1024]⟩
abbrev S32x128 : Shape := ⟨2, ![32, 128]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel

variable [Facts]

def fn {F : FTy → Type} [FloatOps F] (main_arg0 : FVec F S32x1024 .f32) (main_arg1 : FVec F S32x1024 .bf16) (main_arg2 : FVec F S32x128 .f32) (main_arg3 : FVec F S8x1024x7168 .f32) (main_arg4 : FVec F S8x3584x1024 .f32) : IVec S_ 1 :=
  let main_cst : FVec F S_ .f32 := constant S_ .f32 0x00000000#32
  let main_v0 : FVec F S32x128 .f32 := broadcastInDim S32x128 ![] bcast_S_S32x128 main_cst
  let main_v1 : IVec S32x128 1 := cmpf .oge main_arg2 main_v0
  let main_cst_0 : FVec F S_ .f32 := constant S_ .f32 0x3F800000#32
  let main_v2 : FVec F S32x128 .f32 := broadcastInDim S32x128 ![] bcast_S_S32x128 main_cst_0
  let main_v3 : IVec S32x128 1 := cmpf .ole main_arg2 main_v2
  let main_v4 : IVec S32x128 1 := andi main_v1 main_v3
  let main_c : IVec S_ 1 := constantI S_ 1 1#1
  let main_v5 : IVec S_ 1 := (fun x v => Host.reduce IntOp.andi x v reducesTo_S32x128_S_d0_1 h_S_) main_v4 main_c
  main_v5
-- ==== Kernel.lean ====
abbrev S36864x1024 : Shape := ⟨2, ![36864, 1024]⟩
abbrev S72 : Shape := ⟨1, ![72]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 6
  | .vmem => 11
  | .smem => 2
  | _ => 0

abbrev bufTy : (tb : Table) → Fin (tcTables nBuf tb) → BufTy
  | .hbm, ⟨0, _⟩ => ⟨S36864x1024, .f32⟩
  | .hbm, ⟨1, _⟩ => ⟨S8x1024x7168, .f32⟩
  | .hbm, ⟨2, _⟩ => ⟨S8x3584x1024, .f32⟩
  | .hbm, ⟨3, _⟩ => ⟨S8x1024x7168, .bf16⟩
  | .hbm, ⟨4, _⟩ => ⟨S8x3584x1024, .bf16⟩
  | .hbm, ⟨5, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S72, .i32⟩
  | .local _ .smem, ⟨1, _⟩ => ⟨S72, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v1 : BitVec 32) : BitVec 1 :=
  let c0_i32 : BitVec 32 := 0#32
  let v2 : BitVec 1 := Scalar.cmpi .sgt v1 c0_i32
  let arg1 : BitVec 32 := BitVec.ofNat 32 (i 1).val
  let c1_i32 : BitVec 32 := 1#32
  let v9 : BitVec 1 := Scalar.cmpi .eq arg1 c1_i32
  let v10 : BitVec 1 := Scalar.andi v2 v9
  let v11 : BitVec 32 := Scalar.extui v10
  let c0_i32_3 : BitVec 32 := 0#32
  let v12 : BitVec 1 := Scalar.cmpi .ne v11 c0_i32_3
  v12

def k0_cond4 (i : grid0.Coords) (v1 : BitVec 32) : BitVec 1 :=
  let c0_i32 : BitVec 32 := 0#32
  let v2 : BitVec 1 := Scalar.cmpi .sgt v1 c0_i32
  let v_true : BitVec 1 := 1#1
  let v13 : BitVec 1 := Scalar.xori v2 v_true
  let arg1 : BitVec 32 := BitVec.ofNat 32 (i 1).val
  let c1_i32 : BitVec 32 := 1#32
  let v9 : BitVec 1 := Scalar.cmpi .eq arg1 c1_i32
  let v14 : BitVec 1 := Scalar.andi v13 v9
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c2_i32 : BitVec 32 := 2#32
  let v2 : BitVec 32 := Scalar.addi c2_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36864x1024 : Shape := ⟨2, ![36864, 1024]⟩
abbrev S72 : Shape := ⟨1, ![72]⟩
abbrev S8x1024x7168 : Shape := ⟨3, ![8, 1024, 7168]⟩
abbrev S8x3584x1024 : Shape := ⟨3, ![8, 3584, 1024]⟩
abbrev S72x1 : Shape := ⟨2, ![72, 1]⟩
abbrev S72x512 : Shape := ⟨2, ![72, 512]⟩
abbrev S36864x1 : Shape := ⟨2, ![36864, 1]⟩
abbrev S36864x8 : Shape := ⟨2, ![36864, 8]⟩
abbrev S_ : Shape := ⟨0, ![]⟩
abbrev S1x1024x7168 : Shape := ⟨3, ![1, 1024, 7168]⟩
abbrev S1024x7168 : Shape := ⟨2, ![1024, 7168]⟩
abbrev S36864x7168 : Shape := ⟨2, ![36864, 7168]⟩
abbrev S36864x3584 : Shape := ⟨2, ![36864, 3584]⟩
abbrev S1x3584x1024 : Shape := ⟨3, ![1, 3584, 1024]⟩
abbrev S3584x1024 : Shape := ⟨2, ![3584, 1024]⟩

abbrev nBuf : Space → Nat
  | .hbm => 210
  | .vmem => 0
  | .smem => 0
  | _ => 0

abbrev hbmTy0_0 (i : Nat) : BufTy := match i % 128 with
  | 0 => ⟨S36864x1024, .f32⟩
  | 1 => ⟨S72, .i32⟩
  | 2 => ⟨S72, .i32⟩
  | 3 => ⟨S8x1024x7168, .f32⟩
  | 4 => ⟨S8x3584x1024, .f32⟩
  | 5 => ⟨S72x1, .i32⟩
  | 6 => ⟨S72x512, .i32⟩
  | 7 => ⟨S36864x1, .i32⟩
  | 8 => ⟨S72x1, .i32⟩
  | 9 => ⟨S72x512, .i32⟩
  | 10 => ⟨S36864x1, .i32⟩
  | 11 => ⟨S36864x8, .i32⟩
  | 12 => ⟨S36864x8, .i32⟩
  | 13 => ⟨S36864x8, .i1⟩
  | 14 => ⟨S_, .i32⟩
  | 15 => ⟨S36864x1, .i32⟩
  | 16 => ⟨S36864x1, .i1⟩
  | 17 => ⟨S36864x8, .i1⟩
  | 18 => ⟨S36864x8, .i1⟩
  | 19 => ⟨S_, .f32⟩
  | 20 => ⟨S_, .f32⟩
  | 21 => ⟨S36864x8, .f32⟩
  | 22 => ⟨S36864x8, .f32⟩
  | 23 => ⟨S36864x8, .f32⟩
  | 24 => ⟨S_, .f32⟩
  | 25 => ⟨S36864x1024, .f32⟩
  | 26 => ⟨S1x1024x7168, .f32⟩
  | 27 => ⟨S1024x7168, .f32⟩
  | 28 => ⟨S36864x7168, .f32⟩
  | 29 => ⟨S36864x3584, .f32⟩
  | 30 => ⟨S36864x3584, .f32⟩
  | 31 => ⟨S36864x1, .f32⟩
  | 32 => ⟨S36864x3584, .f32⟩
  | 33 => ⟨S36864x3584, .f32⟩
  | 34 => ⟨S_, .f32⟩
  | 35 => ⟨S36864x3584, .f32⟩
  | 36 => ⟨S36864x3584, .f32⟩
  | 37 => ⟨S_, .f32⟩
  | 38 => ⟨S36864x3584, .f32⟩
  | 39 => ⟨S36864x3584, .f32⟩
  | 40 => ⟨S36864x3584, .f32⟩
  | 41 => ⟨S36864x3584, .f32⟩
  | 42 => ⟨S1x3584x1024, .f32⟩
  | 43 => ⟨S3584x1024, .f32⟩
  | 44 => ⟨S36864x1024, .f32⟩
  | 45 => ⟨S36864x1, .f32⟩
  | 46 => ⟨S36864x1024, .f32⟩
  | 47 => ⟨S36864x1024, .f32⟩
  | 48 => ⟨S36864x1024, .f32⟩
  | 49 => ⟨S1x1024x7168, .f32⟩
  | 50 => ⟨S1024x7168, .f32⟩
  | 51 => ⟨S36864x7168, .f32⟩
  | 52 => ⟨S36864x3584, .f32⟩
  | 53 => ⟨S36864x3584, .f32⟩
  | 54 => ⟨S36864x1, .f32⟩
  | 55 => ⟨S36864x3584, .f32⟩
  | 56 => ⟨S36864x3584, .f32⟩
  | 57 => ⟨S_, .f32⟩
  | 58 => ⟨S36864x3584, .f32⟩
  | 59 => ⟨S36864x3584, .f32⟩
  | 60 => ⟨S_, .f32⟩
  | 61 => ⟨S36864x3584, .f32⟩
  | 62 => ⟨S36864x3584, .f32⟩
  | 63 => ⟨S36864x3584, .f32⟩
  | 64 => ⟨S36864x3584, .f32⟩
  | 65 => ⟨S1x3584x1024, .f32⟩
  | 66 => ⟨S3584x1024, .f32⟩
  | 67 => ⟨S36864x1024, .f32⟩
  | 68 => ⟨S36864x1, .f32⟩
  | 69 => ⟨S36864x1024, .f32⟩
  | 70 => ⟨S36864x1024, .f32⟩
  | 71 => ⟨S36864x1024, .f32⟩
  | 72 => ⟨S1x1024x7168, .f32⟩
  | 73 => ⟨S1024x7168, .f32⟩
  | 74 => ⟨S36864x7168, .f32⟩
  | 75 => ⟨S36864x3584, .f32⟩
  | 76 => ⟨S36864x3584, .f32⟩
  | 77 => ⟨S36864x1, .f32⟩
  | 78 => ⟨S36864x3584, .f32⟩
  | 79 => ⟨S36864x3584, .f32⟩
  | 80 => ⟨S_, .f32⟩
  | 81 => ⟨S36864x3584, .f32⟩
  | 82 => ⟨S36864x3584, .f32⟩
  | 83 => ⟨S_, .f32⟩
  | 84 => ⟨S36864x3584, .f32⟩
  | 85 => ⟨S36864x3584, .f32⟩
  | 86 => ⟨S36864x3584, .f32⟩
  | 87 => ⟨S36864x3584, .f32⟩
  | 88 => ⟨S1x3584x1024, .f32⟩
  | 89 => ⟨S3584x1024, .f32⟩
  | 90 => ⟨S36864x1024, .f32⟩
  | 91 => ⟨S36864x1, .f32⟩
  | 92 => ⟨S36864x1024, .f32⟩
  | 93 => ⟨S36864x1024, .f32⟩
  | 94 => ⟨S36864x1024, .f32⟩
  | 95 => ⟨S1x1024x7168, .f32⟩
  | 96 => ⟨S1024x7168, .f32⟩
  | 97 => ⟨S36864x7168, .f32⟩
  | 98 => ⟨S36864x3584, .f32⟩
  | 99 => ⟨S36864x3584, .f32⟩
  | 100 => ⟨S36864x1, .f32⟩
  | 101 => ⟨S36864x3584, .f32⟩
  | 102 => ⟨S36864x3584, .f32⟩
  | 103 => ⟨S_, .f32⟩
  | 104 => ⟨S36864x3584, .f32⟩
  | 105 => ⟨S36864x3584, .f32⟩
  | 106 => ⟨S_, .f32⟩
  | 107 => ⟨S36864x3584, .f32⟩
  | 108 => ⟨S36864x3584, .f32⟩
  | 109 => ⟨S36864x3584, .f32⟩
  | 110 => ⟨S36864x3584, .f32⟩
  | 111 => ⟨S1x3584x1024, .f32⟩
  | 112 => ⟨S3584x1024, .f32⟩
  | 113 => ⟨S36864x1024, .f32⟩
  | 114 => ⟨S36864x1, .f32⟩
  | 115 => ⟨S36864x1024, .f32⟩
  | 116 => ⟨S36864x1024, .f32⟩
  | 117 => ⟨S36864x1024, .f32⟩
  | 118 => ⟨S1x1024x7168, .f32⟩
  | 119 => ⟨S1024x7168, .f32⟩
  | 120 => ⟨S36864x7168, .f32⟩
  | 121 => ⟨S36864x3584, .f32⟩
  | 122 => ⟨S36864x3584, .f32⟩
  | 123 => ⟨S36864x1, .f32⟩
  | 124 => ⟨S36864x3584, .f32⟩
  | 125 => ⟨S36864x3584, .f32⟩
  | 126 => ⟨S_, .f32⟩
  | 127 => ⟨S36864x3584, .f32⟩
  | _ => ⟨S36864x1024, .f32⟩

abbrev hbmTy0_1 (i : Nat) : BufTy := match i % 128 with
  | 0 => ⟨S36864x3584, .f32⟩
  | 1 => ⟨S_, .f32⟩
  | 2 => ⟨S36864x3584, .f32⟩
  | 3 => ⟨S36864x3584, .f32⟩
  | 4 => ⟨S36864x3584, .f32⟩
  | 5 => ⟨S36864x3584, .f32⟩
  | 6 => ⟨S1x3584x1024, .f32⟩
  | 7 => ⟨S3584x1024, .f32⟩
  | 8 => ⟨S36864x1024, .f32⟩
  | 9 => ⟨S36864x1, .f32⟩
  | 10 => ⟨S36864x1024, .f32⟩
  | 11 => ⟨S36864x1024, .f32⟩
  | 12 => ⟨S36864x1024, .f32⟩
  | 13 => ⟨S1x1024x7168, .f32⟩
  | 14 => ⟨S1024x7168, .f32⟩
  | 15 => ⟨S36864x7168, .f32⟩
  | 16 => ⟨S36864x3584, .f32⟩
  | 17 => ⟨S36864x3584, .f32⟩
  | 18 => ⟨S36864x1, .f32⟩
  | 19 => ⟨S36864x3584, .f32⟩
  | 20 => ⟨S36864x3584, .f32⟩
  | 21 => ⟨S_, .f32⟩
  | 22 => ⟨S36864x3584, .f32⟩
  | 23 => ⟨S36864x3584, .f32⟩
  | 24 => ⟨S_, .f32⟩
  | 25 => ⟨S36864x3584, .f32⟩
  | 26 => ⟨S36864x3584, .f32⟩
  | 27 => ⟨S36864x3584, .f32⟩
  | 28 => ⟨S36864x3584, .f32⟩
  | 29 => ⟨S1x3584x1024, .f32⟩
  | 30 => ⟨S3584x1024, .f32⟩
  | 31 => ⟨S36864x1024, .f32⟩
  | 32 => ⟨S36864x1, .f32⟩
  | 33 => ⟨S36864x1024, .f32⟩
  | 34 => ⟨S36864x1024, .f32⟩
  | 35 => ⟨S36864x1024, .f32⟩
  | 36 => ⟨S1x1024x7168, .f32⟩
  | 37 => ⟨S1024x7168, .f32⟩
  | 38 => ⟨S36864x7168, .f32⟩
  | 39 => ⟨S36864x3584, .f32⟩
  | 40 => ⟨S36864x3584, .f32⟩
  | 41 => ⟨S36864x1, .f32⟩
  | 42 => ⟨S36864x3584, .f32⟩
  | 43 => ⟨S36864x3584, .f32⟩
  | 44 => ⟨S_, .f32⟩
  | 45 => ⟨S36864x3584, .f32⟩
  | 46 => ⟨S36864x3584, .f32⟩
  | 47 => ⟨S_, .f32⟩
  | 48 => ⟨S36864x3584, .f32⟩
  | 49 => ⟨S36864x3584, .f32⟩
  | 50 => ⟨S36864x3584, .f32⟩
  | 51 => ⟨S36864x3584, .f32⟩
  | 52 => ⟨S1x3584x1024, .f32⟩
  | 53 => ⟨S3584x1024, .f32⟩
  | 54 => ⟨S36864x1024, .f32⟩
  | 55 => ⟨S36864x1, .f32⟩
  | 56 => ⟨S36864x1024, .f32⟩
  | 57 => ⟨S36864x1024, .f32⟩
  | 58 => ⟨S36864x1024, .f32⟩
  | 59 => ⟨S1x1024x7168, .f32⟩
  | 60 => ⟨S1024x7168, .f32⟩
  | 61 => ⟨S36864x7168, .f32⟩
  | 62 => ⟨S36864x3584, .f32⟩
  | 63 => ⟨S36864x3584, .f32⟩
  | 64 => ⟨S36864x1, .f32⟩
  | 65 => ⟨S36864x3584, .f32⟩
  | 66 => ⟨S36864x3584, .f32⟩
  | 67 => ⟨S_, .f32⟩
  | 68 => ⟨S36864x3584, .f32⟩
  | 69 => ⟨S36864x3584, .f32⟩
  | 70 => ⟨S_, .f32⟩
  | 71 => ⟨S36864x3584, .f32⟩
  | 72 => ⟨S36864x3584, .f32⟩
  | 73 => ⟨S36864x3584, .f32⟩
  | 74 => ⟨S36864x3584, .f32⟩
  | 75 => ⟨S1x3584x1024, .f32⟩
  | 76 => ⟨S3584x1024, .f32⟩
  | 77 => ⟨S36864x1024, .f32⟩
  | 78 => ⟨S36864x1, .f32⟩
  | 79 => ⟨S36864x1024, .f32⟩
  | 80 => ⟨S36864x1024, .f32⟩
  | 81 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call4_v0 : Ref sig .tc := ⟨.hbm, 101, rfl⟩
abbrev main_call4_v1 : Ref sig .tc := ⟨.hbm, 102, rfl⟩
abbrev main_call4_cst : Ref sig .tc := ⟨.hbm, 103, rfl⟩
abbrev main_call4_v2 : Ref sig .tc := ⟨.hbm, 104, rfl⟩
abbrev main_call4_v3 : Ref sig .tc := ⟨.hbm, 105, rfl⟩
abbrev main_call4_cst_0 : Ref sig .tc := ⟨.hbm, 106, rfl⟩
abbrev main_call4_v4 : Ref sig .tc := ⟨.hbm, 107, rfl⟩
abbrev main_call4_v5 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_call6_v0 : Ref sig .tc := ⟨.hbm, 147, rfl⟩
abbrev main_call6_v1 : Ref sig .tc := ⟨.hbm, 148, rfl⟩
abbrev main_call6_cst : Ref sig .tc := ⟨.hbm, 149, rfl⟩
abbrev main_call6_v2 : Ref sig .tc := ⟨.hbm, 150, rfl⟩
abbrev main_call6_v3 : Ref sig .tc := ⟨.hbm, 151, rfl⟩
abbrev main_call6_cst_0 : Ref sig .tc := ⟨.hbm, 152, rfl⟩
abbrev main_call6_v4 : Ref sig .tc := ⟨.hbm, 153, rfl⟩
abbrev main_call6_v5 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_call7_v0 : Ref sig .tc := ⟨.hbm, 170, rfl⟩
abbrev main_call7_v1 : Ref sig .tc := ⟨.hbm, 171, rfl⟩
abbrev main_call7_cst : Ref sig .tc := ⟨.hbm, 172, rfl⟩
abbrev main_call7_v2 : Ref sig .tc := ⟨.hbm, 173, rfl⟩
abbrev main_call7_v3 : Ref sig .tc := ⟨.hbm, 174, rfl⟩
abbrev main_call7_cst_0 : Ref sig .tc := ⟨.hbm, 175, rfl⟩
abbrev main_call7_v4 : Ref sig .tc := ⟨.hbm, 176, rfl⟩
abbrev main_call7_v5 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_call8_v0 : Ref sig .tc := ⟨.hbm, 193, rfl⟩
abbrev main_call8_v1 : Ref sig .tc := ⟨.hbm, 194, rfl⟩
abbrev main_call8_cst : Ref sig .tc := ⟨.hbm, 195, rfl⟩
abbrev main_call8_v2 : Ref sig .tc := ⟨.hbm, 196, rfl⟩
abbrev main_call8_v3 : Ref sig .tc := ⟨.hbm, 197, rfl⟩
abbrev main_call8_cst_0 : Ref sig .tc := ⟨.hbm, 198, rfl⟩
abbrev main_call8_v4 : Ref sig .tc := ⟨.hbm, 199, rfl⟩
abbrev main_call8_v5 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩

abbrev nD : Nat := 1
abbrev τ : Topo := Topo.v7x

variable {F : FTy → Type} [FloatOps F]
-- ==== Kernel2.lean ====
abbrev S32x1024 : Shape := ⟨2, ![32, 1024]⟩
abbrev S32x128 : Shape := ⟨2, ![32, 128]⟩
abbrev S8x1024x7168 : Shape := ⟨3, ![8, 1024, 7168]⟩
abbrev S8x3584x1024 : Shape := ⟨3, ![8, 3584, 1024]⟩
abbrev S1x1024x512 : Shape := ⟨3, ![1, 1024, 512]⟩
abbrev S1x512x1024 : Shape := ⟨3, ![1, 512, 1024]⟩
abbrev S1024x512 : Shape := ⟨2, ![1024, 512]⟩
abbrev S32x512 : Shape := ⟨2, ![32, 512]⟩
abbrev S32 : Shape := ⟨1, ![32]⟩
abbrev S32x1 : Shape := ⟨2, ![32, 1]⟩
abbrev S512x1024 : Shape := ⟨2, ![512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S32x128, .f32⟩
  | .hbm, ⟨3, _⟩ => ⟨S8x1024x7168, .f32⟩
  | .hbm, ⟨4, _⟩ => ⟨S8x3584x1024, .f32⟩
  | .hbm, ⟨5, _⟩ => ⟨S8x1024x7168, .bf16⟩
  | .hbm, ⟨6, _⟩ => ⟨S8x3584x1024, .bf16⟩
  | .hbm, ⟨7, _⟩ => ⟨S32x1024, .f32⟩
  | .local _ .vmem, ⟨0, _⟩ => ⟨S32x1024, .f32⟩
  | .local _ .vmem, ⟨1, _⟩ => ⟨S32x1024, .bf16⟩
  | .local _ .vmem, ⟨2, _⟩ => ⟨S32x128, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S32x1024, .f32⟩
  | .local _ .vmem, ⟨10, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨3, ![1, 8, 7], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c6_i32 : BitVec 32 := 6#32
  let v35 : BitVec 1 := Scalar.cmpi .eq arg2 c6_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg2
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Reference2Ideal.lean ====
abbrev S32x1024 : Shape := ⟨2, ![32, 1024]⟩
abbrev S32x128 : Shape := ⟨2, ![32, 128]⟩
abbrev S8x1024x7168 : Shape := ⟨3, ![8, 1024, 7168]⟩
abbrev S8x3584x1024 : Shape := ⟨3, ![8, 3584, 1024]⟩
abbrev S_ : Shape := ⟨0, ![]⟩
abbrev S1x1024x7168 : Shape := ⟨3, ![1, 1024, 7168]⟩
abbrev S1024x7168 : Shape := ⟨2, ![1024, 7168]⟩
abbrev S32x7168 : Shape := ⟨2, ![32, 7168]⟩
abbrev S32x3584 : Shape := ⟨2, ![32, 3584]⟩
abbrev S32x1 : Shape := ⟨2, ![32, 1]⟩
abbrev S1x3584x1024 : Shape := ⟨3, ![1, 3584, 1024]⟩
abbrev S3584x1024 : Shape := ⟨2, ![3584, 1024]⟩

abbrev nBuf : Space → Nat
  | .hbm => 192
  | .vmem => 0
  | .smem => 0
  | _ => 0

abbrev hbmTy0_0 (i : Nat) : BufTy := match i % 128 with
  | 0 => ⟨S32x1024, .f32⟩
  | 1 => ⟨S32x1024, .bf16⟩
  | 2 => ⟨S32x128, .f32⟩
  | 3 => ⟨S8x1024x7168, .f32⟩
  | 4 => ⟨S8x3584x1024, .f32⟩
  | 5 => ⟨S_, .f32⟩
  | 6 => ⟨S32x1024, .f32⟩
  | 7 => ⟨S32x1024, .f32⟩
  | 8 => ⟨S1x1024x7168, .f32⟩
  | 9 => ⟨S1024x7168, .f32⟩
  | 10 => ⟨S32x7168, .f32⟩
  | 11 => ⟨S32x3584, .f32⟩
  | 12 => ⟨S32x3584, .f32⟩
  | 13 => ⟨S32x1, .f32⟩
  | 14 => ⟨S32x3584, .f32⟩
  | 15 => ⟨S32x3584, .f32⟩
  | 16 => ⟨S_, .f32⟩
  | 17 => ⟨S32x3584, .f32⟩
  | 18 => ⟨S32x3584, .f32⟩
  | 19 => ⟨S_, .f32⟩
  | 20 => ⟨S32x3584, .f32⟩
  | 21 => ⟨S32x3584, .f32⟩
  | 22 => ⟨S32x3584, .f32⟩
  | 23 => ⟨S32x3584, .f32⟩
  | 24 => ⟨S1x3584x1024, .f32⟩
  | 25 => ⟨S3584x1024, .f32⟩
  | 26 => ⟨S32x1024, .f32⟩
  | 27 => ⟨S32x1024, .f32⟩
  | 28 => ⟨S32x1024, .f32⟩
  | 29 => ⟨S32x1024, .f32⟩
  | 30 => ⟨S32x1024, .f32⟩
  | 31 => ⟨S1x1024x7168, .f32⟩
  | 32 => ⟨S1024x7168, .f32⟩
  | 33 => ⟨S32x7168, .f32⟩
  | 34 => ⟨S32x3584, .f32⟩
  | 35 => ⟨S32x3584, .f32⟩
  | 36 => ⟨S32x1, .f32⟩
  | 37 => ⟨S32x3584, .f32⟩
  | 38 => ⟨S32x3584, .f32⟩
  | 39 => ⟨S_, .f32⟩
  | 40 => ⟨S32x3584, .f32⟩
  | 41 => ⟨S32x3584, .f32⟩
  | 42 => ⟨S_, .f32⟩
  | 43 => ⟨S32x3584, .f32⟩
  | 44 => ⟨S32x3584, .f32⟩
  | 45 => ⟨S32x3584, .f32⟩
  | 46 => ⟨S32x3584, .f32⟩
  | 47 => ⟨S1x3584x1024, .f32⟩
  | 48 => ⟨S3584x1024, .f32⟩
  | 49 => ⟨S32x1024, .f32⟩
  | 50 => ⟨S32x1024, .f32⟩
  | 51 => ⟨S32x1024, .f32⟩
  | 52 => ⟨S32x1024, .f32⟩
  | 53 => ⟨S32x1024, .f32⟩
  | 54 => ⟨S1x1024x7168, .f32⟩
  | 55 => ⟨S1024x7168, .f32⟩
  | 56 => ⟨S32x7168, .f32⟩
  | 57 => ⟨S32x3584, .f32⟩
  | 58 => ⟨S32x3584, .f32⟩
  | 59 => ⟨S32x1, .f32⟩
  | 60 => ⟨S32x3584, .f32⟩
  | 61 => ⟨S32x3584, .f32⟩
  | 62 => ⟨S_, .f32⟩
  | 63 => ⟨S32x3584, .f32⟩
  | 64 => ⟨S32x3584, .f32⟩
  | 65 => ⟨S_, .f32⟩
  | 66 => ⟨S32x3584, .f32⟩
  | 67 => ⟨S32x3584, .f32⟩
  | 68 => ⟨S32x3584, .f32⟩
  | 69 => ⟨S32x3584, .f32⟩
  | 70 => ⟨S1x3584x1024, .f32⟩
  | 71 => ⟨S3584x1024, .f32⟩
  | 72 => ⟨S32x1024, .f32⟩
  | 73 => ⟨S32x1024, .f32⟩
  | 74 => ⟨S32x1024, .f32⟩
  | 75 => ⟨S32x1024, .f32⟩
  | 76 => ⟨S32x1024, .f32⟩
  | 77 => ⟨S1x1024x7168, .f32⟩
  | 78 => ⟨S1024x7168, .f32⟩
  | 79 => ⟨S32x7168, .f32⟩
  | 80 => ⟨S32x3584, .f32⟩
  | 81 => ⟨S32x3584, .f32⟩
  | 82 => ⟨S32x1, .f32⟩
  | 83 => ⟨S32x3584, .f32⟩
  | 84 => ⟨S32x3584, .f32⟩
  | 85 => ⟨S_, .f32⟩
  | 86 => ⟨S32x3584, .f32⟩
  | 87 => ⟨S32x3584, .f32⟩
  | 88 => ⟨S_, .f32⟩
  | 89 => ⟨S32x3584, .f32⟩
  | 90 => ⟨S32x3584, .f32⟩
  | 91 => ⟨S32x3584, .f32⟩
  | 92 => ⟨S32x3584, .f32⟩
  | 93 => ⟨S1x3584x1024, .f32⟩
  | 94 => ⟨S3584x1024, .f32⟩
  | 95 => ⟨S32x1024, .f32⟩
  | 96 => ⟨S32x1024, .f32⟩
  | 97 => ⟨S32x1024, .f32⟩
  | 98 => ⟨S32x1024, .f32⟩
  | 99 => ⟨S32x1024, .f32⟩
  | 100 => ⟨S1x1024x7168, .f32⟩
  | 101 => ⟨S1024x7168, .f32⟩
  | 102 => ⟨S32x7168, .f32⟩
  | 103 => ⟨S32x3584, .f32⟩
  | 104 => ⟨S32x3584, .f32⟩
  | 105 => ⟨S32x1, .f32⟩
  | 106 => ⟨S32x3584, .f32⟩
  | 107 => ⟨S32x3584, .f32⟩
  | 108 => ⟨S_, .f32⟩
  | 109 => ⟨S32x3584, .f32⟩
  | 110 => ⟨S32x3584, .f32⟩
  | 111 => ⟨S_, .f32⟩
  | 112 => ⟨S32x3584, .f32⟩
  | 113 => ⟨S32x3584, .f32⟩
  | 114 => ⟨S32x3584, .f32⟩
  | 115 => ⟨S32x3584, .f32⟩
  | 116 => ⟨S1x3584x1024, .f32⟩
  | 117 => ⟨S3584x1024, .f32⟩
  | 118 => ⟨S32x1024, .f32⟩
  | 119 => ⟨S32x1024, .f32⟩
  | 120 => ⟨S32x1024, .f32⟩
  | 121 => ⟨S32x1024, .f32⟩
  | 122 => ⟨S32x1024, .f32⟩
  | 123 => ⟨S1x1024x7168, .f32⟩
  | 124 => ⟨S1024x7168, .f32⟩
  | 125 => ⟨S32x7168, .f32⟩
  | 126 => ⟨S32x3584, .f32⟩
  | 127 => ⟨S32x3584, .f32⟩
  | _ => ⟨S32x1024, .f32⟩

abbrev hbmTy0_1 (i : Nat) : BufTy := match i % 128 with
  | 0 => ⟨S32x1, .f32⟩
  | 1 => ⟨S32x3584, .f32⟩
  | 2 => ⟨S32x3584, .f32⟩
  | 3 => ⟨S_, .f32⟩
  | 4 => ⟨S32x3584, .f32⟩
  | 5 => ⟨S32x3584, .f32⟩
  | 6 => ⟨S_, .f32⟩
  | 7 => ⟨S32x3584, .f32⟩
  | 8 => ⟨S32x3584, .f32⟩
  | 9 => ⟨S32x3584, .f32⟩
  | 10 => ⟨S32x3584, .f32⟩
  | 11 => ⟨S1x3584x1024, .f32⟩
  | 12 => ⟨S3584x1024, .f32⟩
  | 13 => ⟨S32x1024, .f32⟩
  | 14 => ⟨S32x1024, .f32⟩
  | 15 => ⟨S32x1024, .f32⟩
  | 16 => ⟨S32x1024, .f32⟩
  | 17 => ⟨S32x1024, .f32⟩
  | 18 => ⟨S1x1024x7168, .f32⟩
  | 19 => ⟨S1024x7168, .f32⟩
  | 20 => ⟨S32x7168, .f32⟩
  | 21 => ⟨S32x3584, .f32⟩
  | 22 => ⟨S32x3584, .f32⟩
  | 23 => ⟨S32x1, .f32⟩
  | 24 => ⟨S32x3584, .f32⟩
  | 25 => ⟨S32x3584, .f32⟩
  | 26 => ⟨S_, .f32⟩
  | 27 => ⟨S32x3584, .f32⟩
  | 28 => ⟨S32x3584, .f32⟩
  | 29 => ⟨S_, .f32⟩
  | 30 => ⟨S32x3584, .f32⟩
  | 31 => ⟨S32x3584, .f32⟩
  | 32 => ⟨S32x3584, .f32⟩
  | 33 => ⟨S32x3584, .f32⟩
  | 34 => ⟨S1x3584x1024, .f32⟩
  | 35 => ⟨S3584x1024, .f32⟩
  | 36 => ⟨S32x1024, .f32⟩
  | 37 => ⟨S32x1024, .f32⟩
  | 38 => ⟨S32x1024, .f32⟩
  | 39 => ⟨S32x1024, .f32⟩
  | 40 => ⟨S32x1024, .f32⟩
  | 41 => ⟨S1x1024x7168, .f32⟩
  | 42 => ⟨S1024x7168, .f32⟩
  | 43 => ⟨S32x7168, .f32⟩
  | 44 => ⟨S32x3584, .f32⟩
  | 45 => ⟨S32x3584, .f32⟩
  | 46 => ⟨S32x1, .f32⟩
  | 47 => ⟨S32x3584, .f32⟩
  | 48 => ⟨S32x3584, .f32⟩
  | 49 => ⟨S_, .f32⟩
  | 50 => ⟨S32x3584, .f32⟩
  | 51 => ⟨S32x3584, .f32⟩
  | 52 => ⟨S_, .f32⟩
  | 53 => ⟨S32x3584, .f32⟩
  | 54 => ⟨S32x3584, .f32⟩
  | 55 => ⟨S32x3584, .f32⟩
  | 56 => ⟨S32x3584, .f32⟩
  | 57 => ⟨S1x3584x1024, .f32⟩
  | 58 => ⟨S3584x1024, .f32⟩
  | 59 => ⟨S32x1024, .f32⟩
  | 60 => ⟨S32x1024, .f32⟩
  | 61 => ⟨S32x1024, .f32⟩
  | 62 => ⟨S32x1024, .f32⟩
  | 63 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_call5_v0 : Ref sig .tc := ⟨.hbm, 129, rfl⟩
abbrev main_call5_v1 : Ref sig .tc := ⟨.hbm, 130, rfl⟩
abbrev main_call5_cst : Ref sig .tc := ⟨.hbm, 131, rfl⟩
abbrev main_call5_v2 : Ref sig .tc := ⟨.hbm, 132, rfl⟩
abbrev main_call5_v3 : Ref sig .tc := ⟨.hbm, 133, rfl⟩
abbrev main_call5_cst_0 : Ref sig .tc := ⟨.hbm, 134, rfl⟩
abbrev main_call5_v4 : Ref sig .tc := ⟨.hbm, 135, rfl⟩
abbrev main_call5_v5 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_call6_v0 : Ref sig .tc := ⟨.hbm, 152, rfl⟩
abbrev main_call6_v1 : Ref sig .tc := ⟨.hbm, 153, rfl⟩
abbrev main_call6_cst : Ref sig .tc := ⟨.hbm, 154, rfl⟩
abbrev main_call6_v2 : Ref sig .tc := ⟨.hbm, 155, rfl⟩
abbrev main_call6_v3 : Ref sig .tc := ⟨.hbm, 156, rfl⟩
abbrev main_call6_cst_0 : Ref sig .tc := ⟨.hbm, 157, rfl⟩
abbrev main_call6_v4 : Ref sig .tc := ⟨.hbm, 158, rfl⟩
abbrev main_call6_v5 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_call7_v0 : Ref sig .tc := ⟨.hbm, 175, rfl⟩
abbrev main_call7_v1 : Ref sig .tc := ⟨.hbm, 176, rfl⟩
abbrev main_call7_cst : Ref sig .tc := ⟨.hbm, 177, rfl⟩
abbrev main_call7_v2 : Ref sig .tc := ⟨.hbm, 178, rfl⟩
abbrev main_call7_v3 : Ref sig .tc := ⟨.hbm, 179, rfl⟩
abbrev main_call7_cst_0 : Ref sig .tc := ⟨.hbm, 180, rfl⟩
abbrev main_call7_v4 : Ref sig .tc := ⟨.hbm, 181, rfl⟩
abbrev main_call7_v5 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S1024x1024, .bf16⟩
  | .hbm, ⟨8, _⟩ => ⟨S1x1024, .f32⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1408x1024, .bf16⟩
  | .local _ .vmem, ⟨11, _⟩ => ⟨S1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1024x512 : Shape := ⟨2, ![1024, 512]⟩
abbrev S1024x1024 : Shape := ⟨2, ![1024, 1024]⟩

abbrev nBuf : Space → Nat
  | .hbm => 54
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2048, .i32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2048, .f32⟩
  | .hbm, ⟨18, _⟩ => ⟨S2048x1, .f32⟩
  | .hbm, ⟨19, _⟩ => ⟨S1x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x48, .f32⟩
  | .hbm, ⟨27, _⟩ => ⟨S_, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S2048x64, .f32⟩
  | .hbm, ⟨32, _⟩ => ⟨S2048x8, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S1x1024, .f32⟩
  | .hbm, ⟨39, _⟩ => ⟨S1024x3072, .bf16⟩
  | .hbm, ⟨40, _⟩ => ⟨S1x64, .f32⟩
  | .hbm, ⟨41, _⟩ => ⟨S1x1x1x64, .f32⟩
  | .hbm, ⟨42, _⟩ => ⟨S1x1x2x64, .f32⟩
  | .hbm, ⟨43, _⟩ => ⟨S1x128, .f32⟩
  | .hbm, ⟨44, _⟩ => ⟨S1x64, .f32⟩
  | .hbm, ⟨45, _⟩ => ⟨S1x1x1x64, .f32⟩
  | .hbm, ⟨46, _⟩ => ⟨S1x1x2x64, .f32⟩
  | .hbm, ⟨47, _⟩ => ⟨S1x128, .f32⟩
  | .hbm, ⟨48, _⟩ => ⟨S16384x512, .bf16⟩
  | .hbm, ⟨49, _⟩ => ⟨S16384x1024, .f32⟩
  | .hbm, ⟨50, _⟩ => ⟨S16384x512, .bf16⟩
  | .hbm, ⟨51, _⟩ => ⟨S16384x1024, .f32⟩
  | .hbm, ⟨52, _⟩ => ⟨S16384x1024, .bf16⟩
  | .hbm, ⟨53, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x512, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev main_v37_3 : Ref sig .tc := ⟨.hbm, 51, rfl⟩
abbrev main_v37_4 : Ref sig .tc := ⟨.hbm, 52, rfl⟩
abbrev main_v37_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x512 : Shape := ⟨2, ![16384, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩

abbrev nBuf : Space → Nat
  | .hbm => 155
  | .vmem => 0
  | .smem => 0
  | _ => 0

abbrev hbmTy0_0 (i : Nat) : BufTy := match i % 128 with
  | 0 => ⟨S16384x1024, .f32⟩
  | 1 => ⟨S1024, .f32⟩
  | 2 => ⟨S1024x3072, .f32⟩
  | 3 => ⟨S64, .f32⟩
  | 4 => ⟨S64, .f32⟩
  | 5 => ⟨S2048, .i32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x3072, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S8x2048x8x64, .f32⟩
  | 30 => ⟨S8x2048x8x64, .f32⟩
  | 31 => ⟨S_, .f32⟩
  | 32 => ⟨S8x2048x8, .f32⟩
  | 33 => ⟨S8x2048x8x1, .f32⟩
  | 34 => ⟨S_, .f32⟩
  | 35 => ⟨S8x2048x8x1, .f32⟩
  | 36 => ⟨S8x2048x8x1, .f32⟩
  | 37 => ⟨S_, .f32⟩
  | 38 => ⟨S8x2048x8x1, .f32⟩
  | 39 => ⟨S8x2048x8x1, .f32⟩
  | 40 => ⟨S8x2048x8x1, .f32⟩
  | 41 => ⟨S8x2048x8x64, .f32⟩
  | 42 => ⟨S8x2048x8x64, .f32⟩
  | 43 => ⟨S1x1x1x64, .f32⟩
  | 44 => ⟨S8x2048x8x64, .f32⟩
  | 45 => ⟨S8x2048x8x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S2048, .f32⟩
  | 58 => ⟨S2048x1, .f32⟩
  | 59 => ⟨S1x8, .f32⟩
  | 60 => ⟨S2048x8, .f32⟩
  | 61 => ⟨S2048x8, .f32⟩
  | 62 => ⟨S2048x8, .f32⟩
  | 63 => ⟨S2048x8, .f32⟩
  | 64 => ⟨S2048x1x8, .f32⟩
  | 65 => ⟨S2048x8, .f32⟩
  | 66 => ⟨S2048x1x8, .f32⟩
  | 67 => ⟨S8x2048x8x8, .f32⟩
  | 68 => ⟨S8x2048x8x8, .f32⟩
  | 69 => ⟨S1x2048x1x8, .f32⟩
  | 70 => ⟨S8x2048x8x8, .f32⟩
  | 71 => ⟨S8x2048x8x8, .f32⟩
  | 72 => ⟨S1x2048x1x8, .f32⟩
  | 73 => ⟨S8x2048x8x8, .f32⟩
  | 74 => ⟨S8x2048x8x8, .f32⟩
  | 75 => ⟨S8x2048x8x8, .f32⟩
  | 76 => ⟨S1x2048x1x8, .f32⟩
  | 77 => ⟨S8x2048x8x8, .f32⟩
  | 78 => ⟨S8x2048x8x8, .f32⟩
  | 79 => ⟨S1x2048x1x8, .f32⟩
  | 80 => ⟨S8x2048x8x8, .f32⟩
  | 81 => ⟨S8x2048x8x8, .f32⟩
  | 82 => ⟨S8x2048x8x8, .f32⟩
  | 83 => ⟨S8x2048x8x48, .f32⟩
  | 84 => ⟨S8x2048x8x64, .f32⟩
  | 85 => ⟨S16384x512, .f32⟩
  | 86 => ⟨S8x2048x8x64, .f32⟩
  | 87 => ⟨S8x2048x8x64, .f32⟩
  | 88 => ⟨S_, .f32⟩
  | 89 => ⟨S8x2048x8, .f32⟩
  | 90 => ⟨S8x2048x8x1, .f32⟩
  | 91 => ⟨S_, .f32⟩
  | 92 => ⟨S8x2048x8x1, .f32⟩
  | 93 => ⟨S8x2048x8x1, .f32⟩
  | 94 => ⟨S_, .f32⟩
  | 95 => ⟨S8x2048x8x1, .f32⟩
  | 96 => ⟨S8x2048x8x1, .f32⟩
  | 97 => ⟨S8x2048x8x1, .f32⟩
  | 98 => ⟨S8x2048x8x64, .f32⟩
  | 99 => ⟨S8x2048x8x64, .f32⟩
  | 100 => ⟨S1x1x1x64, .f32⟩
  | 101 => ⟨S8x2048x8x64, .f32⟩
  | 102 => ⟨S8x2048x8x64, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S2048, .f32⟩
  | 115 => ⟨S2048x1, .f32⟩
  | 116 => ⟨S1x8, .f32⟩
  | 117 => ⟨S2048x8, .f32⟩
  | 118 => ⟨S2048x8, .f32⟩
  | 119 => ⟨S2048x8, .f32⟩
  | 120 => ⟨S2048x8, .f32⟩
  | 121 => ⟨S2048x1x8, .f32⟩
  | 122 => ⟨S2048x8, .f32⟩
  | 123 => ⟨S2048x1x8, .f32⟩
  | 124 => ⟨S8x2048x8x8, .f32⟩
  | 125 => ⟨S8x2048x8x8, .f32⟩
  | 126 => ⟨S1x2048x1x8, .f32⟩
  | 127 => ⟨S8x2048x8x8, .f32⟩
  | _ => ⟨S16384x1024, .f32⟩

abbrev hbmTy0_1 (i : Nat) : BufTy := match i % 128 with
  | 0 => ⟨S8x2048x8x8, .f32⟩
  | 1 => ⟨S1x2048x1x8, .f32⟩
  | 2 => ⟨S8x2048x8x8, .f32⟩
  | 3 => ⟨S8x2048x8x8, .f32⟩
  | 4 => ⟨S8x2048x8x8, .f32⟩
  | 5 => ⟨S1x2048x1x8, .f32⟩
  | 6 => ⟨S8x2048x8x8, .f32⟩
  | 7 => ⟨S8x2048x8x8, .f32⟩
  | 8 => ⟨S1x2048x1x8, .f32⟩
  | 9 => ⟨S8x2048x8x8, .f32⟩
  | 10 => ⟨S8x2048x8x8, .f32⟩
  | 11 => ⟨S8x2048x8x8, .f32⟩
  | 12 => ⟨S8x2048x8x48, .f32⟩
  | 13 => ⟨S8x2048x8x64, .f32⟩
  | 14 => ⟨S16384x512, .f32⟩
  | 15 => ⟨S16384x1024, .f32⟩
  | 16 => ⟨S16384x1024, .f32⟩
  | 17 => ⟨S_, .f32⟩
  | 18 => ⟨S16384x512, .f32⟩
  | 19 => ⟨S16384x512, .f32⟩
  | 20 => ⟨S16384x512, .bf16⟩
  | 21 => ⟨S_, .f32⟩
  | 22 => ⟨S16384x512, .f32⟩
  | 23 => ⟨S16384x512, .f32⟩
  | 24 => ⟨S16384x512, .bf16⟩
  | 25 => ⟨S16384x1024, .bf16⟩
  | 26 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_14 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_15 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x2608 : Shape := ⟨2, ![1024, 2608]⟩
abbrev S64 : Shape := ⟨1, ![64]⟩
abbrev S3x64 : Shape := ⟨2, ![3, 64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S1024x2688 : Shape := ⟨2, ![1024, 2688]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x3x1x64 : Shape := ⟨4, ![1, 3, 1, 64]⟩
abbrev S1x3x2x64 : Shape := ⟨4, ![1, 3, 2, 64]⟩
abbrev S3x128 : Shape := ⟨2, ![3, 128]⟩
abbrev S16384x512 : Shape := ⟨2, ![16384, 512]⟩
abbrev S16384x128 : Shape := ⟨2, ![16384, 128]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1024x512 : Shape := ⟨2, ![1024, 512]⟩
abbrev S512x256 : Shape := ⟨2, ![512, 256]⟩
abbrev S1024x128 : Shape := ⟨2, ![1024, 128]⟩

abbrev nBuf : Space → Nat
  | .hbm => 57
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S64, .f32⟩
  | .hbm, ⟨4, _⟩ => ⟨S3x64, .f32⟩
  | .hbm, ⟨5, _⟩ => ⟨S2048, .i32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2048, .f32⟩
  | .hbm, ⟨18, _⟩ => ⟨S2048x1, .f32⟩
  | .hbm, ⟨19, _⟩ => ⟨S1x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x48, .f32⟩
  | .hbm, ⟨27, _⟩ => ⟨S_, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S2048x64, .f32⟩
  | .hbm, ⟨32, _⟩ => ⟨S2048x8, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .i32⟩
  | .hbm, ⟨39, _⟩ => ⟨S_, .f32⟩
  | .hbm, ⟨40, _⟩ => ⟨S1024x2688, .f32⟩
  | .hbm, ⟨41, _⟩ => ⟨S1024x2688, .bf16⟩
  | .hbm, ⟨42, _⟩ => ⟨S1x1024, .f32⟩
  | .hbm, ⟨43, _⟩ => ⟨S1x64, .f32⟩
  | .hbm, ⟨44, _⟩ => ⟨S1x1x1x64, .f32⟩
  | .hbm, ⟨45, _⟩ => ⟨S1x1x2x64, .f32⟩
  | .hbm, ⟨46, _⟩ => ⟨S1x128, .f32⟩
  | .hbm, ⟨47, _⟩ => ⟨S1x3x1x64, .f32⟩
  | .hbm, ⟨48, _⟩ => ⟨S1x3x2x64, .f32⟩
  | .hbm, ⟨49, _⟩ => ⟨S3x128, .f32⟩
  | .hbm, ⟨50, _⟩ => ⟨S16384x1024, .bf16⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x128, .f32⟩
  | .hbm, ⟨55, _⟩ => ⟨S16384x512, .bf16⟩
  | .hbm, ⟨56, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S1x128, .f32⟩
  | .local _ .vmem, ⟨5, _⟩ => ⟨S3x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev main_v37_4 : Ref sig .tc := ⟨.hbm, 54, rfl⟩
abbrev main_v37_5 : Ref sig .tc := ⟨.hbm, 55, rfl⟩
abbrev main_v37_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S1024 : Shape := ⟨1, ![1024]⟩
abbrev S1024x2608 : Shape := ⟨2, ![1024, 2608]⟩
abbrev S64 : Shape := ⟨1, ![64]⟩
abbrev S3x64 : Shape := ⟨2, ![3, 64]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2608 : Shape := ⟨2, ![16384, 2608]⟩
abbrev S16384x256 : Shape := ⟨2, ![16384, 256]⟩
abbrev S16384x48 : Shape := ⟨2, ![16384, 48]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x16x8 : Shape := ⟨4, ![8, 2048, 16, 8]⟩
abbrev S1x2048x1x8 : Shape := ⟨4, ![1, 2048, 1, 8]⟩
abbrev S8x2048x16x48 : Shape := ⟨4, ![8, 2048, 16, 48]⟩
abbrev S8x2048x4x64 : Shape := ⟨4, ![8, 2048, 4, 64]⟩
abbrev S1x64 : Shape := ⟨2, ![1, 64]⟩
abbrev S8x2048x4 : Shape := ⟨3, ![8, 2048, 4]⟩
abbrev S8x2048x4x1 : Shape := ⟨4, ![8, 2048, 4, 1]⟩
abbrev S8x2048x4x8 : Shape := ⟨4, ![8, 2048, 4, 8]⟩
abbrev S8x2048x4x48 : Shape := ⟨4, ![8, 2048, 4, 48]⟩
abbrev S16384x512 : Shape := ⟨2, ![16384, 512]⟩
abbrev S16384x128 : Shape := ⟨2, ![16384, 128]⟩

abbrev nBuf : Space → Nat
  | .hbm => 285
  | .vmem => 0
  | .smem => 0
  | _ => 0

abbrev hbmTy0_0 (i : Nat) : BufTy := match i % 128 with
  | 0 => ⟨S16384x1024, .f32⟩
  | 1 => ⟨S1024, .f32⟩
  | 2 => ⟨S1024x2608, .f32⟩
  | 3 => ⟨S64, .f32⟩
  | 4 => ⟨S3x64, .f32⟩
  | 5 => ⟨S2048, .i32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x2608, .f32⟩
  | 23 => ⟨S16384x1024, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S16384x48, .f32⟩
  | 31 => ⟨S8x2048x16x64, .f32⟩
  | 32 => ⟨S8x2048x16x64, .f32⟩
  | 33 => ⟨S_, .f32⟩
  | 34 => ⟨S8x2048x16, .f32⟩
  | 35 => ⟨S8x2048x16x1, .f32⟩
  | 36 => ⟨S_, .f32⟩
  | 37 => ⟨S8x2048x16x1, .f32⟩
  | 38 => ⟨S8x2048x16x1, .f32⟩
  | 39 => ⟨S_, .f32⟩
  | 40 => ⟨S8x2048x16x1, .f32⟩
  | 41 => ⟨S8x2048x16x1, .f32⟩
  | 42 => ⟨S8x2048x16x1, .f32⟩
  | 43 => ⟨S8x2048x16x64, .f32⟩
  | 44 => ⟨S8x2048x16x64, .f32⟩
  | 45 => ⟨S1x1x1x64, .f32⟩
  | 46 => ⟨S8x2048x16x64, .f32⟩
  | 47 => ⟨S8x2048x16x64, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S2048, .f32⟩
  | 60 => ⟨S2048x1, .f32⟩
  | 61 => ⟨S1x8, .f32⟩
  | 62 => ⟨S2048x8, .f32⟩
  | 63 => ⟨S2048x8, .f32⟩
  | 64 => ⟨S2048x8, .f32⟩
  | 65 => ⟨S2048x8, .f32⟩
  | 66 => ⟨S2048x1x8, .f32⟩
  | 67 => ⟨S2048x8, .f32⟩
  | 68 => ⟨S2048x1x8, .f32⟩
  | 69 => ⟨S8x2048x16x8, .f32⟩
  | 70 => ⟨S8x2048x16x8, .f32⟩
  | 71 => ⟨S1x2048x1x8, .f32⟩
  | 72 => ⟨S8x2048x16x8, .f32⟩
  | 73 => ⟨S8x2048x16x8, .f32⟩
  | 74 => ⟨S1x2048x1x8, .f32⟩
  | 75 => ⟨S8x2048x16x8, .f32⟩
  | 76 => ⟨S8x2048x16x8, .f32⟩
  | 77 => ⟨S8x2048x16x8, .f32⟩
  | 78 => ⟨S1x2048x1x8, .f32⟩
  | 79 => ⟨S8x2048x16x8, .f32⟩
  | 80 => ⟨S8x2048x16x8, .f32⟩
  | 81 => ⟨S1x2048x1x8, .f32⟩
  | 82 => ⟨S8x2048x16x8, .f32⟩
  | 83 => ⟨S8x2048x16x8, .f32⟩
  | 84 => ⟨S8x2048x16x8, .f32⟩
  | 85 => ⟨S8x2048x16x48, .f32⟩
  | 86 => ⟨S8x2048x16x64, .f32⟩
  | 87 => ⟨S16384x1024, .f32⟩
  | 88 => ⟨S8x2048x4x64, .f32⟩
  | 89 => ⟨S1x64, .f32⟩
  | 90 => ⟨S64, .f32⟩
  | 91 => ⟨S8x2048x4x64, .f32⟩
  | 92 => ⟨S_, .f32⟩
  | 93 => ⟨S8x2048x4, .f32⟩
  | 94 => ⟨S8x2048x4x1, .f32⟩
  | 95 => ⟨S_, .f32⟩
  | 96 => ⟨S8x2048x4x1, .f32⟩
  | 97 => ⟨S8x2048x4x1, .f32⟩
  | 98 => ⟨S_, .f32⟩
  | 99 => ⟨S8x2048x4x1, .f32⟩
  | 100 => ⟨S8x2048x4x1, .f32⟩
  | 101 => ⟨S8x2048x4x1, .f32⟩
  | 102 => ⟨S8x2048x4x64, .f32⟩
  | 103 => ⟨S8x2048x4x64, .f32⟩
  | 104 => ⟨S1x1x1x64, .f32⟩
  | 105 => ⟨S8x2048x4x64, .f32⟩
  | 106 => ⟨S8x2048x4x64, .f32⟩
  | 107 => ⟨S8, .f32⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S2048, .f32⟩
  | 119 => ⟨S2048x1, .f32⟩
  | 120 => ⟨S1x8, .f32⟩
  | 121 => ⟨S2048x8, .f32⟩
  | 122 => ⟨S2048x8, .f32⟩
  | 123 => ⟨S2048x8, .f32⟩
  | 124 => ⟨S2048x8, .f32⟩
  | 125 => ⟨S2048x1x8, .f32⟩
  | 126 => ⟨S2048x8, .f32⟩
  | 127 => ⟨S2048x1x8, .f32⟩
  | _ => ⟨S16384x1024, .f32⟩

abbrev hbmTy0_1 (i : Nat) : BufTy := match i % 128 with
  | 0 => ⟨S8x2048x4x8, .f32⟩
  | 1 => ⟨S8x2048x4x8, .f32⟩
  | 2 => ⟨S1x2048x1x8, .f32⟩
  | 3 => ⟨S8x2048x4x8, .f32⟩
  | 4 => ⟨S8x2048x4x8, .f32⟩
  | 5 => ⟨S1x2048x1x8, .f32⟩
  | 6 => ⟨S8x2048x4x8, .f32⟩
  | 7 => ⟨S8x2048x4x8, .f32⟩
  | 8 => ⟨S8x2048x4x8, .f32⟩
  | 9 => ⟨S1x2048x1x8, .f32⟩
  | 10 => ⟨S8x2048x4x8, .f32⟩
  | 11 => ⟨S8x2048x4x8, .f32⟩
  | 12 => ⟨S1x2048x1x8, .f32⟩
  | 13 => ⟨S8x2048x4x8, .f32⟩
  | 14 => ⟨S8x2048x4x8, .f32⟩
  | 15 => ⟨S8x2048x4x8, .f32⟩
  | 16 => ⟨S8x2048x4x48, .f32⟩
  | 17 => ⟨S8x2048x4x64, .f32⟩
  | 18 => ⟨S16384x256, .f32⟩
  | 19 => ⟨S16384x512, .f32⟩
  | 20 => ⟨S8x2048x4x64, .f32⟩
  | 21 => ⟨S1x64, .f32⟩
  | 22 => ⟨S64, .f32⟩
  | 23 => ⟨S8x2048x4x64, .f32⟩
  | 24 => ⟨S_, .f32⟩
  | 25 => ⟨S8x2048x4, .f32⟩
  | 26 => ⟨S8x2048x4x1, .f32⟩
  | 27 => ⟨S_, .f32⟩
  | 28 => ⟨S8x2048x4x1, .f32⟩
  | 29 => ⟨S8x2048x4x1, .f32⟩
  | 30 => ⟨S_, .f32⟩
  | 31 => ⟨S8x2048x4x1, .f32⟩
  | 32 => ⟨S8x2048x4x1, .f32⟩
  | 33 => ⟨S8x2048x4x1, .f32⟩
  | 34 => ⟨S8x2048x4x64, .f32⟩
  | 35 => ⟨S8x2048x4x64, .f32⟩
  | 36 => ⟨S1x1x1x64, .f32⟩
  | 37 => ⟨S8x2048x4x64, .f32⟩
  | 38 => ⟨S8x2048x4x64, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S2048, .f32⟩
  | 51 => ⟨S2048x1, .f32⟩
  | 52 => ⟨S1x8, .f32⟩
  | 53 => ⟨S2048x8, .f32⟩
  | 54 => ⟨S2048x8, .f32⟩
  | 55 => ⟨S2048x8, .f32⟩
  | 56 => ⟨S2048x8, .f32⟩
  | 57 => ⟨S2048x1x8, .f32⟩
  | 58 => ⟨S2048x8, .f32⟩
  | 59 => ⟨S2048x1x8, .f32⟩
  | 60 => ⟨S8x2048x4x8, .f32⟩
  | 61 => ⟨S8x2048x4x8, .f32⟩
  | 62 => ⟨S1x2048x1x8, .f32⟩
  | 63 => ⟨S8x2048x4x8, .f32⟩
  | 64 => ⟨S8x2048x4x8, .f32⟩
  | 65 => ⟨S1x2048x1x8, .f32⟩
  | 66 => ⟨S8x2048x4x8, .f32⟩
  | 67 => ⟨S8x2048x4x8, .f32⟩
  | 68 => ⟨S8x2048x4x8, .f32⟩
  | 69 => ⟨S1x2048x1x8, .f32⟩
  | 70 => ⟨S8x2048x4x8, .f32⟩
  | 71 => ⟨S8x2048x4x8, .f32⟩
  | 72 => ⟨S1x2048x1x8, .f32⟩
  | 73 => ⟨S8x2048x4x8, .f32⟩
  | 74 => ⟨S8x2048x4x8, .f32⟩
  | 75 => ⟨S8x2048x4x8, .f32⟩
  | 76 => ⟨S8x2048x4x48, .f32⟩
  | 77 => ⟨S8x2048x4x64, .f32⟩
  | 78 => ⟨S16384x256, .f32⟩
  | 79 => ⟨S16384x512, .f32⟩
  | 80 => ⟨S8x2048x4x64, .f32⟩
  | 81 => ⟨S1x64, .f32⟩
  | 82 => ⟨S64, .f32⟩
  | 83 => ⟨S8x2048x4x64, .f32⟩
  | 84 => ⟨S_, .f32⟩
  | 85 => ⟨S8x2048x4, .f32⟩
  | 86 => ⟨S8x2048x4x1, .f32⟩
  | 87 => ⟨S_, .f32⟩
  | 88 => ⟨S8x2048x4x1, .f32⟩
  | 89 => ⟨S8x2048x4x1, .f32⟩
  | 90 => ⟨S_, .f32⟩
  | 91 => ⟨S8x2048x4x1, .f32⟩
  | 92 => ⟨S8x2048x4x1, .f32⟩
  | 93 => ⟨S8x2048x4x1, .f32⟩
  | 94 => ⟨S8x2048x4x64, .f32⟩
  | 95 => ⟨S8x2048x4x64, .f32⟩
  | 96 => ⟨S1x1x1x64, .f32⟩
  | 97 => ⟨S8x2048x4x64, .f32⟩
  | 98 => ⟨S8x2048x4x64, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S2048, .f32⟩
  | 111 => ⟨S2048x1, .f32⟩
  | 112 => ⟨S1x8, .f32⟩
  | 113 => ⟨S2048x8, .f32⟩
  | 114 => ⟨S2048x8, .f32⟩
  | 115 => ⟨S2048x8, .f32⟩
  | 116 => ⟨S2048x8, .f32⟩
  | 117 => ⟨S2048x1x8, .f32⟩
  | 118 => ⟨S2048x8, .f32⟩
  | 119 => ⟨S2048x1x8, .f32⟩
  | 120 => ⟨S8x2048x4x8, .f32⟩
  | 121 => ⟨S8x2048x4x8, .f32⟩
  | 122 => ⟨S1x2048x1x8, .f32⟩
  | 123 => ⟨S8x2048x4x8, .f32⟩
  | 124 => ⟨S8x2048x4x8, .f32⟩
  | 125 => ⟨S1x2048x1x8, .f32⟩
  | 126 => ⟨S8x2048x4x8, .f32⟩
  | 127 => ⟨S8x2048x4x8, .f32⟩
  | _ => ⟨S16384x1024, .f32⟩

abbrev hbmTy0_2 (i : Nat) : BufTy := match i % 128 with
  | 0 => ⟨S8x2048x4x8, .f32⟩
  | 1 => ⟨S1x2048x1x8, .f32⟩
  | 2 => ⟨S8x2048x4x8, .f32⟩
  | 3 => ⟨S8x2048x4x8, .f32⟩
  | 4 => ⟨S1x2048x1x8, .f32⟩
  | 5 => ⟨S8x2048x4x8, .f32⟩
  | 6 => ⟨S8x2048x4x8, .f32⟩
  | 7 => ⟨S8x2048x4x8, .f32⟩
  | 8 => ⟨S8x2048x4x48, .f32⟩
  | 9 => ⟨S8x2048x4x64, .f32⟩
  | 10 => ⟨S16384x256, .f32⟩
  | 11 => ⟨S16384x512, .f32⟩
  | 12 => ⟨S_, .i32⟩
  | 13 => ⟨S_, .f32⟩
  | 14 => ⟨S16384x128, .f32⟩
  | 15 => ⟨S16384x128, .f32⟩
  | 16 => ⟨S16384x128, .f32⟩
  | 17 => ⟨S_, .f32⟩
  | 18 => ⟨S16384x128, .f32⟩
  | 19 => ⟨S16384x128, .f32⟩
  | 20 => ⟨S_, .f32⟩
  | 21 => ⟨S16384x128, .f32⟩
  | 22 => ⟨S16384x128, .f32⟩
  | 23 => ⟨S_, .f32⟩
  | 24 => ⟨S16384x1024, .f32⟩
  | 25 => ⟨S16384x1024, .f32⟩
  | 26 => ⟨S16384x1024, .bf16⟩
  | 27 => ⟨S16384x512, .bf16⟩
  | 28 => ⟨S16384x512, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_cst_10 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_11 : Ref sig .tc := ⟨.hbm, 109, rfl⟩
abbrev main_v92 : Ref sig .tc := ⟨.hbm, 110, rfl⟩
abbrev main_v93 : Ref sig .tc := ⟨.hbm, 111, rfl⟩
abbrev main_cst_12 : Ref sig .tc := ⟨.hbm, 112, rfl⟩
abbrev main_v94 : Ref sig .tc := ⟨.hbm, 113, rfl⟩
abbrev main_v95 : Ref sig .tc := ⟨.hbm, 114, rfl⟩
abbrev main_cst_13 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_14 : Ref sig .tc := ⟨.hbm, 152, rfl⟩
abbrev main_v132 : Ref sig .tc := ⟨.hbm, 153, rfl⟩
abbrev main_v133 : Ref sig .tc := ⟨.hbm, 154, rfl⟩
abbrev main_cst_15 : Ref sig .tc := ⟨.hbm, 155, rfl⟩
abbrev main_v134 : Ref sig .tc := ⟨.hbm, 156, rfl⟩
abbrev main_v135 : Ref sig .tc := ⟨.hbm, 157, rfl⟩
abbrev main_cst_16 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_cst_17 : Ref sig .tc := ⟨.hbm, 169, rfl⟩
abbrev main_v146 : Ref sig .tc := ⟨.hbm, 170, rfl⟩
abbrev main_v147 : Ref sig .tc := ⟨.hbm, 171, rfl⟩
abbrev main_cst_18 : Ref sig .tc := ⟨.hbm, 172, rfl⟩
abbrev main_v148 : Ref sig .tc := ⟨.hbm, 173, rfl⟩
abbrev main_v149 : Ref sig .tc := ⟨.hbm, 174, rfl⟩
abbrev main_cst_19 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_cst_20 : Ref sig .tc := ⟨.hbm, 212, rfl⟩
abbrev main_v186 : Ref sig .tc := ⟨.hbm, 213, rfl⟩
abbrev main_v187 : Ref sig .tc := ⟨.hbm, 214, rfl⟩
abbrev main_cst_21 : Ref sig .tc := ⟨.hbm, 215, rfl⟩
abbrev main_v188 : Ref sig .tc := ⟨.hbm, 216, rfl⟩
abbrev main_v189 : Ref sig .tc := ⟨.hbm, 217, rfl⟩
abbrev main_cst_22 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_cst_23 : Ref sig .tc := ⟨.hbm, 229, rfl⟩
abbrev main_v200 : Ref sig .tc := ⟨.hbm, 230, rfl⟩
abbrev main_v201 : Ref sig .tc := ⟨.hbm, 231, rfl⟩
abbrev main_cst_24 : Ref sig .tc := ⟨.hbm, 232, rfl⟩
abbrev main_v202 : Ref sig .tc := ⟨.hbm, 233, rfl⟩
abbrev main_v203 : Ref sig .tc := ⟨.hbm, 234, rfl⟩
abbrev main_cst_25 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_c : Ref sig .tc := ⟨.hbm, 268, rfl⟩
abbrev main_call0_v0 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_cst_26 : Ref sig .tc := ⟨.hbm, 273, rfl⟩
abbrev main_v239 : Ref sig .tc := ⟨.hbm, 274, rfl⟩
abbrev main_v240 : Ref sig .tc := ⟨.hbm, 275, rfl⟩
abbrev main_cst_27 : Ref sig .tc := ⟨.hbm, 276, rfl⟩
abbrev main_v241 : Ref sig .tc := ⟨.hbm, 277, rfl⟩
abbrev main_v242 : Ref sig .tc := ⟨.hbm, 278, rfl⟩
abbrev main_cst_28 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩

abbrev nD : Nat := 1
abbrev τ : Topo := Topo.v7x

variable {F : FTy → Type} [FloatOps F]
-- ==== Kernel6.lean ====
abbrev S32x1024 : Shape := ⟨2, ![32, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S32 : Shape := ⟨1, ![32]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S32x128 : Shape := ⟨2, ![32, 128]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S32x512 : Shape := ⟨2, ![32, 512]⟩
abbrev S128x128 : Shape := ⟨2, ![128, 128]⟩
abbrev S1024x512 : Shape := ⟨2, ![1024, 512]⟩
abbrev S1024x1024 : Shape := ⟨2, ![1024, 1024]⟩

abbrev nBuf : Space → Nat
  | .hbm => 55
  | .vmem => 14
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S_, .i32⟩
  | .hbm, ⟨6, _⟩ => ⟨S32, .i32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S32, .f32⟩
  | .hbm, ⟨19, _⟩ => ⟨S32x1, .f32⟩
  | .hbm, ⟨20, _⟩ => ⟨S1x8, .f32⟩
  | .hbm, ⟨21, _⟩ => ⟨S32x8, .f32⟩
  | .hbm, ⟨22, _⟩ => ⟨S32x8, .f32⟩
  | .hbm, ⟨23, _⟩ => ⟨S32x8, .f32⟩
  | .hbm, ⟨24, _⟩ => ⟨S32x8, .f32⟩
  | .hbm, ⟨25, _⟩ => ⟨S32x8, .f32⟩
  | .hbm, ⟨26, _⟩ => ⟨S_, .f32⟩
  | .hbm, ⟨27, _⟩ => ⟨S32x48, .f32⟩
  | .hbm, ⟨28, _⟩ => ⟨S_, .f32⟩
  | .hbm, ⟨29, _⟩ => ⟨S32x8, .f32⟩
  | .hbm, ⟨30, _⟩ => ⟨S_, .f32⟩
  | .hbm, ⟨31, _⟩ => ⟨S32x48, .f32⟩
  | .hbm, ⟨32, _⟩ => ⟨S32x64, .f32⟩
  | .hbm, ⟨33, _⟩ => ⟨S32x8, .f32⟩
  | .hbm, ⟨34, _⟩ => ⟨S32x64, .f32⟩
  | .hbm, ⟨35, _⟩ => ⟨S32x64, .f32⟩
  | .hbm, ⟨36, _⟩ => ⟨S32x128, .f32⟩
  | .hbm, ⟨37, _⟩ => ⟨S32x128, .f32⟩
  | .hbm, ⟨38, _⟩ => ⟨S32x128, .f32⟩
  | .hbm, ⟨39, _⟩ => ⟨S1x1024, .f32⟩
  | .hbm, ⟨40, _⟩ => ⟨S1024x3072, .bf16⟩
  | .hbm, ⟨41, _⟩ => ⟨S1x64, .f32⟩
  | .hbm, ⟨42, _⟩ => ⟨S1x1x1x64, .f32⟩
  | .hbm, ⟨43, _⟩ => ⟨S1x1x2x64, .f32⟩
  | .hbm, ⟨44, _⟩ => ⟨S1x128, .f32⟩
  | .hbm, ⟨45, _⟩ => ⟨S1x64, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S32x512, .bf16⟩
  | .hbm, ⟨50, _⟩ => ⟨S32x1024, .f32⟩
  | .hbm, ⟨51, _⟩ => ⟨S32x512, .bf16⟩
  | .hbm, ⟨52, _⟩ => ⟨S32x1024, .f32⟩
  | .hbm, ⟨53, _⟩ => ⟨S32x1024, .bf16⟩
  | .hbm, ⟨54, _⟩ => ⟨S32x1024, .bf16⟩
  | .local _ .vmem, ⟨0, _⟩ => ⟨S32x1024, .f32⟩
  | .local _ .vmem, ⟨1, _⟩ => ⟨S1x1024, .f32⟩
  | .local _ .vmem, ⟨2, _⟩ => ⟨S1024x3072, .bf16⟩
  | .local _ .vmem, ⟨3, _⟩ => ⟨S1x128, .f32⟩
  | .local _ .vmem, ⟨4, _⟩ => ⟨S1x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x512, .bf16⟩
  | .local _ .vmem, ⟨9, _⟩ => ⟨S32x1024, .f32⟩
  | .local _ .vmem, ⟨10, _⟩ => ⟨S32x512, .bf16⟩
  | .local _ .vmem, ⟨11, _⟩ => ⟨S32x1024, .f32⟩
  | .local _ .vmem, ⟨12, _⟩ => ⟨S32x1024, .bf16⟩
  | .local _ .vmem, ⟨13, _⟩ => ⟨S32x1024, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev main_v37_4 : Ref sig .tc := ⟨.hbm, 53, rfl⟩
abbrev main_v37_5 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference6Ideal.lean ====
abbrev S32x1024 : Shape := ⟨2, ![32, 1024]⟩
abbrev S1024 : Shape := ⟨1, ![1024]⟩
abbrev S1024x3072 : Shape := ⟨2, ![1024, 3072]⟩
abbrev S64 : Shape := ⟨1, ![64]⟩
abbrev S1 : Shape := ⟨1, ![1]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3072 : Shape := ⟨2, ![32, 3072]⟩
abbrev S32x512 : Shape := ⟨2, ![32, 512]⟩
abbrev S32x1x8x64 : Shape := ⟨4, ![32, 1, 8, 64]⟩
abbrev S32x1x8 : Shape := ⟨3, ![32, 1, 8]⟩
abbrev S32x1x8x1 : Shape := ⟨4, ![32, 1, 8, 1]⟩
abbrev S1x1x1x64 : Shape := ⟨4, ![1, 1, 1, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S32x1x8x8 : Shape := ⟨4, ![32, 1, 8, 8]⟩
abbrev S1x1x1x8 : Shape := ⟨4, ![1, 1, 1, 8]⟩
abbrev S32x1x8x48 : Shape := ⟨4, ![32, 1, 8, 48]⟩

abbrev nBuf : Space → Nat
  | .hbm => 156
  | .vmem => 0
  | .smem => 0
  | _ => 0

abbrev hbmTy0_0 (i : Nat) : BufTy := match i % 128 with
  | 0 => ⟨S32x1024, .f32⟩
  | 1 => ⟨S1024, .f32⟩
  | 2 => ⟨S1024x3072, .f32⟩
  | 3 => ⟨S64, .f32⟩
  | 4 => ⟨S64, .f32⟩
  | 5 => ⟨S1, .i32⟩
  | 6 => ⟨S_, .i32⟩
  | 7 => ⟨S1, .i32⟩
  | 8 => ⟨S1, .i32⟩
  | 9 => ⟨S32x1024, .f32⟩
  | 10 => ⟨S_, .f32⟩
  | 11 => ⟨S32, .f32⟩
  | 12 => ⟨S32x1, .f32⟩
  | 13 => ⟨S_, .f32⟩
  | 14 => ⟨S32x1, .f32⟩
  | 15 => ⟨S32x1, .f32⟩
  | 16 => ⟨S_, .f32⟩
  | 17 => ⟨S32x1, .f32⟩
  | 18 => ⟨S32x1, .f32⟩
  | 19 => ⟨S32x1, .f32⟩
  | 20 => ⟨S32x1024, .f32⟩
  | 21 => ⟨S32x1024, .f32⟩
  | 22 => ⟨S1x1024, .f32⟩
  | 23 => ⟨S32x1024, .f32⟩
  | 24 => ⟨S32x1024, .f32⟩
  | 25 => ⟨S32x3072, .f32⟩
  | 26 => ⟨S32x512, .f32⟩
  | 27 => ⟨S32x512, .f32⟩
  | 28 => ⟨S32x512, .f32⟩
  | 29 => ⟨S32x512, .f32⟩
  | 30 => ⟨S32x512, .f32⟩
  | 31 => ⟨S32x512, .f32⟩
  | 32 => ⟨S32x1x8x64, .f32⟩
  | 33 => ⟨S32x1x8x64, .f32⟩
  | 34 => ⟨S_, .f32⟩
  | 35 => ⟨S32x1x8, .f32⟩
  | 36 => ⟨S32x1x8x1, .f32⟩
  | 37 => ⟨S_, .f32⟩
  | 38 => ⟨S32x1x8x1, .f32⟩
  | 39 => ⟨S32x1x8x1, .f32⟩
  | 40 => ⟨S_, .f32⟩
  | 41 => ⟨S32x1x8x1, .f32⟩
  | 42 => ⟨S32x1x8x1, .f32⟩
  | 43 => ⟨S32x1x8x1, .f32⟩
  | 44 => ⟨S32x1x8x64, .f32⟩
  | 45 => ⟨S32x1x8x64, .f32⟩
  | 46 => ⟨S1x1x1x64, .f32⟩
  | 47 => ⟨S32x1x8x64, .f32⟩
  | 48 => ⟨S32x1x8x64, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S1, .f32⟩
  | 61 => ⟨S1x1, .f32⟩
  | 62 => ⟨S1x8, .f32⟩
  | 63 => ⟨S1x8, .f32⟩
  | 64 => ⟨S1x8, .f32⟩
  | 65 => ⟨S1x8, .f32⟩
  | 66 => ⟨S1x1x8, .f32⟩
  | 67 => ⟨S1x8, .f32⟩
  | 68 => ⟨S1x1x8, .f32⟩
  | 69 => ⟨S32x1x8x8, .f32⟩
  | 70 => ⟨S32x1x8x8, .f32⟩
  | 71 => ⟨S1x1x1x8, .f32⟩
  | 72 => ⟨S32x1x8x8, .f32⟩
  | 73 => ⟨S32x1x8x8, .f32⟩
  | 74 => ⟨S1x1x1x8, .f32⟩
  | 75 => ⟨S32x1x8x8, .f32⟩
  | 76 => ⟨S32x1x8x8, .f32⟩
  | 77 => ⟨S32x1x8x8, .f32⟩
  | 78 => ⟨S1x1x1x8, .f32⟩
  | 79 => ⟨S32x1x8x8, .f32⟩
  | 80 => ⟨S32x1x8x8, .f32⟩
  | 81 => ⟨S1x1x1x8, .f32⟩
  | 82 => ⟨S32x1x8x8, .f32⟩
  | 83 => ⟨S32x1x8x8, .f32⟩
  | 84 => ⟨S32x1x8x8, .f32⟩
  | 85 => ⟨S32x1x8x48, .f32⟩
  | 86 => ⟨S32x1x8x64, .f32⟩
  | 87 => ⟨S32x512, .f32⟩
  | 88 => ⟨S32x1x8x64, .f32⟩
  | 89 => ⟨S32x1x8x64, .f32⟩
  | 90 => ⟨S_, .f32⟩
  | 91 => ⟨S32x1x8, .f32⟩
  | 92 => ⟨S32x1x8x1, .f32⟩
  | 93 => ⟨S_, .f32⟩
  | 94 => ⟨S32x1x8x1, .f32⟩
  | 95 => ⟨S32x1x8x1, .f32⟩
  | 96 => ⟨S_, .f32⟩
  | 97 => ⟨S32x1x8x1, .f32⟩
  | 98 => ⟨S32x1x8x1, .f32⟩
  | 99 => ⟨S32x1x8x1, .f32⟩
  | 100 => ⟨S32x1x8x64, .f32⟩
  | 101 => ⟨S32x1x8x64, .f32⟩
  | 102 => ⟨S1x1x1x64, .f32⟩
  | 103 => ⟨S32x1x8x64, .f32⟩
  | 104 => ⟨S32x1x8x64, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S1, .f32⟩
  | 117 => ⟨S1x1, .f32⟩
  | 118 => ⟨S1x8, .f32⟩
  | 119 => ⟨S1x8, .f32⟩
  | 120 => ⟨S1x8, .f32⟩
  | 121 => ⟨S1x8, .f32⟩
  | 122 => ⟨S1x1x8, .f32⟩
  | 123 => ⟨S1x8, .f32⟩
  | 124 => ⟨S1x1x8, .f32⟩
  | 125 => ⟨S32x1x8x8, .f32⟩
  | 126 => ⟨S32x1x8x8, .f32⟩
  | 127 => ⟨S1x1x1x8, .f32⟩
  | _ => ⟨S32x1024, .f32⟩

abbrev hbmTy0_1 (i : Nat) : BufTy := match i % 128 with
  | 0 => ⟨S32x1x8x8, .f32⟩
  | 1 => ⟨S32x1x8x8, .f32⟩
  | 2 => ⟨S1x1x1x8, .f32⟩
  | 3 => ⟨S32x1x8x8, .f32⟩
  | 4 => ⟨S32x1x8x8, .f32⟩
  | 5 => ⟨S32x1x8x8, .f32⟩
  | 6 => ⟨S1x1x1x8, .f32⟩
  | 7 => ⟨S32x1x8x8, .f32⟩
  | 8 => ⟨S32x1x8x8, .f32⟩
  | 9 => ⟨S1x1x1x8, .f32⟩
  | 10 => ⟨S32x1x8x8, .f32⟩
  | 11 => ⟨S32x1x8x8, .f32⟩
  | 12 => ⟨S32x1x8x8, .f32⟩
  | 13 => ⟨S32x1x8x48, .f32⟩
  | 14 => ⟨S32x1x8x64, .f32⟩
  | 15 => ⟨S32x512, .f32⟩
  | 16 => ⟨S32x1024, .f32⟩
  | 17 => ⟨S32x1024, .f32⟩
  | 18 => ⟨S_, .f32⟩
  | 19 => ⟨S32x512, .f32⟩
  | 20 => ⟨S32x512, .f32⟩
  | 21 => ⟨S32x512, .bf16⟩
  | 22 => ⟨S_, .f32⟩
  | 23 => ⟨S32x512, .f32⟩
  | 24 => ⟨S32x512, .f32⟩
  | 25 => ⟨S32x512, .bf16⟩
  | 26 => ⟨S32x1024, .bf16⟩
  | 27 => ⟨S32x1024, .bf16⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_11 : Ref sig .tc := ⟨.hbm, 107, rfl⟩
abbrev main_v89 : Ref sig .tc := ⟨.hbm, 108, rfl⟩
abbrev main_v90 : Ref sig .tc := ⟨.hbm, 109, rfl⟩
abbrev main_cst_12 : Ref sig .tc := ⟨.hbm, 110, rfl⟩
abbrev main_v91 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_14 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_15 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩

abbrev nD : Nat := 1
abbrev τ : Topo := Topo.v7x

variable {F : FTy → Type} [FloatOps F]
-- ==== Proof.ExpertIds.lean ====
/- The precondition decoded: every word of the table of expert ids names one of the eight experts. -/
module

public import proofs.«01_k».proof.Proof.Gen.Pre_expert_ids
public import Idealize.ShloMosaic.Lib.ReduceAll
public import Idealize.ShloMosaic.Lib.WordCmp

@[expose] public section

namespace Cert.ExpertIds

open Idealize.ShloMosaic Cert.Pre_expert_ids Cert.Pre_expert_ids.Gen

/-- A word that both signed comparisons admit, at least zero and less than eight, is a natural number below eight. -/
theorem lt_eight (v : BitVec 32) (h0 : IntOp.cmpi .sge v 0#32 = 1#1) (h8 : IntOp.cmpi .slt v 8#32 = 1#1) : v.toNat < 8 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h8
  have := v.isLt
  split at h0 <;> omega

/-- Under the precondition every expert id is below eight. -/
theorem id_lt {F : FTy → Type} [FloatOps F] (x : FVec F S36864x1024 .f32) (te tu : IVec S72 32) (wgu : FVec F S8x1024x7168 .f32) (wd : FVec F S8x3584x1024 .f32)
    (h : fn x te tu wgu wd = fun _ => 1#1) (w : S72.Idx) : (te w).toNat < 8 := by
  have andi_one (a b : BitVec 1) : IntOp.andi a b = 1#1 ↔ a = 1#1 ∧ b = 1#1 := by revert a b; decide
  haveI : Subsingleton S_.Idx := ⟨fun a b => funext fun i => i.elim0⟩
  have e := congrFun h (fun a => a.elim0)
  dsimp only [fn] at e
  have hw := Host.reduce_andi_all _ _ _ _ _ e w
  simp only [andi, andi_one, cmpi, broadcastInDim, constantI] at hw
  exact lt_eight _ hw.1 hw.2

end Cert.ExpertIds
-- ==== Proof.RowsIdeal.lean ====
/- The routed expert rows' kernel, run by hand: the launch of its pipeline, the body's four cases, and the frame with the
result array named.

The grid walks 72 row tiles, two points each (one per half of the experts' hidden width). The second prefetched table says
which row tiles are used, the first which expert's weights a tile meets. At a used tile the first point zeroes the
accumulator and adds the first half's product, the second adds the second half's and copies the sum to the result's block;
at an unused tile the first point stores nothing and the second stores zeros. The result's window is idle at first points,
whatever the tables hold. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit
public import Idealize.ShloMosaic.Lib.WholeRead
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Rows

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch memory after the two weight casts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer neither cast writes is at the region's entry as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The prefetched tables -/

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables select lies inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

abbrev tbM0 : Memref sig .tc .smem S72 .i32 := Memref.whole main_arg1
abbrev tbM1 : Memref sig .tc .smem S72 .i32 := Memref.whole main_arg2
/-- A table's buffer at half the full share: the body reads it only. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the body loads of the second table at point `i`. -/
abbrev word (c : Dev nD) (xt : TbBuf (F := F) c tbM1) (i : grid0.Coords) : BitVec 32 :=
  tbM1.view.readAt (Elt F) (Rect.unit (s := S72) (k0_off1 i) S1.size (k0_off1_inb i)).toLoadRect xt (Shape.Idx.first (numel1_S1.symm ▸ Nat.one_pos))
/-- The tile of point `i` is used. -/
def Used (c : Dev nD) (i : grid0.Coords) : Prop := Scalar.cmpi .sgt (word c (tbl m 1) i) 0#32 = 1#1
instance (c : Dev nD) (i : grid0.Coords) : Decidable (Used m c i) := by unfold Used; infer_instance

/-! ## The windows' blocks -/

/-- Window `w`'s block at point `t`, read off its array at the region's entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's current staging buffer holds its block at every point, fetched there or not: for any proof data over the
    entry contents whose body leaves the block in place. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

theorem first_iff : ∀ (j : Fin 2) (b : BitVec 1), Scalar.cmpi .ne (Scalar.extui (Scalar.andi b (Scalar.cmpi .eq (BitVec.ofNat 32 j.val) 0#32)) : BitVec 32) 0#32 = 1#1 ↔ b = 1#1 ∧ j.val = 0 := by decide
theorem used_iff : ∀ b : BitVec 1, Scalar.cmpi .ne (Scalar.extui b : BitVec 32) 0#32 = 1#1 ↔ b = 1#1 := by decide
theorem last_iff : ∀ (j : Fin 2) (b : BitVec 1), Scalar.cmpi .ne (Scalar.extui (Scalar.andi b (Scalar.cmpi .eq (BitVec.ofNat 32 j.val) 1#32)) : BitVec 32) 0#32 = 1#1 ↔ b = 1#1 ∧ j.val = 1 := by decide
theorem unused_iff : ∀ (j : Fin 2) (b : BitVec 1), Scalar.cmpi .ne (Scalar.extui (Scalar.andi (Scalar.xori b 1#1) (Scalar.cmpi .eq (BitVec.ofNat 32 j.val) 1#32)) : BitVec 32) 0#32 = 1#1 ↔ b ≠ 1#1 ∧ j.val = 1 := by decide

/-- The accumulator is zeroed at a used tile's first point. -/
abbrev CondFirst (i : grid0.Coords) (v : BitVec 32) : Prop := Scalar.cmpi .ne (Scalar.extui (Scalar.andi (Scalar.cmpi .sgt v 0#32) (Scalar.cmpi .eq (BitVec.ofNat 32 (i 1).val) 0#32)) : BitVec 32) 0#32 = 1#1
/-- The products are taken at a used tile's points. -/
abbrev CondUsed (v : BitVec 32) : Prop := Scalar.cmpi .ne (Scalar.extui (Scalar.cmpi .sgt v 0#32) : BitVec 32) 0#32 = 1#1

theorem condFirst_iff (i : grid0.Coords) (v : BitVec 32) : CondFirst i v ↔ Scalar.cmpi .sgt v 0#32 = 1#1 ∧ (i 1).val = 0 := first_iff (i 1) _
theorem condUsed_iff (v : BitVec 32) : CondUsed v ↔ Scalar.cmpi .sgt v 0#32 = 1#1 := used_iff _
theorem cond3_iff (i : grid0.Coords) (v : BitVec 32) : k0_cond3 i v = 1#1 ↔ Scalar.cmpi .sgt v 0#32 = 1#1 ∧ (i 1).val = 1 := last_iff (i 1) _
theorem cond4_iff (i : grid0.Coords) (v : BitVec 32) : k0_cond4 i v = 1#1 ↔ Scalar.cmpi .sgt v 0#32 ≠ 1#1 ∧ (i 1).val = 1 := unused_iff (i 1) _

theorem coords_tile (t : Fin grid0.N) : (grid0.coords t 0).val = t.val / 2 := by
  have ht : t.val < 144 := Nat.lt_of_lt_of_eq t.isLt N_0
  have e : (grid0.coords t 0).val = t.val / 2 % 72 := Pipeline.Grid.coords_val t 0 (by decide) rfl
  omega
theorem coords_half (t : Fin grid0.N) : (grid0.coords t 1).val = t.val % 2 := by
  have e : (grid0.coords t 1).val = t.val / 1 % 2 := Pipeline.Grid.coords_val t 1 (by decide) rfl
  omega

theorem idle_word_iff (i : grid0.Coords) (v : BitVec 32) : (!(k0_cond3 i v == 1#1) && !(k0_cond4 i v == 1#1)) = true ↔ (i 1).val = 0 := by
  have hj : (i 1).val < 2 := (i 1).isLt
  rw [Bool.and_eq_true, Bool.not_eq_true', Bool.not_eq_true', beq_eq_false_iff_ne, beq_eq_false_iff_ne, ne_eq, ne_eq, cond3_iff, cond4_iff]
  by_cases hu : Scalar.cmpi .sgt v 0#32 = 1#1
  · simp only [hu, ne_eq, not_true_eq_false, false_and, not_false_eq_true, and_true, true_and]; omega
  · simp only [hu, ne_eq, not_false_eq_true, false_and, true_and]; omega
/-- The result's window is idle exactly at the first points, whatever the word. -/
theorem idle_iff (pf : pre0.Contents (Elt F)) (i : grid0.Coords) : idle0 pf 4 i = true ↔ (i 1).val = 0 := idle_word_iff i _

theorem live_in (hO : Ok m) (t : Fin (cfgM m hO).N) (w : Fin 5) (hw : w ≠ 4) : (cfgM m hO).idle w (grid0.coords t) = false := by
  match w, hw with
  | ⟨0, _⟩, _ => rfl
  | ⟨1, _⟩, _ => rfl
  | ⟨2, _⟩, _ => rfl
  | ⟨3, _⟩, _ => rfl
  | ⟨4, _⟩, h => exact absurd rfl h
theorem idle_out (hO : Ok m) (t : Fin (cfgM m hO).N) (h : t.val % 2 = 0) : (cfgM m hO).idle 4 (grid0.coords t) = true :=
  (idle_iff (tbl m) _).mpr ((coords_half t).trans h)
theorem live_out (hO : Ok m) (t : Fin (cfgM m hO).N) (h : ¬t.val % 2 = 0) : (cfgM m hO).idle 4 (grid0.coords t) = false :=
  Bool.eq_false_iff.mpr fun e => h ((coords_half t).symm.trans ((idle_iff (tbl m) _).mp e))

/-- The result's block is written back at second points. -/
theorem flush_iff (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-! ## Whole loads and whole stores read back -/

theorem zz : (![0, 0] : Fin 2 → ℕ) = fun _ => 0 := by decide
theorem zzz : (![0, 0, 0] : Fin 3 → ℕ) = fun _ => 0 := by decide

theorem load_whole {s : Shape} {e : EltTy} {M : Memref sig .tc .vmem s e} (h : M.IsWhole) {off : Fin s.rank → ℕ} (hz : off = fun _ => 0)
    (inb : ∀ a, off a + s.size a ≤ s.size a) (X : s.Idx → Elt F e) :
    M.view.readAt (Elt F) (Rect.unit off s.size inb).toLoadRect (h.unread X) = X := by
  refine Eq.trans (funext fun x => h.readAt_unread X _ x) (View.ld_unit_zero hz inb X)

theorem store_whole {s : Shape} {e : EltTy} {sp : Space} (v : View sig .tc sp s e) (f : v.ty.Contents (Elt F)) {off : Fin s.rank → ℕ} (hz : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w :=
  (View.read_writes_eq_canon v f _ fun y => ⟨_, List.mem_cons_self, View.mem_set_unit_zero hz inb y⟩).trans (View.canon_cons_unit_zero hz inb w L)

/-! ## The body's four cases -/

/-- What one point adds to the accumulator `a`, over its blocks. -/
abbrev step (x : Vec F S512x1024 .f32) (g u : Vec F S1x1024x1792 .bf16) (d : Vec F S1x1792x1024 .bf16) (a : Vec F S512x1024 .f32) : Vec F S512x1024 .f32 := k0_pay2 x g u a d

set_option maxHeartbeats 1000000 in
/-- A used tile's first point: the accumulator, whatever it held, ends at the first half's product over zeros; the result's buffer is untouched. -/
theorem run_first (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S1x1024x1792 .bf16) (x2 : Vec F S1x1024x1792 .bf16) (x3 : Vec F S1x1792x1024 .bf16) (y : Vec F S512x1024 .f32) (a : Vec F S512x1024 .f32) (xt0 : TbBuf (F := F) c tbM0) (xt1 : TbBuf (F := F) c tbM1)
    (hc0 : CondFirst i (word c xt1 i)) (hc1 : CondUsed (word c xt1 i)) (hc2 : ¬(k0_cond3 i (word c xt1 i) = 1#1)) (hc3 : ¬(k0_cond4 i (word c xt1 i) = 1#1)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (y) ∗ owns (c : Thread nD τ) arg9 fullShare (step x0 x1 x2 x3 k0_pay1) ∗ tbPt c tbM0 xt0 ∗ tbPt c tbM1 xt1) -∗ K ⟨⟩))
      ⊢ wp frame (wpE (defs₀ (F := F)) Variants.none c none) E (cc0_moe_rows i tbM0 (Memref.isWhole_whole _) tbM1 (Memref.isWhole_whole _) arg4 harg4 arg5 harg5 arg6 harg6 arg7 harg7 arg8 harg8 arg9 harg9) K := by
  simp only [cc0_moe_rows_eq_skeleton]; unfold cc0_moe_rows_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; swap; · iexact HS0
    ipureintro
    exact (store_whole _ _ zz _ _ _).trans (by rw [load_whole harg4 zz, load_whole harg5 zzz, load_whole harg6 zzz, load_whole harg7 zzz]; exact congrArg (k0_pay2 x0 x1 x2 · x3) (View.readCov_cons_toLoadRect _ _ _ _))
  isplitl [HT0]; · iexact HT0
  iexact HT1

set_option maxHeartbeats 1000000 in
/-- An unused tile's first point stores nothing. -/
theorem run_skip (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S1x1024x1792 .bf16) (x2 : Vec F S1x1024x1792 .bf16) (x3 : Vec F S1x1792x1024 .bf16) (y : Vec F S512x1024 .f32) (a : Vec F S512x1024 .f32) (xt0 : TbBuf (F := F) c tbM0) (xt1 : TbBuf (F := F) c tbM1)
    (hc0 : ¬CondFirst i (word c xt1 i)) (hc1 : ¬CondUsed (word c xt1 i)) (hc2 : ¬(k0_cond3 i (word c xt1 i) = 1#1)) (hc3 : ¬(k0_cond4 i (word c xt1 i) = 1#1)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (y) ∗ owns (c : Thread nD τ) arg9 fullShare (a) ∗ tbPt c tbM0 xt0 ∗ tbPt c tbM1 xt1) -∗ K ⟨⟩))
      ⊢ wp frame (wpE (defs₀ (F := F)) Variants.none c none) E (cc0_moe_rows i tbM0 (Memref.isWhole_whole _) tbM1 (Memref.isWhole_whole _) arg4 harg4 arg5 harg5 arg6 harg6 arg7 harg7 arg8 harg8 arg9 harg9) K := by
  simp only [cc0_moe_rows_eq_skeleton]; unfold cc0_moe_rows_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; · ipureintro; exact harg9.read_unread _
    iexact HS0
  isplitl [HT0]; · iexact HT0
  iexact HT1

set_option maxHeartbeats 1000000 in
/-- A used tile's second point: the accumulator gains the second half's product, and the result's block holds the sum. -/
theorem run_last (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S1x1024x1792 .bf16) (x2 : Vec F S1x1024x1792 .bf16) (x3 : Vec F S1x1792x1024 .bf16) (y : Vec F S512x1024 .f32) (a : Vec F S512x1024 .f32) (xt0 : TbBuf (F := F) c tbM0) (xt1 : TbBuf (F := F) c tbM1)
    (hc0 : ¬CondFirst i (word c xt1 i)) (hc1 : CondUsed (word c xt1 i)) (hc2 : (k0_cond3 i (word c xt1 i) = 1#1)) (hc3 : ¬(k0_cond4 i (word c xt1 i) = 1#1)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (step x0 x1 x2 x3 a) ∗ owns (c : Thread nD τ) arg9 fullShare (step x0 x1 x2 x3 a) ∗ tbPt c tbM0 xt0 ∗ tbPt c tbM1 xt1) -∗ K ⟨⟩))
      ⊢ wp frame (wpE (defs₀ (F := F)) Variants.none c none) E (cc0_moe_rows i tbM0 (Memref.isWhole_whole _) tbM1 (Memref.isWhole_whole _) arg4 harg4 arg5 harg5 arg6 harg6 arg7 harg7 arg8 harg8 arg9 harg9) K := by
  simp only [cc0_moe_rows_eq_skeleton]; unfold cc0_moe_rows_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact (store_whole _ _ zz _ _ _).trans ((View.readCov_cons_toLoadRect _ _ _ _).trans (by rw [load_whole harg4 zz, load_whole harg5 zzz, load_whole harg6 zzz, load_whole harg7 zzz, load_whole harg9 zz]))
  isplitl [HS0]
  · iexists _; isplitr; swap; · iexact HS0
    ipureintro
    exact (store_whole _ _ zz _ _ _).trans (by rw [load_whole harg4 zz, load_whole harg5 zzz, load_whole harg6 zzz, load_whole harg7 zzz, load_whole harg9 zz])
  isplitl [HT0]; · iexact HT0
  iexact HT1

set_option maxHeartbeats 1000000 in
/-- An unused tile's second point: the result's block holds zeros. -/
theorem run_zero (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S1x1024x1792 .bf16) (x2 : Vec F S1x1024x1792 .bf16) (x3 : Vec F S1x1792x1024 .bf16) (y : Vec F S512x1024 .f32) (a : Vec F S512x1024 .f32) (xt0 : TbBuf (F := F) c tbM0) (xt1 : TbBuf (F := F) c tbM1)
    (hc0 : ¬CondFirst i (word c xt1 i)) (hc1 : ¬CondUsed (word c xt1 i)) (hc2 : ¬(k0_cond3 i (word c xt1 i) = 1#1)) (hc3 : (k0_cond4 i (word c xt1 i) = 1#1)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay3) ∗ owns (c : Thread nD τ) arg9 fullShare (a) ∗ tbPt c tbM0 xt0 ∗ tbPt c tbM1 xt1) -∗ K ⟨⟩))
      ⊢ wp frame (wpE (defs₀ (F := F)) Variants.none c none) E (cc0_moe_rows i tbM0 (Memref.isWhole_whole _) tbM1 (Memref.isWhole_whole _) arg4 harg4 arg5 harg5 arg6 harg6 arg7 harg7 arg8 harg8 arg9 harg9) K := by
  simp only [cc0_moe_rows_eq_skeleton]; unfold cc0_moe_rows_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact store_whole _ _ zz _ _ _
  isplitl [HS0]
  · iexists _; isplitr; · ipureintro; exact harg9.read_unread _
    iexact HS0
  isplitl [HT0]; · iexact HT0
  iexact HT1

/-! ## What the buffers hold between points -/

/-- The accumulator after a used tile's first point `t`. -/
def half (hO : Ok m) (c : Dev nD) (t : Fin (cfgM m hO).N) : Vec F S512x1024 .f32 :=
  step (iblk m hO c 0 t) (iblk m hO c 1 t) (iblk m hO c 2 t) (iblk m hO c 3 t) k0_pay1

/-- The point before. -/
def prev (hO : Ok m) (t : Fin (cfgM m hO).N) : Fin (cfgM m hO).N := ⟨t.val - 1, Nat.lt_of_le_of_lt (Nat.sub_le _ _) t.isLt⟩

/-- What a tile's second point `t` leaves in the result's block: at a used tile both halves' products added up, else zeros. -/
def tileOut (hO : Ok m) (c : Dev nD) (t : Fin (cfgM m hO).N) : Vec F S512x1024 .f32 :=
  if Used m c (grid0.coords t) then
    step (iblk m hO c 0 t) (iblk m hO c 1 t) (iblk m hO c 2 t) (iblk m hO c 3 t) (half m hO c (prev m hO t))
  else k0_pay3

theorem word_congr (c : Dev nD) (xt : TbBuf (F := F) c tbM1) {off off' : Fin 1 → ℕ} (h : off = off') (inb : ∀ a, off a + S1.size a ≤ S72.size a) (inb' : ∀ a, off' a + S1.size a ≤ S72.size a) :
    tbM1.view.readAt (Elt F) (Rect.unit (s := S72) off S1.size inb).toLoadRect xt (Shape.Idx.first (numel1_S1.symm ▸ Nat.one_pos))
      = tbM1.view.readAt (Elt F) (Rect.unit (s := S72) off' S1.size inb').toLoadRect xt (Shape.Idx.first (numel1_S1.symm ▸ Nat.one_pos)) := by subst h; rfl

/-- A tile is used at both its points or at neither. -/
theorem used_congr (c : Dev nD) (i i' : grid0.Coords) (h : (i 0).val = (i' 0).val) : Used m c i ↔ Used m c i' := by
  have e : word c (tbl m 1) i = word c (tbl m 1) i' := word_congr c _ (by rw [k0_off1_eq, k0_off1_eq, h]) _ _
  unfold Used; rw [e]

/-- The accumulator before position `n`: after a used tile's first point its half sum, else anything. -/
def Acc (hO : Ok m) (c : Dev nD) : (n : ℕ) → n ≤ (cfgM m hO).N → sProp 𝕄
  | 0, _ => iprop(∃ d, owns (c : Thread nD τ) (Memref.whole cc0_scratch0) fullShare d)
  | n + 1, hn => if n % 2 = 0 ∧ Used m c (grid0.coords ⟨n, hn⟩) then owns (c : Thread nD τ) (Memref.whole cc0_scratch0) fullShare (half m hO c ⟨n, hn⟩)
      else iprop(∃ d, owns (c : Thread nD τ) (Memref.whole cc0_scratch0) fullShare d)

theorem Acc_any (hO : Ok m) (c : Dev nD) (n : ℕ) (hn : n ≤ (cfgM m hO).N) : Acc m hO c n hn ⊢ iprop(∃ d, owns (c : Thread nD τ) (Memref.whole cc0_scratch0) fullShare d) := by
  cases n with
  | zero => exact Entails.refl _
  | succ n =>
    by_cases h : n % 2 = 0 ∧ Used m c (grid0.coords ⟨n, hn⟩)
    · rw [show Acc m hO c (n + 1) hn = owns (c : Thread nD τ) (Memref.whole cc0_scratch0) fullShare (half m hO c ⟨n, hn⟩) from if_pos h]
      iintro H; iexists _; iexact H
    · rw [show Acc m hO c (n + 1) hn = iprop(∃ d, owns (c : Thread nD τ) (Memref.whole cc0_scratch0) fullShare d) from if_neg h]

theorem Acc_half (hO : Ok m) (c : Dev nD) (t : Fin (cfgM m hO).N) (h : ¬t.val % 2 = 0) (hu : Used m c (grid0.coords t)) :
    Acc m hO c t.val (Nat.le_of_lt t.isLt) = owns (c : Thread nD τ) (Memref.whole cc0_scratch0) fullShare (half m hO c (prev m hO t)) := by
  obtain ⟨n, hn⟩ := t
  cases n with
  | zero => exact absurd (Nat.zero_mod _) h
  | succ n =>
    have hm : ¬(n + 1) % 2 = 0 := h
    have hu' : Used m c (grid0.coords ⟨n, Nat.lt_of_succ_lt hn⟩) :=
      (used_congr m c _ _ (by rw [coords_tile, coords_tile]; show (n + 1) / 2 = n / 2; omega)).mp hu
    exact if_pos ⟨by omega, hu'⟩

theorem Acc_first (hO : Ok m) (c : Dev nD) (t : Fin (cfgM m hO).N) (h : t.val % 2 = 0) (hu : Used m c (grid0.coords t)) :
    Acc m hO c (t.val + 1) t.isLt = owns (c : Thread nD τ) (Memref.whole cc0_scratch0) fullShare (half m hO c t) := if_pos ⟨h, hu⟩
theorem Acc_rest (hO : Ok m) (c : Dev nD) (t : Fin (cfgM m hO).N) (h : ¬(t.val % 2 = 0 ∧ Used m c (grid0.coords t))) :
    Acc m hO c (t.val + 1) t.isLt = iprop(∃ d, owns (c : Thread nD τ) (Memref.whole cc0_scratch0) fullShare d) := if_neg h

/-- The region's invariant before position `n`. -/
def Inv (hO : Ok m) (c : Dev nD) (n : ℕ) (hn : n ≤ (cfgM m hO).N) : sProp 𝕄 :=
  iprop(iprop(Acc m hO c n hn ∗ (∃ r, prngReg c r)) ∗ Pipeline.ΦT pre0 (tbl m) c)

theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-! ## The pipeline's proof data -/

/-- The arrays at the region's entry; each input's buffer left at its block, the result's at `tileOut`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => tileOut m hO c t
  Φ t := Inv m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem Inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = tileOut m hO c t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-! ## The body obligation -/

/-- Each window's current staging buffer at a point. -/
abbrev stg0 (hO : Ok m) (t : Fin (cfgM m hO).N) : Memref sig .tc .vmem S512x1024 .f32 := spec0_0.stage ((cfgM m hO).slots t 0)
abbrev stg1 (hO : Ok m) (t : Fin (cfgM m hO).N) : Memref sig .tc .vmem S1x1024x1792 .bf16 := spec0_1.stage ((cfgM m hO).slots t 1)
abbrev stg2 (hO : Ok m) (t : Fin (cfgM m hO).N) : Memref sig .tc .vmem S1x1024x1792 .bf16 := spec0_2.stage ((cfgM m hO).slots t 2)
abbrev stg3 (hO : Ok m) (t : Fin (cfgM m hO).N) : Memref sig .tc .vmem S1x1792x1024 .bf16 := spec0_3.stage ((cfgM m hO).slots t 3)
abbrev stg4 (hO : Ok m) (t : Fin (cfgM m hO).N) : Memref sig .tc .vmem S512x1024 .f32 := spec0_4.stage ((cfgM m hO).slots t 4)

/-- The body at a point, on what the pipeline calls it with. -/
abbrev bodyAt (a : (pcfg0 (F := F)).Adm) (t : Fin (cfg0 a).N) : Prog (TpuEff nD τ sig (Elt F) Λ₀ .tc) PUnit :=
  cc0_moe_rows (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- At a point that is not idle the body leaves a window's buffer at the proof data's contents. -/
theorem leaves_live (hO : Ok m) (c : Dev nD) (w : Fin (cfgM m hO).W) (t : Fin (cfgM m hO).N) (h : (cfgM m hO).idle w ((cfgM m hO).grid.coords t) = false) :
    (dats m hO 0 c).leavesExact w t = owns (c : Thread nD τ) (((cfgM m hO).win w).stage ((cfgM m hO).slots t w)) fullShare ((dats m hO 0 c).after w t) := by
  unfold Dat.leavesExact; rw [h]
theorem leaves_0 (hO : Ok m) (c : Dev nD) (t : Fin (cfgM m hO).N) : (dats m hO 0 c).leavesExact 0 t = owns (c : Thread nD τ) (stg0 m hO t) fullShare (iblk m hO c 0 t) :=
  (leaves_live m hO c 0 t (live_in m hO t 0 (by decide))).trans (congrArg (owns (c : Thread nD τ) (stg0 m hO t) fullShare) (after_0 m hO c t))
theorem leaves_1 (hO : Ok m) (c : Dev nD) (t : Fin (cfgM m hO).N) : (dats m hO 0 c).leavesExact 1 t = owns (c : Thread nD τ) (stg1 m hO t) fullShare (iblk m hO c 1 t) :=
  (leaves_live m hO c 1 t (live_in m hO t 1 (by decide))).trans (congrArg (owns (c : Thread nD τ) (stg1 m hO t) fullShare) (after_1 m hO c t))
theorem leaves_2 (hO : Ok m) (c : Dev nD) (t : Fin (cfgM m hO).N) : (dats m hO 0 c).leavesExact 2 t = owns (c : Thread nD τ) (stg2 m hO t) fullShare (iblk m hO c 2 t) :=
  (leaves_live m hO c 2 t (live_in m hO t 2 (by decide))).trans (congrArg (owns (c : Thread nD τ) (stg2 m hO t) fullShare) (after_2 m hO c t))
theorem leaves_3 (hO : Ok m) (c : Dev nD) (t : Fin (cfgM m hO).N) : (dats m hO 0 c).leavesExact 3 t = owns (c : Thread nD τ) (stg3 m hO t) fullShare (iblk m hO c 3 t) :=
  (leaves_live m hO c 3 t (live_in m hO t 3 (by decide))).trans (congrArg (owns (c : Thread nD τ) (stg3 m hO t) fullShare) (after_3 m hO c t))
theorem leaves_idle (hO : Ok m) (c : Dev nD) (t : Fin (cfgM m hO).N) (h : t.val % 2 = 0) :
    (dats m hO 0 c).leavesExact 4 t = iprop(∃ d, owns (c : Thread nD τ) (stg4 m hO t) fullShare ((dats m hO 0 c).before 4 t d)) :=
  (dats m hO 0 c).leavesExact_idle 4 t (idle_out m hO t h) (Bool.eq_false_iff.mpr fun e => by have := (flush_iff (adm m hO) t).mp e; omega)
theorem leaves_out (hO : Ok m) (c : Dev nD) (t : Fin (cfgM m hO).N) (h : ¬t.val % 2 = 0) :
    (dats m hO 0 c).leavesExact 4 t = owns (c : Thread nD τ) (stg4 m hO t) fullShare (tileOut m hO c t) :=
  (leaves_live m hO c 4 t (live_out m hO t h)).trans (congrArg (owns (c : Thread nD τ) (stg4 m hO t) fullShare) (after_4 m hO c t))

set_option maxHeartbeats 6400000 in
/-- The body at any point: the two points of a used tile, the two of an unused one. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  have e1 := coords_half t
  unfold bodyPre bodyPost bodyAt
  simp only [before_0, before_1, before_2, before_3]
  rw [show (dats m hO 0 c).owesAt () t.succ = (dats m hO 0 c).owesAt () t.castSucc from rfl,
    show (dats m hO 0 c).Φ t.succ = Inv m hO c (t.val + 1) t.isLt from rfl, Inv_castSucc, leaves_0, leaves_1, leaves_2, leaves_3]
  unfold Inv
  rw [PhiT_eq]
  by_cases hj : t.val % 2 = 0
  · rw [leaves_idle m hO c t hj]
    by_cases hu : Used m c (grid0.coords t)
    · rw [Acc_first m hO c t hj hu]
      iintro ⟨⟨⟨HS0, Hg⟩, ⟨HT0, HT1⟩⟩, Ho, ⟨%d0, H0⟩, ⟨%d1, H1⟩, ⟨%d2, H2⟩, ⟨%d3, H3⟩, ⟨%d4, H4⟩⟩
      ihave HS := (Acc_any m hO c _ _) $$ HS0; icases HS with ⟨%ds, HS0⟩
      iapply (run_first c (grid0.coords t) _ _ _ _ _ _ _ _ _ _ _ _ (iblk m hO c 0 t) (iblk m hO c 1 t) (iblk m hO c 2 t) (iblk m hO c 3 t) _ _ (tbl m 0) (tbl m 1) ((condFirst_iff _ _).mpr ⟨hu, e1.trans hj⟩) ((condUsed_iff _).mpr hu) (fun e => by have := ((cond3_iff _ _).mp e).2; omega) (fun e => by have := ((cond4_iff _ _).mp e).2; omega) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · rw [Acc_rest m hO c t (fun h => hu h.2)]
      iintro ⟨⟨⟨HS0, Hg⟩, ⟨HT0, HT1⟩⟩, Ho, ⟨%d0, H0⟩, ⟨%d1, H1⟩, ⟨%d2, H2⟩, ⟨%d3, H3⟩, ⟨%d4, H4⟩⟩
      ihave HS := (Acc_any m hO c _ _) $$ HS0; icases HS with ⟨%ds, HS0⟩
      iapply (run_skip c (grid0.coords t) _ _ _ _ _ _ _ _ _ _ _ _ (iblk m hO c 0 t) (iblk m hO c 1 t) (iblk m hO c 2 t) (iblk m hO c 3 t) _ _ (tbl m 0) (tbl m 1) (fun e => hu ((condFirst_iff _ _).mp e).1) (fun e => hu ((condUsed_iff _).mp e)) (fun e => by have := ((cond3_iff _ _).mp e).2; omega) (fun e => by have := ((cond4_iff _ _).mp e).2; omega) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · rw [leaves_out m hO c t hj, Acc_rest m hO c t (fun h => hj h.1)]
    replace hj : t.val % 2 = 1 := by omega
    by_cases hu : Used m c (grid0.coords t)
    · rw [Acc_half m hO c t (by omega) hu]
      unfold tileOut
      rw [if_pos hu]
      iintro ⟨⟨⟨HS0, Hg⟩, ⟨HT0, HT1⟩⟩, Ho, ⟨%d0, H0⟩, ⟨%d1, H1⟩, ⟨%d2, H2⟩, ⟨%d3, H3⟩, ⟨%d4, H4⟩⟩

      iapply (run_last c (grid0.coords t) _ _ _ _ _ _ _ _ _ _ _ _ (iblk m hO c 0 t) (iblk m hO c 1 t) (iblk m hO c 2 t) (iblk m hO c 3 t) _ _ (tbl m 0) (tbl m 1) (fun e => by have := ((condFirst_iff _ _).mp e).2; omega) ((condUsed_iff _).mpr hu) ((cond3_iff _ _).mpr ⟨hu, e1.trans hj⟩) (fun e => ((cond4_iff _ _).mp e).1 hu) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · unfold tileOut
      rw [if_neg hu]
      iintro ⟨⟨⟨HS0, Hg⟩, ⟨HT0, HT1⟩⟩, Ho, ⟨%d0, H0⟩, ⟨%d1, H1⟩, ⟨%d2, H2⟩, ⟨%d3, H3⟩, ⟨%d4, H4⟩⟩
      ihave HS := (Acc_any m hO c _ _) $$ HS0; icases HS with ⟨%ds, HS0⟩
      iapply (run_zero c (grid0.coords t) _ _ _ _ _ _ _ _ _ _ _ _ (iblk m hO c 0 t) (iblk m hO c 1 t) (iblk m hO c 2 t) (iblk m hO c 3 t) _ _ (tbl m 0) (tbl m 1) (fun e => hu ((condFirst_iff _ _).mp e).1) (fun e => hu ((condUsed_iff _).mp e)) (fun e => hu ((cond3_iff _ _).mp e).1) ((cond4_iff _ _).mpr ⟨hu, e1.trans hj⟩) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- The body table's row is the body at the point's slots. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, PhiA_eq]
  exact Entails.refl _

theorem hout (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N (Nat.le_refl _) from rfl, PhiA_eq]
  unfold Inv
  iintro ⟨⟨HS, Hg⟩, -⟩
  isplitl [HS]
  · iapply (Acc_any m hO c _ _); iexact HS
  iexact Hg

/-! ## The run -/

set_option backward.isDefEq.respectTransparency.types false in
/-- Every execution ends, every semaphore counter at zero, the arrays at what the proof data says. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hin := hin m hO) (hout := hout m hO)
    (hQ' := fun _ h => h)

/-- The argument arrays end as launched. -/
theorem args_of_post (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.FramePost.in_eq h c 0 rfl).trans ((A_eq m hO c 0).trans (V_of_ne m c main_arg0 (by decide) (by decide))),
    ((h c).2 main_arg1 (by decide : main_arg1 ∈ Pipeline.restRefs sig spec0)).trans (V_of_ne m c main_arg1 (by decide) (by decide)),
    ((h c).2 main_arg2 (by decide : main_arg2 ∈ Pipeline.restRefs sig spec0)).trans (V_of_ne m c main_arg2 (by decide) (by decide)),
    ((h c).2 main_arg3 (by decide : main_arg3 ∈ Pipeline.restRefs sig spec0)).trans (V_of_ne m c main_arg3 (by decide) (by decide)),
    ((h c).2 main_arg4 (by decide : main_arg4 ∈ Pipeline.restRefs sig spec0)).trans (V_of_ne m c main_arg4 (by decide) (by decide))⟩

/-- The frame: the argument arrays end as launched and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of_post m hO r h.1, h.2⟩) (run_main m ρ hO)

/-- The result array ends at any `G` whose blocks are what the second points leave, provided those blocks cover it. -/
theorem result_of_post (hO : Ok m) (r : PUnit × MemSt nD τ sig (Elt F)) (h : Pipeline.FramePost (Pipeline.pin pcfgs fun _ => adm m hO) (dats m hO) 0 (V m) r) (c : Dev nD)
    (G : Buf (Elt F) ((c.tc : Thread nD τ).loc main_v2))
    (hG : ∀ t : Fin (cfgM m hO).N, t.val % 2 = 1 → tileOut m hO c t = (((cfgM m hO).win 4).blk t).view.read (Elt F) G)
    (hcover : ∀ i : S36864x1024.Idx, ∃ t : Fin (cfgM m hO).N, t.val % 2 = 1 ∧ i ∈ (((cfgM m hO).win 4).blk t).view.set) :
    r.2.mem ((c.tc : Thread nD τ).loc main_v2) = G :=
  (Pipeline.FramePost.out_eq h c 4).trans
    ((dats m hO 0 c).arrAt_eq_of_cover 4 G
      (fun t ht => by
        rw [← hG t ((flush_iff (adm m hO) t).mp ht), ← after_4 m hO c t])
      (fun i => by
        obtain ⟨t, ht, hi⟩ := hcover i
        exact ⟨t, (flush_iff (adm m hO) t).mpr ht, hi⟩))

end Cert.KernelIdeal.Rows

end
-- ==== Proof.OkIdeal.lean ====
/- Every block the table of expert ids selects lies inside its array, when the ids name experts. -/
module

public import proofs.«01_k».proof.Proof.RowsIdeal
public import proofs.«01_k».proof.Proof.ExpertIds
public import Idealize.ShloMosaic.Lib.PairWhole

@[expose] public section

noncomputable section

namespace Cert.KernelIdeal.Rows

open Cert.KernelIdeal.Gen
open Idealize.ShloMosaic Idealize.ShloMosaic.TcCoe

variable {F : FTy → Type} [FloatOps F]
variable (m : (ℓ : Loc nD τ sig) → Buf (Elt F) ℓ)

/-- A grid point's second coordinate, as the word the index maps read, is zero or one. -/
theorem half_lt (i : grid0.Coords) : (BitVec.ofNat 32 (i 1).val).toNat < 2 := by
  have h : (i 1).val < 2 := (i 1).isLt
  rw [BitVec.toNat_ofNat]; omega

/-- Two added to a half's number, as a word, is two or three. -/
theorem up_lt (i : grid0.Coords) : (Scalar.addi 2#32 (BitVec.ofNat 32 (i 1).val)).toNat < 4 := by
  have h : (i 1).val < 2 := (i 1).isLt
  show (2#32 + BitVec.ofNat 32 (i 1).val).toNat < 4
  rw [BitVec.toNat_add, BitVec.toNat_ofNat, BitVec.toNat_ofNat]; omega

/-- A block of an expert's gate and up weights, at an expert below eight and a column block below four, is inside them. -/
theorem gate_block (e n : ℕ) (he : e < 8) (hn : n < 4) :
    ∃ h : (∀ a, ((![e, 0, n] : Fin 3 → ℕ) a + 1) * S1x1024x1792.size a ≤ S8x1024x7168.size a),
      EltTy.bits .bf16 = 32 ∨ (Rect.block (s := S8x1024x7168) S1x1024x1792.size ![e, 0, n] h).WholeWords (EltTy.packing .bf16) := by
  have h : ∀ a, ((![e, 0, n] : Fin 3 → ℕ) a + 1) * S1x1024x1792.size a ≤ S8x1024x7168.size a := fun a => by
    fin_cases a
    · show (e + 1) * 1 ≤ 8; omega
    · show (0 + 1) * 1024 ≤ 1024; omega
    · show (n + 1) * 1792 ≤ 7168; omega
  refine ⟨h, .inr (.inl (Rect.packedRows_of_rowAxis _ _ (by decide) ?_ ?_ rfl))⟩
  · show EltTy.packing .bf16 ∣ 0 * 1024; exact ⟨0, by omega⟩
  · show EltTy.packing .bf16 ∣ 1024; decide

/-- A block of an expert's down weights, at an expert below eight and a row block below two, is inside them. -/
theorem down_block (e n : ℕ) (he : e < 8) (hn : n < 2) :
    ∃ h : (∀ a, ((![e, n, 0] : Fin 3 → ℕ) a + 1) * S1x1792x1024.size a ≤ S8x3584x1024.size a),
      EltTy.bits .bf16 = 32 ∨ (Rect.block (s := S8x3584x1024) S1x1792x1024.size ![e, n, 0] h).WholeWords (EltTy.packing .bf16) := by
  have h : ∀ a, ((![e, n, 0] : Fin 3 → ℕ) a + 1) * S1x1792x1024.size a ≤ S8x3584x1024.size a := fun a => by
    fin_cases a
    · show (e + 1) * 1 ≤ 8; omega
    · show (n + 1) * 1792 ≤ 3584; omega
    · show (0 + 1) * 1024 ≤ 1024; omega
  have hp : EltTy.packing .bf16 ∣ 1792 := by decide
  refine ⟨h, .inr (.inl (Rect.packedRows_of_rowAxis _ _ (by decide) ?_ ?_ rfl))⟩
  · show EltTy.packing .bf16 ∣ n * 1792; exact hp.mul_left n
  · show EltTy.packing .bf16 ∣ 1792; exact hp

/-- Expert ids below eight select blocks inside the weights. -/
theorem ok_of_lt (h : ∀ w : S72.Idx, (m (((0 : Dev nD) : Thread nD τ).loc main_arg1) w).toNat < 8) : Ok m := by
  have ht : ∀ w : S72.Idx, (tbl m 0 w).toNat < 8 := fun w => by
    rw [show tbl m 0 = m (((0 : Dev nD) : Thread nD τ).loc main_arg1) from V_of_ne m 0 main_arg1 (by decide) (by decide)]; exact h w
  exact ⟨fun i => gate_block _ _ (ht _) (Nat.lt_of_lt_of_le (half_lt i) (by decide)), fun i => gate_block _ _ (ht _) (up_lt i), fun i => down_block _ _ (ht _) (half_lt i)⟩

/-- The precondition admits the tables. -/
theorem ok_of_pre (h : ∀ c : Dev nD, Cert.Pre_expert_ids.fn (F := F) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) : Ok m :=
  ok_of_lt m fun w => Cert.ExpertIds.id_lt _ _ _ _ _ (h 0) w

end Cert.KernelIdeal.Rows
-- ==== Proof.Routed.lean ====
/- The routed experts' function, written at an index: what the kernel and the reference both compute. -/
module

public import Idealize.ShloMosaic.Lib.Pointwise

@[expose] public section

noncomputable section

namespace Cert.Routed

open Idealize.ShloMosaic

/-- `R` rows, the experts' gate and up weights side by side, their down weights, and a word per tile of 512 rows. -/
abbrev RowsIdx (R : ℕ) : Type := (⟨2, ![R, 1024]⟩ : Shape).Idx
abbrev GateUpIdx : Type := (⟨3, ![8, 1024, 7168]⟩ : Shape).Idx
abbrev DownIdx : Type := (⟨3, ![8, 3584, 1024]⟩ : Shape).Idx
abbrev TileIdx : Type := (⟨1, ![72]⟩ : Shape).Idx

variable {R : ℕ} (x : RowsIdx R → EReal) (wgu : GateUpIdx → EReal) (wd : DownIdx → EReal)

/-- A row times a column of an expert's gate and up weights. -/
def proj (r : Fin R) (e : Fin 8) (n : Fin 7168) : EReal := ∑ d : Fin 1024, x (ix2 r d) * wgu (ix3 e d n)

/-- A row's hidden value at unit `k` of expert `e`: the gated product of the gate's and the up projection's. -/
def hidden (r : Fin R) (e : Fin 8) (k : Fin 3584) : EReal :=
  proj x wgu r e ⟨k.val, by omega⟩ * Ideal.logistic (proj x wgu r e ⟨k.val, by omega⟩) * proj x wgu r e ⟨3584 + k.val, by omega⟩

/-- What expert `e` makes of a row. -/
def expert (r : Fin R) (e : Fin 8) (q : Fin 1024) : EReal := ∑ k : Fin 3584, hidden x wgu r e k * wd (ix3 e k q)

/-- The tile of a row. -/
def tileOf (r : Fin 36864) : Fin 72 := ⟨r.val / 512, by omega⟩

/-- The expert of a tile. -/
def expertOf (te : TileIdx → BitVec 32) (i : Fin 72) : Fin 8 := ⟨(te (ix1 i)).toNat % 8, Nat.mod_lt _ (by omega)⟩

/-- A tile is used when its word is positive. -/
def UsedTile (tu : TileIdx → BitVec 32) (i : Fin 72) : Prop := IntOp.cmpi .sgt (tu (ix1 i)) 0#32 = 1#1
instance (tu : TileIdx → BitVec 32) (i : Fin 72) : Decidable (UsedTile tu i) := by unfold UsedTile; infer_instance

/-- The layer's routed rows: a used tile's rows through the tile's expert, zero at an unused tile. -/
def out (x : RowsIdx 36864 → EReal) (wgu : GateUpIdx → EReal) (wd : DownIdx → EReal) (te tu : TileIdx → BitVec 32) (r : Fin 36864) (q : Fin 1024) : EReal :=
  if UsedTile tu (tileOf r) then expert x wgu wd r (expertOf te (tileOf r)) q else 0

/-- An expert's sum over its hidden units is the first half's plus the second half's. -/
theorem expert_halves (r : Fin R) (e : Fin 8) (q : Fin 1024) :
    expert x wgu wd r e q = (∑ k : Fin 1792, hidden x wgu r e ⟨k.val, by omega⟩ * wd (ix3 e ⟨k.val, by omega⟩ q))
      + ∑ k : Fin 1792, hidden x wgu r e ⟨1792 + k.val, by omega⟩ * wd (ix3 e ⟨1792 + k.val, by omega⟩ q) := by
  unfold expert
  rw [Fin.sum_univ_two_halves 1792 1792 rfl]

/-- A seventh of an expert's hidden units: what they add to the expert's output. -/
def expertPart (r : Fin R) (e : Fin 8) (j : Fin 7) (q : Fin 1024) : EReal :=
  ∑ k : Fin 512, hidden x wgu r e ⟨512 * j.val + k.val, by omega⟩ * wd (ix3 e ⟨512 * j.val + k.val, by omega⟩ q)

theorem expert_sevenths (r : Fin R) (e : Fin 8) (q : Fin 1024) : expert x wgu wd r e q = ∑ j : Fin 7, expertPart x wgu wd r e j q := by
  unfold expert expertPart
  rw [Fin.sum_univ_tiles 7 512 rfl]
  refine Finset.sum_congr rfl fun j _ => Finset.sum_congr rfl fun k _ => ?_
  simp only [Nat.mul_comm j.val 512]

/-- The experts' layer on rows with a weight for every expert: the residual plus the weighted experts' outputs. -/
def mixture (x1 : RowsIdx R → EReal) (w : (⟨2, ![R, 128]⟩ : Shape).Idx → EReal) (r : Fin R) (q : Fin 1024) : EReal :=
  x1 (ix2 r q) + ∑ e : Fin 8, w (ix2 r ⟨e.val, by omega⟩) * expert x wgu wd r e q

/-- The weighted part of an expert's output that a point adds: the points go through the experts, each by sevenths. -/
def pointTerm (w : (⟨2, ![R, 128]⟩ : Shape).Idx → EReal) (r : Fin R) (q : Fin 1024) (t : ℕ) : EReal :=
  w (ix2 r ⟨t / 7 % 8, by omega⟩) * expertPart x wgu wd r ⟨t / 7 % 8, by omega⟩ ⟨t % 7, by omega⟩ q

/-- A finite weight at least zero distributes over a sum. -/
theorem weight_mul_sum {ι : Type} (s : Finset ι) (f : ι → EReal) (a : EReal) (h0 : 0 ≤ a) (h1 : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- All the points' terms, added to the residual, are the experts' layer, for weights between zero and one. -/
theorem points_mixture (x1 : RowsIdx R → EReal) (w : (⟨2, ![R, 128]⟩ : Shape).Idx → EReal) (hw : ∀ i, 0 ≤ w i ∧ w i ≤ 1) (r : Fin R) (q : Fin 1024) :
    x1 (ix2 r q) + ∑ t ∈ Finset.range 56, pointTerm x wgu wd w r q t = mixture x wgu wd x1 w r q := by
  unfold mixture
  refine congrArg (x1 (ix2 r q) + ·) ?_
  rw [Finset.sum_range, Fin.sum_univ_tiles 8 7 rfl]
  refine Finset.sum_congr rfl fun e _ => ?_
  rw [expert_sevenths, weight_mul_sum _ _ _ (hw _).1 (ne_of_lt (lt_of_le_of_lt (hw _).2 (EReal.coe_lt_top 1)))]
  refine Finset.sum_congr rfl fun j _ => ?_
  unfold pointTerm
  have he : (e.val * 7 + j.val) / 7 % 8 = e.val := by omega
  have hj : (e.val * 7 + j.val) % 7 = j.val := by omega
  simp only [he, hj]

/-- Eight terms weighted by the indicator of one expert, added up in order: that expert's term if the indicator is on, else zero. -/
theorem sum_indicator (b : Fin 8 → EReal) (y : Fin 8 → EReal) (u : Prop) [Decidable u] (n : Fin 8)
    (hb : ∀ e, b e = if n = e ∧ u then 1 else 0) :
    0 + b 0 * y 0 + b 1 * y 1 + b 2 * y 2 + b 3 * y 3 + b 4 * y 4 + b 5 * y 5 + b 6 * y 6 + b 7 * y 7 = if u then y n else 0 := by
  have hs : 0 + b 0 * y 0 + b 1 * y 1 + b 2 * y 2 + b 3 * y 3 + b 4 * y 4 + b 5 * y 5 + b 6 * y 6 + b 7 * y 7 = ∑ e, b e * y e := by
    rw [Fin.sum_univ_eight, zero_add]
  rw [hs]
  by_cases hu : u
  · rw [if_pos hu, Finset.sum_eq_single n (fun e _ he => by rw [hb, if_neg fun h => he h.1.symm, zero_mul]) (fun h => absurd (Finset.mem_univ n) h), hb, if_pos ⟨rfl, hu⟩, one_mul]
  · rw [if_neg hu, Finset.sum_eq_zero fun e _ => by rw [hb, if_neg fun h => hu h.2, zero_mul]]

end Cert.Routed
-- ==== Proof.KernelValue.lean ====
/- What the kernel leaves in a tile's block of the result, read at an index: the routed experts' function. -/
module

public import proofs.«01_k».proof.Proof.OkIdeal
public import proofs.«01_k».proof.Proof.Routed
public import Idealize.ShloMosaic.Lib.Pipeline.ValueKit

@[expose] public section

set_option maxRecDepth 16384

noncomputable section

namespace Cert.KernelIdeal.Rows

open Cert.KernelIdeal.Gen Cert.Routed
open Idealize.ShloMosaic Idealize.ShloMosaic.TcCoe

variable (m : (ℓ : Loc nD τ sig) → Buf (Elt Ideal) ℓ)

/-- The arguments as launched: rows, expert ids, used words, gate and up weights, down weights. -/
abbrev X (c : Dev nD) : FVec Ideal S36864x1024 .f32 := m ((c : Thread nD τ).loc main_arg0)
abbrev TE (c : Dev nD) : IVec S72 32 := m ((c : Thread nD τ).loc main_arg1)
abbrev TU (c : Dev nD) : IVec S72 32 := m ((c : Thread nD τ).loc main_arg2)
abbrev WGU (c : Dev nD) : FVec Ideal S8x1024x7168 .f32 := m ((c : Thread nD τ).loc main_arg3)
abbrev WD (c : Dev nD) : FVec Ideal S8x3584x1024 .f32 := m ((c : Thread nD τ).loc main_arg4)

/-- Narrowing the weights changes nothing over the reals. -/
theorem V_gate (c : Dev nD) : (show FVec Ideal S8x1024x7168 .bf16 from V m c main_v0) = WGU m c := by
  show V m c main_v0 = _
  entry_read
  rfl

/-- The same of the down weights. -/
theorem V_down (c : Dev nD) : (show FVec Ideal S8x3584x1024 .bf16 from V m c main_v1) = WD m c := by
  show V m c main_v1 = _
  entry_read
  rfl

/-- A step adds the half's gated product to the accumulator. -/
theorem step_apply (x : Vec Ideal S512x1024 .f32) (g u : Vec Ideal S1x1024x1792 .bf16) (d : Vec Ideal S1x1792x1024 .bf16) (a : Vec Ideal S512x1024 .f32) (p : Fin 512) (q : Fin 1024) :
    step x g u d a (ix2 p q) = (a (ix2 p q) : EReal) + ∑ k : Fin 1792,
      ((∑ j : Fin 1024, x (ix2 p j) * g (ix3 0 j k)) * Ideal.logistic (∑ j : Fin 1024, x (ix2 p j) * g (ix3 0 j k)) * (∑ j : Fin 1024, x (ix2 p j) * u (ix3 0 j k)) : EReal) * d (ix3 0 k q) := by
  pointwise [step, k0_pay2]

/-! ## The words the index maps and the body read -/

/-- A table's word that a rectangle of one element at the tile's number reads. -/
theorem tile_idx (t : Fin grid0.N) (ht : t.val / 2 < 72) :
    (Rect.unit (s := S72) (k0_off1 (grid0.coords t)) S1.size (k0_off1_inb (grid0.coords t))).emb (Shape.Idx.first (numel1_S1.symm ▸ Nat.one_pos)) = ix1 ⟨t.val / 2, ht⟩ := by
  funext a
  match a with
  | ⟨0, _⟩ =>
    refine Fin.ext ((Rect.emb_apply _ _ _).trans ?_)
    have hf : ((Shape.Idx.first (numel1_S1.symm ▸ Nat.one_pos) : S1.Idx) 0).val < 1 := ((Shape.Idx.first (numel1_S1.symm ▸ Nat.one_pos) : S1.Idx) 0).isLt
    have hc := coords_tile t
    show (BitVec.ofNat 32 (grid0.coords t 0).val).toNat + 1 * ((Shape.Idx.first (numel1_S1.symm ▸ Nat.one_pos) : S1.Idx) 0).val = t.val / 2
    rw [BitVec.toNat_ofNat]; omega

theorem tbl_ids (c : Dev nD) : tbl m 0 = TE m c := by
  obtain rfl : c = 0 := Subsingleton.elim _ _
  exact V_of_ne m 0 main_arg1 (by decide) (by decide)
theorem tbl_used (c : Dev nD) : tbl m 1 = TU m c := by
  obtain rfl : c = 0 := Subsingleton.elim _ _
  exact V_of_ne m 0 main_arg2 (by decide) (by decide)

/-- A point is at a used tile when its tile's word is positive. -/
theorem used_iff_tile (c : Dev nD) (t : Fin grid0.N) (ht : t.val / 2 < 72) : Used m c (grid0.coords t) ↔ UsedTile (TU m c) ⟨t.val / 2, ht⟩ := by
  unfold Used UsedTile
  rw [← tbl_used m c, ← tile_idx t ht]
  rfl

/-! ## The windows' blocks -/

/-- The word by which a point's weight windows choose the expert. -/
abbrev idWord (t : Fin grid0.N) : BitVec 32 :=
  (tbl m).at 0 (Rect.unit (s := S72) (k0_off1 (grid0.coords t)) S1.size (k0_off1_inb (grid0.coords t))) numel1_S1

theorem idWord_eq (c : Dev nD) (t : Fin grid0.N) (ht : t.val / 2 < 72) (h : ∀ w, (TE m c w).toNat < 8) :
    (idWord m t).toNat = (expertOf (TE m c) ⟨t.val / 2, ht⟩).val := by
  have e : idWord m t = TE m c (ix1 ⟨t.val / 2, ht⟩) := (congrArg (tbl m 0) (tile_idx t ht)).trans (congrFun (tbl_ids m c) _)
  rw [e]
  exact (Nat.mod_eq_of_lt (h _)).symm

theorem tile_word (t : Fin grid0.N) : (BitVec.ofNat 32 (grid0.coords t 0).val).toNat = t.val / 2 := by
  have ht : t.val < 144 := Nat.lt_of_lt_of_eq t.isLt N_0
  rw [coords_tile, BitVec.toNat_ofNat]; omega
theorem half_word (t : Fin grid0.N) : (BitVec.ofNat 32 (grid0.coords t 1).val).toNat = t.val % 2 := by
  rw [coords_half, BitVec.toNat_ofNat]; omega
theorem up_word (t : Fin grid0.N) : (Scalar.addi 2#32 (BitVec.ofNat 32 (grid0.coords t 1).val)).toNat = 2 + t.val % 2 := by
  show (2#32 + BitVec.ofNat 32 (grid0.coords t 1).val).toNat = _
  rw [BitVec.toNat_add, half_word, BitVec.toNat_ofNat]; omega

/-- The rows' block at a point. -/
theorem rows_block (hO : Ok m) (c : Dev nD) (t : Fin (cfgM m hO).N) (p : Fin 512) (j : Fin 1024) (r : Fin 36864) (hr : r.val = 512 * (t.val / 2) + p.val) :
    (iblk m hO c 0 t : FVec Ideal S512x1024 .f32) (ix2 p j) = X m c (ix2 r j) := by
  rw [show X m c = V m c main_arg0 from (V_of_ne m c main_arg0 (by decide) (by decide)).symm]
  refine congrArg (V m c main_arg0) (funext fun a => Fin.ext ?_)
  refine (Pipeline.Window.rect_emb_val ((cfgM m hO).win 0) t (ix2 p j) a).trans ?_
  match a with
  | ⟨0, _⟩ =>
    show (BitVec.ofNat 32 (grid0.coords t 0).val).toNat * 512 + p.val = r.val
    rw [tile_word]; omega
  | ⟨1, _⟩ => show 0 * 1024 + j.val = j.val; omega

/-- The gate weights' block at a point: the tile's expert, the half's columns. -/
theorem gate_block_apply (hO : Ok m) (c : Dev nD) (t : Fin (cfgM m hO).N) (j : Fin 1024) (k : Fin 1792) (e : Fin 8) (he : (idWord m t).toNat = e.val) (n : Fin 7168) (hn : n.val = 1792 * (t.val % 2) + k.val) :
    (iblk m hO c 1 t : FVec Ideal S1x1024x1792 .bf16) (ix3 0 j k) = WGU m c (ix3 e j n) := by
  rw [← V_gate m c]
  refine congrArg (V m c main_v0) (funext fun a => Fin.ext ?_)
  refine (Pipeline.Window.rect_emb_val ((cfgM m hO).win 1) t (ix3 0 j k) a).trans ?_
  match a with
  | ⟨0, _⟩ => show (idWord m t).toNat * 1 + 0 = e.val; omega
  | ⟨1, _⟩ => show 0 * 1024 + j.val = j.val; omega
  | ⟨2, _⟩ =>
    show (BitVec.ofNat 32 (grid0.coords t 1).val).toNat * 1792 + k.val = n.val
    rw [half_word]; omega

/-- The up weights' block at a point: the same columns, past the gate's. -/
theorem up_block_apply (hO : Ok m) (c : Dev nD) (t : Fin (cfgM m hO).N) (j : Fin 1024) (k : Fin 1792) (e : Fin 8) (he : (idWord m t).toNat = e.val) (n : Fin 7168) (hn : n.val = 3584 + (1792 * (t.val % 2) + k.val)) :
    (iblk m hO c 2 t : FVec Ideal S1x1024x1792 .bf16) (ix3 0 j k) = WGU m c (ix3 e j n) := by
  rw [← V_gate m c]
  refine congrArg (V m c main_v0) (funext fun a => Fin.ext ?_)
  refine (Pipeline.Window.rect_emb_val ((cfgM m hO).win 2) t (ix3 0 j k) a).trans ?_
  match a with
  | ⟨0, _⟩ => show (idWord m t).toNat * 1 + 0 = e.val; omega
  | ⟨1, _⟩ => show 0 * 1024 + j.val = j.val; omega
  | ⟨2, _⟩ =>
    show (Scalar.addi 2#32 (BitVec.ofNat 32 (grid0.coords t 1).val)).toNat * 1792 + k.val = n.val
    rw [up_word]; omega

/-- The down weights' block at a point: the tile's expert, the half's rows. -/
theorem down_block_apply (hO : Ok m) (c : Dev nD) (t : Fin (cfgM m hO).N) (k : Fin 1792) (q : Fin 1024) (e : Fin 8) (he : (idWord m t).toNat = e.val) (n : Fin 3584) (hn : n.val = 1792 * (t.val % 2) + k.val) :
    (iblk m hO c 3 t : FVec Ideal S1x1792x1024 .bf16) (ix3 0 k q) = WD m c (ix3 e n q) := by
  rw [← V_down m c]
  refine congrArg (V m c main_v1) (funext fun a => Fin.ext ?_)
  refine (Pipeline.Window.rect_emb_val ((cfgM m hO).win 3) t (ix3 0 k q) a).trans ?_
  match a with
  | ⟨0, _⟩ => show (idWord m t).toNat * 1 + 0 = e.val; omega
  | ⟨1, _⟩ =>
    show (BitVec.ofNat 32 (grid0.coords t 1).val).toNat * 1792 + k.val = n.val
    rw [half_word]; omega
  | ⟨2, _⟩ => show 0 * 1024 + q.val = q.val; omega

/-! ## The result -/

/-- A step over blocks that hold a row of the sorted rows and half of an expert's weights adds that half's part. -/
theorem step_of_blocks (B0 : FVec Ideal S512x1024 .f32) (B1 B2 : FVec Ideal S1x1024x1792 .bf16) (B3 : FVec Ideal S1x1792x1024 .bf16)
    (a : FVec Ideal S512x1024 .f32) (x : FVec Ideal S36864x1024 .f32) (wgu : FVec Ideal S8x1024x7168 .f32) (wd : FVec Ideal S8x3584x1024 .f32)
    (p : Fin 512) (q : Fin 1024) (r : Fin 36864) (e : Fin 8) (s : ℕ) (hs : s < 2)
    (h0 : ∀ j : Fin 1024, (B0 (ix2 p j) : EReal) = x (ix2 r j))
    (h1 : ∀ (j : Fin 1024) (k : Fin 1792), (B1 (ix3 0 j k) : EReal) = wgu (ix3 e j ⟨1792 * s + k.val, by omega⟩))
    (h2 : ∀ (j : Fin 1024) (k : Fin 1792), (B2 (ix3 0 j k) : EReal) = wgu (ix3 e j ⟨3584 + (1792 * s + k.val), by omega⟩))
    (h3 : ∀ k : Fin 1792, (B3 (ix3 0 k q) : EReal) = wd (ix3 e ⟨1792 * s + k.val, by omega⟩ q)) :
    ((step (F := Ideal) B0 B1 B2 B3 a : FVec Ideal S512x1024 .f32) (ix2 p q) : EReal)
      = (a (ix2 p q) : EReal) + ∑ k : Fin 1792, Routed.hidden x wgu r e ⟨1792 * s + k.val, by omega⟩ * wd (ix3 e ⟨1792 * s + k.val, by omega⟩ q) := by
  refine (step_apply B0 B1 B2 B3 a p q).trans ?_
  simp only [h0, h1, h2, h3]
  rfl

/-- A step at a point adds the half's part of the tile's expert. -/
theorem step_point (hO : Ok m) (c : Dev nD) (t : Fin (cfgM m hO).N) (a : FVec Ideal S512x1024 .f32) (p : Fin 512) (q : Fin 1024)
    (r : Fin 36864) (hr : r.val = 512 * (t.val / 2) + p.val) (e : Fin 8) (he : (idWord m t).toNat = e.val) (s : ℕ) (hs : t.val % 2 = s) (hs2 : s < 2) :
    ((step (F := Ideal) (iblk m hO c 0 t) (iblk m hO c 1 t) (iblk m hO c 2 t) (iblk m hO c 3 t) a : FVec Ideal S512x1024 .f32) (ix2 p q) : EReal)
      = (a (ix2 p q) : EReal) + ∑ k : Fin 1792, Routed.hidden (X m c) (WGU m c) r e ⟨1792 * s + k.val, by omega⟩ * WD m c (ix3 e ⟨1792 * s + k.val, by omega⟩ q) :=
  step_of_blocks _ _ _ _ a (X m c) (WGU m c) (WD m c) p q r e s hs2
    (fun j => rows_block m hO c t p j r hr)
    (fun j k => gate_block_apply m hO c t j k e he ⟨1792 * s + k.val, by omega⟩ (by rw [hs]))
    (fun j k => up_block_apply m hO c t j k e he ⟨3584 + (1792 * s + k.val), by omega⟩ (by rw [hs]))
    (fun k => down_block_apply m hO c t k q e he ⟨1792 * s + k.val, by omega⟩ (by rw [hs]))

/-- The result array's contents. -/
def G (c : Dev nD) : FVec Ideal S36864x1024 .f32 := fun i => out (X m c) (WGU m c) (WD m c) (TE m c) (TU m c) (i 0) (i 1)

/-- What a tile's second point leaves is the routed experts' function at the tile's rows. -/
theorem tileOut_apply (hO : Ok m) (c : Dev nD) (h : ∀ w, (TE m c w).toNat < 8) (t : Fin (cfgM m hO).N) (ht : t.val % 2 = 1) (p : Fin 512) (q : Fin 1024)
    (r : Fin 36864) (hr : r.val = 512 * (t.val / 2) + p.val) :
    tileOut m hO c t (ix2 p q) = out (X m c) (WGU m c) (WD m c) (TE m c) (TU m c) r q := by
  have htN : t.val < 144 := Nat.lt_of_lt_of_eq t.isLt N_0
  have htile : tileOf r = ⟨t.val / 2, by omega⟩ := Fin.ext (by show r.val / 512 = t.val / 2; omega)
  have hpt : (prev m hO t).val = t.val - 1 := rfl
  unfold tileOut out
  rw [htile]
  by_cases hU : Used m c (grid0.coords t)
  · rw [if_pos hU, if_pos ((used_iff_tile m c t (by omega)).mp hU)]
    have hz : ((k0_pay1 (F := Ideal)) (ix2 p q) : EReal) = 0 := by pointwise [k0_pay1]
    have hprev : expertOf (TE m c) ⟨(prev m hO t).val / 2, by omega⟩ = expertOf (TE m c) ⟨t.val / 2, by omega⟩ :=
      congrArg (expertOf (TE m c)) (Fin.ext (by show (prev m hO t).val / 2 = t.val / 2; omega))
    refine (step_point m hO c t _ p q r hr _ (idWord_eq m c t (by omega) h) 1 ht (by omega)).trans ?_
    refine (congrArg (· + _) (step_point m hO c (prev m hO t) _ p q r (by omega) (expertOf (TE m c) ⟨t.val / 2, by omega⟩)
      ((idWord_eq m c (prev m hO t) (by omega) h).trans (congrArg Fin.val hprev)) 0 (by omega) (by omega))).trans ?_
    rw [hz, zero_add, expert_halves]
    refine congrArg₂ (fun u v : EReal => u + v) (Finset.sum_congr rfl fun k _ => ?_) (Finset.sum_congr rfl fun k _ => rfl)
    simp only [Nat.mul_zero, Nat.zero_add]
  · rw [if_neg hU, if_neg (fun h' => hU ((used_iff_tile m c t (by omega)).mpr h'))]
    pointwise [k0_pay3]

/-- The kernel's result array after the run. -/
theorem result_eq (hO : Ok m) (c : Dev nD) (h : ∀ w, (TE m c w).toNat < 8) (r : PUnit × MemSt nD τ sig (Elt Ideal))
    (hr : Pipeline.FramePost (Pipeline.pin pcfgs fun _ => adm m hO) (dats m hO) 0 (V m) r) :
    r.2.mem ((c.tc : Thread nD τ).loc main_v2) = G m c := by
  refine result_of_post m hO r hr c (G m c) (fun t ht => ?_) (fun i => ?_)
  · have htN : t.val < 144 := Nat.lt_of_lt_of_eq t.isLt N_0
    funext y
    obtain ⟨p, q, rfl⟩ : ∃ (p : Fin 512) (q : Fin 1024), y = ix2 p q := ⟨y 0, y 1, eq_ix2 y⟩
    have hp := p.isLt
    rw [tileOut_apply m hO c h t ht p q ⟨512 * (t.val / 2) + p.val, by omega⟩ rfl]
    refine Eq.trans ?_ (congrArg (G m c) (?_ : ix2 ⟨512 * (t.val / 2) + p.val, by omega⟩ q = _))
    · rfl
    · funext a
      refine Fin.ext (Eq.symm ((Pipeline.Window.rect_emb_val ((cfgM m hO).win 4) t (ix2 p q) a).trans ?_))
      match a with
      | ⟨0, _⟩ =>
        show (BitVec.ofNat 32 (grid0.coords t 0).val).toNat * 512 + p.val = 512 * (t.val / 2) + p.val
        rw [tile_word]; omega
      | ⟨1, _⟩ => show 0 * 1024 + q.val = q.val; omega
  · have hi : (i 0).val < 36864 := (i 0).isLt
    have hi1 : (i 1).val < 1024 := (i 1).isLt
    have hlt : 2 * ((i 0).val / 512) + 1 < (cfgM m hO).N := Nat.lt_of_lt_of_eq (by omega) N_0.symm
    refine ⟨⟨2 * ((i 0).val / 512) + 1, hlt⟩, by show (2 * ((i 0).val / 512) + 1) % 2 = 1; omega, ?_⟩
    refine (congrArg (i ∈ ·) (View.set_slice_whole main_v2 (((cfgM m hO).win 4).rect ⟨2 * ((i 0).val / 512) + 1, hlt⟩))).mpr (Rect.mem_set_unit.mpr fun a => ?_)
    match a with
    | ⟨0, _⟩ =>
      show (BitVec.ofNat 32 (grid0.coords _ 0).val).toNat * 512 ≤ (i 0).val ∧ (i 0).val < (BitVec.ofNat 32 (grid0.coords _ 0).val).toNat * 512 + 512
      rw [tile_word]
      show (2 * ((i 0).val / 512) + 1) / 2 * 512 ≤ (i 0).val ∧ (i 0).val < (2 * ((i 0).val / 512) + 1) / 2 * 512 + 512
      omega
    | ⟨1, _⟩ => show 0 * 1024 ≤ (i 1).val ∧ (i 1).val < 0 * 1024 + 1024; omega

end Cert.KernelIdeal.Rows
-- ==== Proof.RefValue.lean ====
/- The reference's result at an index: the dense loop over the experts, weighted by the routing's indicator, is the routed
experts' function. -/
module

public import proofs.«01_k».proof.Proof.Gen.ReferenceIdeal.Run
public import proofs.«01_k».proof.Proof.Routed
public import Idealize.ShloMosaic.Lib.Tactic.CleanTypes

@[expose] public section

set_option maxRecDepth 16384

noncomputable section

namespace Cert.ReferenceIdeal.Rows

open Cert.ReferenceIdeal Cert.ReferenceIdeal.Gen Cert.ReferenceIdeal.Value
open Idealize.ShloMosaic Idealize.ShloMosaic.TcCoe Idealize.ShloMosaic.StableHlo Cert.Routed

variable (x : FVec Ideal S36864x1024 .f32) (wgu : FVec Ideal S8x1024x7168 .f32) (wd : FVec Ideal S8x3584x1024 .f32)

/-- The rows times one expert's gate and up weights. -/
theorem proj_apply (e : ℕ) (he : e < 8) (hs : S8x1024x7168.Slices ![e, 0, 0] S1x1024x7168) (hc : S1x1024x7168.ShapeCasts S1024x7168) (r : Fin 36864) (n : Fin 7168) :
    Host.dotGeneral dot_S36864x1024_S1024x7168_S36864x7168_1_0_0_1_n_n none x (shapeCast _ (extractStridedSlice S1x1024x7168 ![e, 0, 0] wgu hs) hc) (ix2 r n)
      = proj x wgu r ⟨e, he⟩ n := by
  pointwise [proj]

/-- One expert's term of the sum: its weight times what it makes of a row. -/
theorem term_apply (C : FVec Ideal S36864x8 .f32) (e : ℕ) (he : e < 8) (hs : S8x1024x7168.Slices ![e, 0, 0] S1x1024x7168) (hc : S1x1024x7168.ShapeCasts S1024x7168)
    (hs' : S8x3584x1024.Slices ![e, 0, 0] S1x3584x1024) (hc' : S1x3584x1024.ShapeCasts S3584x1024) (hsC : S36864x8.Slices ![0, e] S36864x1)
    (P : FVec Ideal S36864x7168 .f32) (hP : P = Host.dotGeneral dot_S36864x1024_S1024x7168_S36864x7168_1_0_0_1_n_n none x (shapeCast _ (extractStridedSlice S1x1024x7168 ![e, 0, 0] wgu hs) hc))
    (g : FVec Ideal S36864x3584 .f32) (hg : g = extractStridedSlice S36864x3584 ![0, 0] P slices_S36864x7168_S36864x3584_0_0) (r : Fin 36864) (q : Fin 1024) :
    mulf (F := Ideal) (φ := .f32) (broadcastInDim S36864x1024 ![0, 1] bcast_S36864x1_S36864x1024_0_1 (id (extractStridedSlice S36864x1 ![0, e] C hsC)))
      (Host.dotGeneral dot_S36864x3584_S3584x1024_S36864x1024_1_0_0_1_n_n none
        (mulf (mulf g (Host.divf (broadcastInDim S36864x3584 ![] bcast_S_S36864x3584 (constant S_ .f32 0x3F800000#32))
          (addf (broadcastInDim S36864x3584 ![] bcast_S_S36864x3584 (constant S_ .f32 0x3F800000#32)) (Host.exp (Host.negf g)))))
          (extractStridedSlice S36864x3584 ![0, 3584] P slices_S36864x7168_S36864x3584_0_3584))
        (shapeCast _ (extractStridedSlice S1x3584x1024 ![e, 0, 0] wd hs') hc')) (ix2 r q)
      = C (ix2 r ⟨e, he⟩) * expert x wgu wd r ⟨e, he⟩ q := by
  have hPa : ∀ n : Fin 7168, P (ix2 r n) = proj x wgu r ⟨e, he⟩ n := fun n => by rw [hP]; exact proj_apply x wgu e he hs hc r n
  subst hg
  pointwise [expert, Routed.hidden, id]
  simp only [hPa]
  rfl

/-- The routing's indicator at a row and an expert: one where the row's tile is used and names the expert, else zero. -/
theorem combine_apply (W : Valuation τ sig (Elt Ideal)) (te tu : IVec S72 32) (h1 : W (Proc.devRef .tc main_arg1) = te) (h2 : W (Proc.devRef .tc main_arg2) = tu)
    (hte : ∀ w, (te w).toNat < 8) (r : Fin 36864) (e : Fin 8) :
    (show FVec Ideal S36864x8 .f32 from res_main_v13 W) (ix2 r e) = (if expertOf te (tileOf r) = e ∧ UsedTile tu (tileOf r) then 1 else 0 : EReal) := by
  have hlt := hte (ix1 (tileOf r))
  have e8 := e.isLt
  have heq : IntOp.cmpi .eq (te (ix1 (tileOf r))) (BitVec.ofNat 32 e.val) = 1#1 ↔ expertOf te (tileOf r) = e := by
    have hb (p : Bool) : BitVec.ofBool p = 1#1 ↔ p = true := by cases p <;> decide
    rw [IntOp.cmpi, hb, beq_iff_eq, expertOf, Fin.ext_iff, ← BitVec.toNat_inj, BitVec.toNat_ofNat]
    simp only
    omega
  show (res_main_v13 W) (ix2 r e) = _
  unfold res_main_v13
  clean_types
  rw [h1, h2]
  pointwise []
  rw [show (⟨r.val / 512, _⟩ : Fin 72) = tileOf r from rfl]
  have hand (a b : BitVec 1) : IntOp.andi a b = 1#1 ↔ a = 1#1 ∧ b = 1#1 := by revert a b; decide
  have hp : IntOp.andi (IntOp.cmpi .eq (te (ix1 (tileOf r))) (BitVec.ofNat 32 e.val)) (IntOp.cmpi .sgt (tu (ix1 (tileOf r))) 0#32) = 1#1
      ↔ expertOf te (tileOf r) = e ∧ UsedTile tu (tileOf r) := by rw [hand, heq, UsedTile]
  have hsel (b : BitVec 1) (u : Prop) [Decidable u] (h : b = 1#1 ↔ u) : Scalar.select b (1 : EReal) 0 = if u then 1 else 0 := by
    rcases BitVec.eq_zero_or_eq_one b with rfl | rfl
    · rw [if_neg fun hu => absurd (h.mpr hu) (by decide)]; rfl
    · rw [if_pos (h.mp rfl)]; rfl
  exact hsel _ _ hp

/-- The reference's result. -/
theorem result_apply (W : Valuation τ sig (Elt Ideal)) (te tu : IVec S72 32) (h0 : W (Proc.devRef .tc main_arg0) = x) (h1 : W (Proc.devRef .tc main_arg1) = te)
    (h2 : W (Proc.devRef .tc main_arg2) = tu) (h3 : W (Proc.devRef .tc main_arg3) = wgu) (h4 : W (Proc.devRef .tc main_arg4) = wd)
    (hte : ∀ w, (te w).toNat < 8) (R : FVec Ideal S36864x1024 .f32) (hR : R = addf (addf (res_main_v104 W) (mulf (broadcastInDim S36864x1024 ![0, 1] bcast_S36864x1_S36864x1024_0_1 (id (extractStridedSlice S36864x1 ![0, 6] (res_main_v13 W) slices_S36864x8_S36864x1_0_6))) (Host.dotGeneral dot_S36864x3584_S3584x1024_S36864x1024_1_0_0_1_n_n none (mulf (mulf (res_main_v108 W) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (res_main_v108 W)))))) (extractStridedSlice S36864x3584 ![0, 3584] (res_main_v107 W) slices_S36864x7168_S36864x3584_0_3584)) (shapeCast S3584x1024 (extractStridedSlice S1x3584x1024 ![6, 0, 0] wd slices_S8x3584x1024_S1x3584x1024_6_0_0) shapeCasts_S1x3584x1024_S3584x1024)))) (mulf (broadcastInDim S36864x1024 ![0, 1] bcast_S36864x1_S36864x1024_0_1 (id (extractStridedSlice S36864x1 ![0, 7] (res_main_v13 W) slices_S36864x8_S36864x1_0_7))) (Host.dotGeneral dot_S36864x3584_S3584x1024_S36864x1024_1_0_0_1_n_n none (mulf (mulf (res_main_v123 W) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (res_main_v123 W)))))) (extractStridedSlice S36864x3584 ![0, 3584] (res_main_v122 W) slices_S36864x7168_S36864x3584_0_3584)) (shapeCast S3584x1024 (extractStridedSlice S1x3584x1024 ![7, 0, 0] wd slices_S8x3584x1024_S1x3584x1024_7_0_0) shapeCasts_S1x3584x1024_S3584x1024)))) (r : Fin 36864) (q : Fin 1024) :
    R (ix2 r q) = out x wgu wd te tu r q := by
  have hC := combine_apply W te tu h1 h2 hte r
  generalize hCC : (show FVec Ideal S36864x8 .f32 from res_main_v13 W) = C at hC
  have hC' : res_main_v13 W = C := hCC
  subst hR
  unfold res_main_v104 res_main_v18 res_main_v33 res_main_v48 res_main_v63 res_main_v78 res_main_v93 res_main_v108 res_main_v123
  unfold res_main_v17 res_main_v32 res_main_v47 res_main_v62 res_main_v77 res_main_v92 res_main_v107 res_main_v122
  clean_types
  rw [hC', h0, h3, h4]
  simp only [addf_apply]
  have T := fun (e : ℕ) (he : e < 8) hs hc hs' hc' hsC => term_apply x wgu wd C e he hs hc hs' hc' hsC _ rfl _ rfl r q
  rw [T 0 (by omega), T 1 (by omega), T 2 (by omega), T 3 (by omega), T 4 (by omega), T 5 (by omega), T 6 (by omega), T 7 (by omega)]
  rw [show (broadcastInDim S36864x1024 ![] bcast_S_S36864x1024 (constant (F := Ideal) S_ .f32 0x00000000#32) : FVec Ideal S36864x1024 .f32) (ix2 r q) = (0 : EReal) from by pointwise []]
  exact sum_indicator (fun e => C (ix2 r e)) (fun e => expert x wgu wd r e q) _ _ hC

end Cert.ReferenceIdeal.Rows
-- ==== Proof.SampleCases.lean ====
/- The experts' kernel over the sample rows: what its points leave in the accumulator and in the result. -/
module

public import proofs.«01_k».proof.Proof.Gen.Kernel2Ideal.Value
public import Idealize.ShloMosaic.Lib.Pipeline.Value
public import Idealize.ShloMosaic.Lib.Tactic

@[expose] public section

set_option maxRecDepth 16384

noncomputable section

namespace Cert.Kernel2Ideal.Sample

open Cert.Kernel2Ideal Cert.Kernel2Ideal.Gen
open Idealize.ShloMosaic Idealize.ShloMosaic.TcCoe

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- A point's step over the accumulator `acc`: normalized rows, weights, gate, up and down blocks. -/
abbrev step (i : grid0.Coords) (h : Vec F S32x1024 .bf16) (w : Vec F S32x128 .f32) (g u : Vec F S1x1024x512 .bf16) (d : Vec F S1x512x1024 .bf16) (acc : Vec F S32x1024 .f32) : Vec F S32x1024 .f32 :=
  k0_pay1 (k0_pay4 i h g u w acc d)

section Cases

variable (c : Dev nD) (i : grid0.Coords) (a3 : Memref sig .tc .vmem S32x1024 .f32) (h3 : a3.IsWhole) (a4 : Memref sig .tc .vmem S32x1024 .bf16) (h4 : a4.IsWhole)
  (a5 : Memref sig .tc .vmem S32x128 .f32) (h5 : a5.IsWhole) (a6 : Memref sig .tc .vmem S1x1024x512 .bf16) (h6 : a6.IsWhole) (a7 : Memref sig .tc .vmem S1x1024x512 .bf16) (h7 : a7.IsWhole)
  (a8 : Memref sig .tc .vmem S1x512x1024 .bf16) (h8 : a8.IsWhole) (a9 : Memref sig .tc .vmem S32x1024 .f32) (h9 : a9.IsWhole) (a10 : Memref sig .tc .vmem S32x1024 .f32) (h10 : a10.IsWhole)
  (x0 : Vec F S32x1024 .f32) (x1 : Vec F S32x1024 .bf16) (x2 : Vec F S32x128 .f32) (x3 x4 : Vec F S1x1024x512 .bf16) (x5 : Vec F S1x512x1024 .bf16) (acc : Vec F S32x1024 .f32)

/-- The first point clears the accumulator and steps. -/
theorem first_acc (hc0 : cond0_0 i) (hc1 : ¬cond0_1 i) :
    sout0_A_0 c i a3 h3 a4 h4 a5 h5 a6 h6 a7 h7 a8 h8 a9 h9 a10 h10 hc0 hc1 x0 x1 x2 x3 x4 x5 = step i x1 x2 x3 x4 x5 k0_pay3 := by
  unfold sout0_A_0
  rw [View.read_writes_eq_canon _ _ _ (scover0_A_0 c i a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S32x1024) zero2, View.readCov_unit_zero (S := S32x1024) _ zero2]
  simp only [View.readAt_eq_ld, h4.read_unread, h5.read_unread, h6.read_unread, h7.read_unread, h8.read_unread,
    View.ld_unit_zero (S := S32x1024) zero2, View.ld_unit_zero (S := S32x128) zero2, View.ld_unit_zero (S := S1x1024x512) zero3, View.ld_unit_zero (S := S1x512x1024) zero3]

/-- A middle point steps. -/
theorem middle_acc (hc0 : ¬cond0_0 i) (hc1 : ¬cond0_1 i) :
    sout0_B_0 c i a3 h3 a4 h4 a5 h5 a6 h6 a7 h7 a8 h8 a9 h9 a10 h10 hc0 hc1 x0 x1 x2 x3 x4 x5 acc = step i x1 x2 x3 x4 x5 acc := by
  unfold sout0_B_0
  rw [View.read_writes_eq_canon _ _ _ (scover0_B_0 c i a3 h3 a4 h4 a5 h5 a6 h6 a7 h7 a8 h8 a9 h9 a10 h10 hc0 hc1 x0 x1 x2 x3 x4 x5 acc)]
  unfold kernelRun0_B
  dsimp only
  sl_unfold_words
  rw [View.canon_unit_zero zero2]
  simp only [View.readAt_eq_ld, h4.read_unread, h5.read_unread, h6.read_unread, h7.read_unread, h8.read_unread, h10.read_unread,
    View.ld_unit_zero (S := S32x1024) zero2, View.ld_unit_zero (S := S32x128) zero2, View.ld_unit_zero (S := S1x1024x512) zero3, View.ld_unit_zero (S := S1x512x1024) zero3]

/-- The last point steps and stores the residual plus the accumulator. -/
theorem last_out (hc0 : ¬cond0_0 i) (hc1 : cond0_1 i) :
    out0_C_6 c i a3 h3 a4 h4 a5 h5 a6 h6 a7 h7 a8 h8 a9 h9 a10 h10 hc0 hc1 x0 x1 x2 x3 x4 x5 acc = k0_pay2 x0 (step i x1 x2 x3 x4 x5 acc) := by
  unfold out0_C_6
  rw [View.read_writes_eq_canon _ _ _ (cover0_C_6 c i a3 h3 a4 h4 a5 h5 a6 h6 a7 h7 a8 h8 a9 h9 a10 h10 hc0 hc1 x0 x1 x2 x3 x4 x5 acc)]
  unfold kernelRun0_C
  dsimp only
  sl_unfold_words
  rw [View.canon_unit_zero zero2, View.readCov_unit_zero (S := S32x1024) _ zero2]
  simp only [View.readAt_eq_ld, h3.read_unread, h4.read_unread, h5.read_unread, h6.read_unread, h7.read_unread, h8.read_unread, h10.read_unread,
    View.ld_unit_zero (S := S32x1024) zero2, View.ld_unit_zero (S := S32x128) zero2, View.ld_unit_zero (S := S1x1024x512) zero3, View.ld_unit_zero (S := S1x512x1024) zero3]

end Cases

/-! ## The accumulator, point by point -/

/-- A point's step over its windows' blocks. -/
abbrev stepAt (c : Dev nD) (t : Fin cfg0.N) (acc : Vec F S32x1024 .f32) : Vec F S32x1024 .f32 :=
  step (grid0.coords t) (iblk m c 1 t) (iblk m c 2 t) (iblk m c 3 t) (iblk m c 4 t) (iblk m c 5 t) acc

theorem acc_first (c : Dev nD) (t : Fin cfg0.N) (h0 : t.val % 56 = 0) (h1 : ¬ t.val % 56 = 55) :
    (outsAt0 m c t.val t.isLt).2 = stepAt m c t k0_pay3 := by
  rw [outsAt0_A m c t h0 h1]
  dsimp only
  rw [first_acc]

theorem acc_next (c : Dev nD) (t : Fin cfg0.N) (h0 : ¬ t.val % 56 = 0) (h1 : ¬ t.val % 56 = 55) (k : ℕ) (hk : k < cfg0.N) (e : t.val = k + 1) :
    (outsAt0 m c t.val t.isLt).2 = stepAt m c t (outsAt0 m c k hk).2 := by
  obtain rfl : k = t.val - 1 := by omega
  rw [outsAt0_B m c t h0 h1]
  dsimp only
  rw [middle_acc]

theorem out_last (c : Dev nD) (t : Fin cfg0.N) (h0 : ¬ t.val % 56 = 0) (h1 : t.val % 56 = 55) (k : ℕ) (hk : k < cfg0.N) (e : t.val = k + 1) :
    (outsAt0 m c t.val t.isLt).1 = k0_pay2 (iblk m c 0 t) (stepAt m c t (outsAt0 m c k hk).2) := by
  obtain rfl : k = t.val - 1 := by omega
  rw [outsAt0_C m c t h0 h1]
  dsimp only
  rw [last_out]

/-- The result array: the residual plus the accumulator after the last point. -/
theorem result_out (c : Dev nD) (t : Fin cfg0.N) (h : t.val = 55) (k : ℕ) (hk : k < cfg0.N) (e : t.val = k + 1) :
    Value.G6 m c = k0_pay2 (iblk m c 0 t) (stepAt m c t (outsAt0 m c k hk).2) := by
  rw [← out_last m c t (by omega) (by omega) k hk e, Value.outsAt0_sweep, Value.G6_last]
  exact congrArg Prod.fst (Value.fold0_congr m c _ _ _ _ h.symm)

end Cert.Kernel2Ideal.Sample
-- ==== Proof.SampleValue.lean ====
/- The experts' kernel over the sample rows, read at an index: the residual plus the weighted experts. -/
module

public import proofs.«01_k».proof.Proof.SampleCases
public import proofs.«01_k».proof.Proof.Routed
public import Idealize.ShloMosaic.Lib.Pipeline.ValueKit

@[expose] public section

set_option maxRecDepth 16384

noncomputable section

namespace Cert.Kernel2Ideal.Sample

open Cert.Kernel2Ideal Cert.Kernel2Ideal.Gen Cert.Routed
open Idealize.ShloMosaic Idealize.ShloMosaic.TcCoe

variable (m : (ℓ : Loc nD τ sig) → Buf (Elt Ideal) ℓ)

/-- The arguments as launched: residual rows, normalized rows, routing weights, gate and up weights, down weights. -/
abbrev X1 (c : Dev nD) : FVec Ideal S32x1024 .f32 := m ((c : Thread nD τ).loc main_arg0)
abbrev H (c : Dev nD) : FVec Ideal S32x1024 .bf16 := m ((c : Thread nD τ).loc main_arg1)
abbrev WT (c : Dev nD) : FVec Ideal S32x128 .f32 := m ((c : Thread nD τ).loc main_arg2)
abbrev WGU (c : Dev nD) : FVec Ideal S8x1024x7168 .f32 := m ((c : Thread nD τ).loc main_arg3)
abbrev WD (c : Dev nD) : FVec Ideal S8x3584x1024 .f32 := m ((c : Thread nD τ).loc main_arg4)

/-- Narrowing the weights changes nothing over the reals. -/
theorem V_gate (c : Dev nD) : (show FVec Ideal S8x1024x7168 .bf16 from V m c main_v0) = WGU m c := by
  show V m c main_v0 = _
  entry_read
  rfl

/-- The same of the down weights. -/
theorem V_down (c : Dev nD) : (show FVec Ideal S8x3584x1024 .bf16 from V m c main_v1) = WD m c := by
  show V m c main_v1 = _
  entry_read
  rfl

/-- The weight the lanes' sum picks: the word's lane. -/
theorem lane_sum (w : Fin 128 → EReal) (e : Fin 128) : (∑ l : Fin 128, if l = e then w l else 0) = w e := by
  rw [Finset.sum_ite_eq' Finset.univ e w, if_pos (Finset.mem_univ e)]

/-- A lane's test against a word below 128 is the test of the numbers. -/
theorem lane_select (l : Fin 128) (e : Fin 128) (x : EReal) :
    Scalar.select (IntOp.cmpi .eq (BitVec.ofNat 32 l.val) (BitVec.ofNat 32 e.val)) x 0 = if l = e then x else 0 := by
  by_cases h : l = e
  · subst h
    rw [if_pos rfl]
    simp [Scalar.select, IntOp.cmpi]
  · have hv : l.val ≠ e.val := fun hh => h (Fin.ext hh)
    have hb : (BitVec.ofNat 32 l.val == BitVec.ofNat 32 e.val) = false := by
      rw [beq_eq_false_iff_ne]
      intro hh
      have := congrArg BitVec.toNat hh
      simp only [BitVec.toNat_ofNat] at this
      omega
    rw [if_neg h]
    simp [Scalar.select, IntOp.cmpi, hb]

/-- A step adds the point's weighted gated product to the accumulator. -/
theorem step_apply (i : grid0.Coords) (h : Vec Ideal S32x1024 .bf16) (w : Vec Ideal S32x128 .f32) (g u : Vec Ideal S1x1024x512 .bf16) (d : Vec Ideal S1x512x1024 .bf16) (a : Vec Ideal S32x1024 .f32)
    (p : Fin 32) (q : Fin 1024) (e : Fin 128) (he : (i 1).val = e.val) :
    (step (F := Ideal) i h w g u d a (ix2 p q) : EReal) = (a (ix2 p q) : EReal) + w (ix2 p e) * ∑ k : Fin 512,
      ((∑ j : Fin 1024, h (ix2 p j) * g (ix3 0 j k)) * Ideal.logistic (∑ j : Fin 1024, h (ix2 p j) * g (ix3 0 j k)) * (∑ j : Fin 1024, h (ix2 p j) * u (ix3 0 j k)) : EReal) * d (ix3 0 k q) := by
  rw [← lane_sum (fun l => w (ix2 p l)) e]
  pointwise [step, k0_pay1, k0_pay4]
  simp only [he, lane_select]

/-! ## The windows' blocks -/

theorem N_lt (t : Fin cfg0.N) : t.val < 56 := Nat.lt_of_lt_of_eq t.isLt N_0

theorem coords_rows (t : Fin cfg0.N) : (grid0.coords t 0).val = 0 := by
  have h := (grid0.coords t 0).isLt
  have h' : (grid0.coords t 0).val < 1 := h
  omega
theorem coords_expert (t : Fin cfg0.N) : (grid0.coords t 1).val = t.val / 7 % 8 := Pipeline.Grid.coords_val t 1 (by decide) rfl
theorem coords_part (t : Fin cfg0.N) : (grid0.coords t 2).val = t.val % 7 := by
  have h : (grid0.coords t 2).val = t.val / 1 % 7 := Pipeline.Grid.coords_val t 2 (by decide) rfl
  rw [h, Nat.div_one]

theorem rows_word (t : Fin cfg0.N) : (BitVec.ofNat 32 (grid0.coords t 0).val).toNat = 0 := by
  rw [coords_rows]; rfl
theorem expert_word (t : Fin cfg0.N) : (BitVec.ofNat 32 (grid0.coords t 1).val).toNat = t.val / 7 % 8 := by
  rw [coords_expert, BitVec.toNat_ofNat]; omega
theorem part_word (t : Fin cfg0.N) : (BitVec.ofNat 32 (grid0.coords t 2).val).toNat = t.val % 7 := by
  rw [coords_part, BitVec.toNat_ofNat]; omega
theorem up_word (t : Fin cfg0.N) : (Scalar.addi 7#32 (BitVec.ofNat 32 (grid0.coords t 2).val)).toNat = 7 + t.val % 7 := by
  show (7#32 + BitVec.ofNat 32 (grid0.coords t 2).val).toNat = _
  rw [BitVec.toNat_add, part_word, BitVec.toNat_ofNat]; omega

/-- The blocks of the rows and of the weights are their arrays. -/
theorem x1_block (c : Dev nD) (t : Fin cfg0.N) (p : Fin 32) (q : Fin 1024) : (iblk m c 0 t : FVec Ideal S32x1024 .f32) (ix2 p q) = X1 m c (ix2 p q) := by
  rw [show X1 m c = V m c main_arg0 from (V_main_arg0 m c).symm]
  refine congrArg (V m c main_arg0) (funext fun a => Fin.ext ?_)
  refine (Pipeline.Window.rect_emb_val (cfg0.win 0) t (ix2 p q) a).trans ?_
  match a with
  | ⟨0, _⟩ => show (BitVec.ofNat 32 (grid0.coords t 0).val).toNat * 32 + p.val = p.val; rw [rows_word]; omega
  | ⟨1, _⟩ => show 0 * 1024 + q.val = q.val; omega

theorem h_block (c : Dev nD) (t : Fin cfg0.N) (p : Fin 32) (q : Fin 1024) : (iblk m c 1 t : FVec Ideal S32x1024 .bf16) (ix2 p q) = H m c (ix2 p q) := by
  rw [show H m c = V m c main_arg1 from (V_main_arg1 m c).symm]
  refine congrArg (V m c main_arg1) (funext fun a => Fin.ext ?_)
  refine (Pipeline.Window.rect_emb_val (cfg0.win 1) t (ix2 p q) a).trans ?_
  match a with
  | ⟨0, _⟩ => show (BitVec.ofNat 32 (grid0.coords t 0).val).toNat * 32 + p.val = p.val; rw [rows_word]; omega
  | ⟨1, _⟩ => show 0 * 1024 + q.val = q.val; omega

theorem w_block (c : Dev nD) (t : Fin cfg0.N) (p : Fin 32) (q : Fin 128) : (iblk m c 2 t : FVec Ideal S32x128 .f32) (ix2 p q) = WT m c (ix2 p q) := by
  rw [show WT m c = V m c main_arg2 from (V_main_arg2 m c).symm]
  refine congrArg (V m c main_arg2) (funext fun a => Fin.ext ?_)
  refine (Pipeline.Window.rect_emb_val (cfg0.win 2) t (ix2 p q) a).trans ?_
  match a with
  | ⟨0, _⟩ => show (BitVec.ofNat 32 (grid0.coords t 0).val).toNat * 32 + p.val = p.val; rw [rows_word]; omega
  | ⟨1, _⟩ => show 0 * 128 + q.val = q.val; omega

/-- The gate weights' block: the point's expert, the point's columns. -/
theorem gate_block (c : Dev nD) (t : Fin cfg0.N) (j : Fin 1024) (k : Fin 512) :
    (iblk m c 3 t : FVec Ideal S1x1024x512 .bf16) (ix3 0 j k) = WGU m c (ix3 ⟨t.val / 7 % 8, by omega⟩ j ⟨512 * (t.val % 7) + k.val, by omega⟩) := by
  rw [← V_gate m c]
  refine congrArg (V m c main_v0) (funext fun a => Fin.ext ?_)
  refine (Pipeline.Window.rect_emb_val (cfg0.win 3) t (ix3 0 j k) a).trans ?_
  match a with
  | ⟨0, _⟩ => show (BitVec.ofNat 32 (grid0.coords t 1).val).toNat * 1 + 0 = t.val / 7 % 8; rw [expert_word]; omega
  | ⟨1, _⟩ => show 0 * 1024 + j.val = j.val; omega
  | ⟨2, _⟩ => show (BitVec.ofNat 32 (grid0.coords t 2).val).toNat * 512 + k.val = 512 * (t.val % 7) + k.val; rw [part_word]; omega

/-- The up weights' block: the same columns, past the gate's. -/
theorem up_block (c : Dev nD) (t : Fin cfg0.N) (j : Fin 1024) (k : Fin 512) :
    (iblk m c 4 t : FVec Ideal S1x1024x512 .bf16) (ix3 0 j k) = WGU m c (ix3 ⟨t.val / 7 % 8, by omega⟩ j ⟨3584 + (512 * (t.val % 7) + k.val), by omega⟩) := by
  rw [← V_gate m c]
  refine congrArg (V m c main_v0) (funext fun a => Fin.ext ?_)
  refine (Pipeline.Window.rect_emb_val (cfg0.win 4) t (ix3 0 j k) a).trans ?_
  match a with
  | ⟨0, _⟩ => show (BitVec.ofNat 32 (grid0.coords t 1).val).toNat * 1 + 0 = t.val / 7 % 8; rw [expert_word]; omega
  | ⟨1, _⟩ => show 0 * 1024 + j.val = j.val; omega
  | ⟨2, _⟩ =>
    show (Scalar.addi 7#32 (BitVec.ofNat 32 (grid0.coords t 2).val)).toNat * 512 + k.val = 3584 + (512 * (t.val % 7) + k.val)
    rw [up_word]; omega

/-- The down weights' block: the point's expert, the point's rows. -/
theorem down_block (c : Dev nD) (t : Fin cfg0.N) (k : Fin 512) (q : Fin 1024) :
    (iblk m c 5 t : FVec Ideal S1x512x1024 .bf16) (ix3 0 k q) = WD m c (ix3 ⟨t.val / 7 % 8, by omega⟩ ⟨512 * (t.val % 7) + k.val, by omega⟩ q) := by
  rw [← V_down m c]
  refine congrArg (V m c main_v1) (funext fun a => Fin.ext ?_)
  refine (Pipeline.Window.rect_emb_val (cfg0.win 5) t (ix3 0 k q) a).trans ?_
  match a with
  | ⟨0, _⟩ => show (BitVec.ofNat 32 (grid0.coords t 1).val).toNat * 1 + 0 = t.val / 7 % 8; rw [expert_word]; omega
  | ⟨1, _⟩ => show (BitVec.ofNat 32 (grid0.coords t 2).val).toNat * 512 + k.val = 512 * (t.val % 7) + k.val; rw [part_word]; omega
  | ⟨2, _⟩ => show 0 * 1024 + q.val = q.val; omega

/-! ## The result -/

/-- A step over blocks that hold the rows, the weights and a seventh of an expert adds that seventh's weighted part. -/
theorem step_of_blocks (i : grid0.Coords) (B1 : FVec Ideal S32x1024 .bf16) (B2 : FVec Ideal S32x128 .f32) (B3 B4 : FVec Ideal S1x1024x512 .bf16) (B5 : FVec Ideal S1x512x1024 .bf16)
    (a : FVec Ideal S32x1024 .f32) (h : FVec Ideal S32x1024 .bf16) (w : FVec Ideal S32x128 .f32) (wgu : FVec Ideal S8x1024x7168 .f32) (wd : FVec Ideal S8x3584x1024 .f32)
    (p : Fin 32) (q : Fin 1024) (t : ℕ) (hi : (i 1).val = t / 7 % 8)
    (h1 : ∀ j : Fin 1024, (B1 (ix2 p j) : EReal) = h (ix2 p j))
    (h2 : ∀ l : Fin 128, (B2 (ix2 p l) : EReal) = w (ix2 p l))
    (h3 : ∀ (j : Fin 1024) (k : Fin 512), (B3 (ix3 0 j k) : EReal) = wgu (ix3 ⟨t / 7 % 8, by omega⟩ j ⟨512 * (t % 7) + k.val, by omega⟩))
    (h4 : ∀ (j : Fin 1024) (k : Fin 512), (B4 (ix3 0 j k) : EReal) = wgu (ix3 ⟨t / 7 % 8, by omega⟩ j ⟨3584 + (512 * (t % 7) + k.val), by omega⟩))
    (h5 : ∀ k : Fin 512, (B5 (ix3 0 k q) : EReal) = wd (ix3 ⟨t / 7 % 8, by omega⟩ ⟨512 * (t % 7) + k.val, by omega⟩ q)) :
    ((step (F := Ideal) i B1 B2 B3 B4 B5 a : FVec Ideal S32x1024 .f32) (ix2 p q) : EReal) = (a (ix2 p q) : EReal) + pointTerm (R := 32) h wgu wd w p q t := by
  refine (step_apply i B1 B2 B3 B4 B5 a p q ⟨t / 7 % 8, by omega⟩ hi).trans ?_
  simp only [h1, h2, h3, h4, h5]
  rfl

theorem step_point (c : Dev nD) (t : Fin cfg0.N) (a : FVec Ideal S32x1024 .f32) (p : Fin 32) (q : Fin 1024) :
    ((stepAt (F := Ideal) m c t a : FVec Ideal S32x1024 .f32) (ix2 p q) : EReal)
      = (a (ix2 p q) : EReal) + pointTerm (R := 32) (H m c) (WGU m c) (WD m c) (WT m c) p q t.val :=
  step_of_blocks (grid0.coords t) _ _ _ _ _ a (H m c) (WT m c) (WGU m c) (WD m c) p q t.val (coords_expert t)
    (fun j => h_block m c t p j) (fun l => w_block m c t p l) (fun j k => gate_block m c t j k) (fun j k => up_block m c t j k) (fun k => down_block m c t k q)

/-- After a point the accumulator holds the points' terms so far. -/
theorem acc_sum (c : Dev nD) (p : Fin 32) (q : Fin 1024) : ∀ (n : ℕ) (hn : n < cfg0.N), n < 55 →
    (((outsAt0 m c n hn).2 : FVec Ideal S32x1024 .f32) (ix2 p q) : EReal)
      = ∑ t ∈ Finset.range (n + 1), pointTerm (R := 32) (H m c) (WGU m c) (WD m c) (WT m c) p q t := by
  intro n
  induction n with
  | zero =>
    intro hn _
    refine (congrFun (acc_first m c ⟨0, hn⟩ (Nat.zero_mod _) (by show ¬ 0 % 56 = 55; omega)) (ix2 p q)).trans ((step_point m c ⟨0, hn⟩ _ p q).trans ?_)
    have hz : ((k0_pay3 (F := Ideal)) (ix2 p q) : EReal) = 0 := by pointwise [k0_pay3]
    rw [hz, zero_add, Finset.sum_range_one]
  | succ n ih =>
    intro hn hlt
    refine (congrFun (acc_next m c ⟨n + 1, hn⟩ (by show ¬ (n + 1) % 56 = 0; omega) (by show ¬ (n + 1) % 56 = 55; omega) n (Nat.lt_of_succ_lt hn) rfl) (ix2 p q)).trans
      ((step_point m c ⟨n + 1, hn⟩ _ p q).trans ?_)
    rw [Finset.sum_range_succ]
    exact congrArg (· + _) (ih (Nat.lt_of_succ_lt hn) (by omega))

/-- The result array's contents. -/
def G (c : Dev nD) : FVec Ideal S32x1024 .f32 := fun i => mixture (R := 32) (H m c) (WGU m c) (WD m c) (X1 m c) (WT m c) (i 0) (i 1)

/-- The kernel's result array after the run, for weights between zero and one. -/
theorem result_eq (c : Dev nD) (hw : ∀ i, 0 ≤ (WT m c i : EReal) ∧ (WT m c i : EReal) ≤ 1) : Value.G6 m c = G m c := by
  have hN : (55 : ℕ) < cfg0.N := Nat.lt_of_lt_of_eq (by decide) N_0.symm
  refine (result_out m c ⟨55, hN⟩ rfl 54 (Nat.lt_of_succ_lt hN) rfl).trans ?_
  funext y
  obtain ⟨p, q, rfl⟩ : ∃ (p : Fin 32) (q : Fin 1024), y = ix2 p q := ⟨y 0, y 1, eq_ix2 y⟩
  have add_apply (B a : FVec Ideal S32x1024 .f32) : ((k0_pay2 (F := Ideal) B a) (ix2 p q) : EReal) = (B (ix2 p q) : EReal) + (a (ix2 p q) : EReal) := by
    pointwise [k0_pay2]
  refine (add_apply _ _).trans ((congrArg₂ (fun u v : EReal => u + v) (x1_block m c ⟨55, hN⟩ p q) ((step_point m c ⟨55, hN⟩ _ p q).trans
    (congrArg (· + _) (acc_sum m c p q 54 (Nat.lt_of_succ_lt hN) (by omega))))).trans ?_)
  refine Eq.trans ?_ (points_mixture (R := 32) (H m c) (WGU m c) (WD m c) (X1 m c) (WT m c) hw p q)
  rw [Finset.sum_range_succ _ 55]

end Cert.Kernel2Ideal.Sample
-- ==== Proof.SampleRef.lean ====
/- The reference over the sample rows, read at an index: the residual plus the weighted experts. -/
module

public import proofs.«01_k».proof.Proof.Gen.Reference2Ideal.Run
public import proofs.«01_k».proof.Proof.Routed
public import Idealize.ShloMosaic.Lib.Tactic.CleanTypes

@[expose] public section

set_option maxRecDepth 16384

noncomputable section

namespace Cert.Reference2Ideal.Sample

open Cert.Reference2Ideal Cert.Reference2Ideal.Gen Cert.Reference2Ideal.Value Cert.Routed
open Idealize.ShloMosaic Idealize.ShloMosaic.TcCoe Idealize.ShloMosaic.StableHlo

variable (x1 : FVec Ideal S32x1024 .f32) (h : FVec Ideal S32x1024 .bf16) (w : FVec Ideal S32x128 .f32) (wgu : FVec Ideal S8x1024x7168 .f32) (wd : FVec Ideal S8x3584x1024 .f32)

/-- The rows times one expert's gate and up weights. -/
abbrev projection (e : ℕ) (hs : S8x1024x7168.Slices ![e, 0, 0] S1x1024x7168) : FVec Ideal S32x7168 .f32 :=
  Host.dotGeneral dot_S32x1024_S1024x7168_S32x7168_1_0_0_1_n_n none (extf .f32 h bitsLt_bf16_f32) (shapeCast S1024x7168 (extractStridedSlice S1x1024x7168 ![e, 0, 0] wgu hs) shapeCasts_S1x1024x7168_S1024x7168)

/-- One expert's term of the sum, from its gate half `g` and its projections `P`: its weights' column times what it makes of the rows. -/
abbrev termOf (g : FVec Ideal S32x3584 .f32) (P : FVec Ideal S32x7168 .f32) (e : ℕ) (hw : S32x128.Slices ![0, e] S32x1) (hd : S8x3584x1024.Slices ![e, 0, 0] S1x3584x1024) : FVec Ideal S32x1024 .f32 :=
  mulf (broadcastInDim S32x1024 ![0, 1] bcast_S32x1_S32x1024_0_1 (extractStridedSlice S32x1 ![0, e] w hw))
    (Host.dotGeneral dot_S32x3584_S3584x1024_S32x1024_1_0_0_1_n_n none
      (mulf (mulf g (Host.divf (broadcastInDim S32x3584 ![] bcast_S_S32x3584 (constant S_ .f32 0x3F800000#32))
          (addf (broadcastInDim S32x3584 ![] bcast_S_S32x3584 (constant S_ .f32 0x3F800000#32)) (Host.exp (Host.negf g)))))
        (extractStridedSlice S32x3584 ![0, 3584] P slices_S32x7168_S32x3584_0_3584))
      (shapeCast S3584x1024 (extractStridedSlice S1x3584x1024 ![e, 0, 0] wd hd) shapeCasts_S1x3584x1024_S3584x1024))

/-- One expert's term of the sum, from the rows. -/
abbrev expertTerm (e : ℕ) (hw : S32x128.Slices ![0, e] S32x1) (hs : S8x1024x7168.Slices ![e, 0, 0] S1x1024x7168) (hd : S8x3584x1024.Slices ![e, 0, 0] S1x3584x1024) : FVec Ideal S32x1024 .f32 :=
  termOf w wd (extractStridedSlice S32x3584 ![0, 0] (projection h wgu e hs) slices_S32x7168_S32x3584_0_0) (projection h wgu e hs) e hw hd

theorem projection_apply (e : ℕ) (he : e < 8) (hs : S8x1024x7168.Slices ![e, 0, 0] S1x1024x7168) (r : Fin 32) (n : Fin 7168) :
    (projection h wgu e hs (ix2 r n) : EReal) = proj (R := 32) h wgu r ⟨e, he⟩ n := by
  pointwise [projection, proj]

theorem expertTerm_apply (e : ℕ) (he : e < 8) (hw : S32x128.Slices ![0, e] S32x1) (hs : S8x1024x7168.Slices ![e, 0, 0] S1x1024x7168) (hd : S8x3584x1024.Slices ![e, 0, 0] S1x3584x1024) (r : Fin 32) (q : Fin 1024) :
    (expertTerm h w wgu wd e hw hs hd (ix2 r q) : EReal) = w (ix2 r ⟨e, by omega⟩) * expert (R := 32) h wgu wd r ⟨e, he⟩ q := by
  have hP := projection_apply h wgu e he hs r
  unfold expertTerm
  generalize projection h wgu e hs = P at hP ⊢
  pointwise [expert, Routed.hidden]
  simp only [hP]
  rfl

/-- The reference's result as the sum of the experts' terms. -/
abbrev total : FVec Ideal S32x1024 .f32 :=
  addf x1 (addf (addf (addf (addf (addf (addf (addf (addf (broadcastInDim S32x1024 ![] bcast_S_S32x1024 (constant S_ .f32 0x00000000#32))
    (expertTerm h w wgu wd 0 slices_S32x128_S32x1_0_0 slices_S8x1024x7168_S1x1024x7168_0_0_0 slices_S8x3584x1024_S1x3584x1024_0_0_0))
    (expertTerm h w wgu wd 1 slices_S32x128_S32x1_0_1 slices_S8x1024x7168_S1x1024x7168_1_0_0 slices_S8x3584x1024_S1x3584x1024_1_0_0))
    (expertTerm h w wgu wd 2 slices_S32x128_S32x1_0_2 slices_S8x1024x7168_S1x1024x7168_2_0_0 slices_S8x3584x1024_S1x3584x1024_2_0_0))
    (expertTerm h w wgu wd 3 slices_S32x128_S32x1_0_3 slices_S8x1024x7168_S1x1024x7168_3_0_0 slices_S8x3584x1024_S1x3584x1024_3_0_0))
    (expertTerm h w wgu wd 4 slices_S32x128_S32x1_0_4 slices_S8x1024x7168_S1x1024x7168_4_0_0 slices_S8x3584x1024_S1x3584x1024_4_0_0))
    (expertTerm h w wgu wd 5 slices_S32x128_S32x1_0_5 slices_S8x1024x7168_S1x1024x7168_5_0_0 slices_S8x3584x1024_S1x3584x1024_5_0_0))
    (expertTerm h w wgu wd 6 slices_S32x128_S32x1_0_6 slices_S8x1024x7168_S1x1024x7168_6_0_0 slices_S8x3584x1024_S1x3584x1024_6_0_0))
    (expertTerm h w wgu wd 7 slices_S32x128_S32x1_0_7 slices_S8x1024x7168_S1x1024x7168_7_0_0 slices_S8x3584x1024_S1x3584x1024_7_0_0))

theorem total_apply (r : Fin 32) (q : Fin 1024) : (total x1 h w wgu wd (ix2 r q) : EReal) = mixture (R := 32) h wgu wd x1 w r q := by
  have add_at (a b : FVec Ideal S32x1024 .f32) : (addf a b (ix2 r q) : EReal) = (a (ix2 r q) : EReal) + (b (ix2 r q) : EReal) := rfl
  have zero_at : (broadcastInDim S32x1024 ![] bcast_S_S32x1024 (constant (F := Ideal) S_ .f32 0x00000000#32) (ix2 r q) : EReal) = 0 := by pointwise []
  unfold total mixture
  simp only [add_at, zero_at]
  rw [expertTerm_apply h w wgu wd 0 (by omega), expertTerm_apply h w wgu wd 1 (by omega), expertTerm_apply h w wgu wd 2 (by omega), expertTerm_apply h w wgu wd 3 (by omega),
    expertTerm_apply h w wgu wd 4 (by omega), expertTerm_apply h w wgu wd 5 (by omega), expertTerm_apply h w wgu wd 6 (by omega), expertTerm_apply h w wgu wd 7 (by omega), zero_add, Fin.sum_univ_eight]
  rfl

/-- The reference's result array, of the arguments. -/
theorem result_total (W : Valuation τ sig (Elt Ideal)) (h0 : W (Proc.devRef .tc main_arg0) = x1) (h1 : W (Proc.devRef .tc main_arg1) = h)
    (h2 : W (Proc.devRef .tc main_arg2) = w) (h3 : W (Proc.devRef .tc main_arg3) = wgu) (h4 : W (Proc.devRef .tc main_arg4) = wd)
    (R : FVec Ideal S32x1024 .f32) (hR : R = addf x1 (addf (addf (res_main_v90 W)
      (termOf w wd (res_main_v95 W) (res_main_v94 W) 6 slices_S32x128_S32x1_0_6 slices_S8x3584x1024_S1x3584x1024_6_0_0))
      (termOf w wd (res_main_v110 W) (res_main_v109 W) 7 slices_S32x128_S32x1_0_7 slices_S8x3584x1024_S1x3584x1024_7_0_0))) : R = total x1 h w wgu wd := by
  subst hR
  unfold res_main_v90 res_main_v5 res_main_v20 res_main_v35 res_main_v50 res_main_v65 res_main_v80 res_main_v95 res_main_v110
  unfold res_main_v4 res_main_v19 res_main_v34 res_main_v49 res_main_v64 res_main_v79 res_main_v94 res_main_v109
  clean_types
  rw [h1, h2, h3, h4]

end Cert.Reference2Ideal.Sample

end
-- ==== Proof.Weights.lean ====
/- The routing weights the precondition admits. -/
module

public import proofs.«01_k».proof.Proof.Gen.Pre_weights
public import Idealize.ShloMosaic.Lib.ReduceAll
public import proofs.«01_k».proof.Proof.Routed

@[expose] public section

noncomputable section

namespace Cert.Weights

open Idealize.ShloMosaic Cert.Pre_weights Cert.Pre_weights.Gen

/-- Under the precondition every routing weight is between zero and one. -/
theorem weight_bounds (x1 : FVec Ideal S32x1024 .f32) (h : FVec Ideal S32x1024 .bf16) (w : FVec Ideal S32x128 .f32) (wgu : FVec Ideal S8x1024x7168 .f32) (wd : FVec Ideal S8x3584x1024 .f32)
    (hp : fn x1 h w wgu wd = fun _ => 1#1) (i : S32x128.Idx) : 0 ≤ (w i : EReal) ∧ (w i : EReal) ≤ 1 := by
  have andi_one (a b : BitVec 1) : IntOp.andi a b = 1#1 ↔ a = 1#1 ∧ b = 1#1 := by revert a b; decide
  haveI : Subsingleton S_.Idx := ⟨fun a b => funext fun i => i.elim0⟩
  have e := congrFun hp (fun a => a.elim0)
  dsimp only [fn] at e
  have hw := Host.reduce_andi_all _ _ _ _ _ e i
  simp only [andi, andi_one, cmpf, broadcastInDim, constant] at hw
  have hz : (FloatOps.ofBits (F := Ideal) FTy.f32 0#32 : EReal) = 0 := by pointwise []
  have ho : (FloatOps.ofBits (F := Ideal) FTy.f32 1065353216#32 : EReal) = 1 := by pointwise []
  have one_iff (p : Bool) : BitVec.ofBool p = 1#1 ↔ p = true := by cases p <;> decide
  have lower : BitVec.ofBool (decide ((FloatOps.ofBits (F := Ideal) FTy.f32 0#32 : EReal) ≤ (w i : EReal))) = 1#1 := hw.1
  have upper : BitVec.ofBool (decide ((w i : EReal) ≤ (FloatOps.ofBits (F := Ideal) FTy.f32 1065353216#32 : EReal))) = 1#1 := hw.2
  rw [one_iff, decide_eq_true_eq, hz] at lower
  rw [one_iff, decide_eq_true_eq, ho] at upper
  exact ⟨lower, upper⟩

end Cert.Weights

end
-- ==== Proof.FfnCases.lean ====
/- The output projection and the dense feed-forward block: what a row tile's two points leave in the scratches and in the result. -/
module

public import proofs.«01_k».proof.Proof.Gen.Kernel3Ideal.Value
public import Idealize.ShloMosaic.Lib.Pipeline.Value
public import Idealize.ShloMosaic.Lib.Tactic

@[expose] public section

set_option maxRecDepth 16384

noncomputable section

namespace Cert.Kernel3Ideal.Ffn

open Cert.Kernel3Ideal Cert.Kernel3Ideal.Gen
open Idealize.ShloMosaic Idealize.ShloMosaic.TcCoe

variable {F : FTy → Type} [FloatOps F]
variable (m : (ℓ : Loc nD τ sig) → Buf (Elt F) ℓ)

theorem zero2 : (![0, 0] : Fin 2 → Nat) = fun _ => 0 := funext fun a => by fin_cases a <;> rfl

section Cases

variable (c : Dev nD) (i : grid0.Coords) (a2 : Memref sig .tc .vmem S512x1024 .f32) (h2 : a2.IsWhole) (a3 : Memref sig .tc .vmem S512x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1408 .bf16) (h6 : a6.IsWhole) (a7 : Memref sig .tc .vmem S1024x1408 .bf16) (h7 : a7.IsWhole) (a8 : Memref sig .tc .vmem S1408x1024 .bf16) (h8 : a8.IsWhole) (a9 : Memref sig .tc .vmem S512x1024 .f32) (h9 : a9.IsWhole) (a10 : Memref sig .tc .vmem S512x1024 .f32) (h10 : a10.IsWhole) (a11 : Memref sig .tc .vmem S512x1024 .bf16) (h11 : a11.IsWhole) (a12 : Memref sig .tc .vmem S512x1024 .f32) (h12 : a12.IsWhole)
  (x0 x1 : Vec F S512x1024 .f32) (x2 : Vec F S1024x1024 .bf16) (x3 : Vec F S1x1024 .f32) (x4 x5 : Vec F S1024x1408 .bf16) (x6 : Vec F S1408x1024 .bf16)
  (r : Vec F S512x1024 .f32) (h : Vec F S512x1024 .bf16) (acc : Vec F S512x1024 .f32)

/-- A tile's first point keeps the rows plus their attention, projected. -/
theorem first_residual (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 = k0_pay2 x0 x1 x2 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero zero2]
  simp only [View.readAt_eq_ld, h2.read_unread, h3.read_unread, h4.read_unread, h5.read_unread, h6.read_unread, h7.read_unread, h8.read_unread, View.ld_unit_zero (S := S512x1024) zero2, View.ld_unit_zero (S := S1024x1024) zero2, View.ld_unit_zero (S := S1x1024) zero2, View.ld_unit_zero (S := S1024x1408) zero2, View.ld_unit_zero (S := S1408x1024) zero2]

/-- It keeps these rows normalized. -/
theorem first_normed (hc0 : cond0_0 i) (hc1 : ¬cond0_1 i) :
    sout0_A_1 c i a2 h2 a3 h3 a4 h4 a5 h5 a6 h6 a7 h7 a8 h8 a9 h9 a10 h10 a11 h11 a12 h12 hc0 hc1 x0 x1 x2 x3 x4 x5 x6 = k0_pay3 x0 x1 x2 x3 := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero zero2]
  simp only [View.readAt_eq_ld, h2.read_unread, h3.read_unread, h4.read_unread, h5.read_unread, h6.read_unread, h7.read_unread, h8.read_unread, View.ld_unit_zero (S := S512x1024) zero2, View.ld_unit_zero (S := S1024x1024) zero2, View.ld_unit_zero (S := S1x1024) zero2, View.ld_unit_zero (S := S1024x1408) zero2, View.ld_unit_zero (S := S1408x1024) zero2]

/-- It accumulates its half of the block from zero. -/
theorem first_acc (hc0 : cond0_0 i) (hc1 : ¬cond0_1 i) :
    sout0_A_2 c i a2 h2 a3 h3 a4 h4 a5 h5 a6 h6 a7 h7 a8 h8 a9 h9 a10 h10 a11 h11 a12 h12 hc0 hc1 x0 x1 x2 x3 x4 x5 x6 = k0_pay5 (k0_pay3 x0 x1 x2 x3) x4 x5 k0_pay4 x6 := by
  unfold sout0_A_2
  rw [View.read_writes_eq_canon _ _ _ (scover0_A_2 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_cons_unit_zero (S := S512x1024) zero2, View.readCov_unit_zero (S := S512x1024) _ zero2, View.readCov_unit_zero (S := S512x1024) _ zero2]
  simp only [View.readAt_eq_ld, h2.read_unread, h3.read_unread, h4.read_unread, h5.read_unread, h6.read_unread, h7.read_unread, h8.read_unread, View.ld_unit_zero (S := S512x1024) zero2, View.ld_unit_zero (S := S1024x1024) zero2, View.ld_unit_zero (S := S1x1024) zero2, View.ld_unit_zero (S := S1024x1408) zero2, View.ld_unit_zero (S := S1408x1024) zero2]

/-- A tile's last point accumulates its half and stores the kept rows plus the accumulator. -/
theorem last_out (hc0 : ¬cond0_0 i) (hc1 : cond0_1 i) :
    out0_B_7 c i a2 h2 a3 h3 a4 h4 a5 h5 a6 h6 a7 h7 a8 h8 a9 h9 a10 h10 a11 h11 a12 h12 hc0 hc1 x0 x1 x2 x3 x4 x5 x6 r h acc = k0_pay6 r (k0_pay5 h x4 x5 acc x6) := by
  unfold out0_B_7
  rw [View.read_writes_eq_canon _ _ _ (cover0_B_7 c i a2 h2 a3 h3 a4 h4 a5 h5 a6 h6 a7 h7 a8 h8 a9 h9 a10 h10 a11 h11 a12 h12 hc0 hc1 x0 x1 x2 x3 x4 x5 x6 r h acc)]
  unfold kernelRun0_B
  dsimp only
  sl_unfold_words
  rw [View.canon_unit_zero zero2, View.readCov_unit_zero (S := S512x1024) _ zero2]
  simp only [View.readAt_eq_ld, h2.read_unread, h3.read_unread, h4.read_unread, h5.read_unread, h6.read_unread, h7.read_unread, h8.read_unread, h10.read_unread, h11.read_unread, h12.read_unread, View.ld_unit_zero (S := S512x1024) zero2, View.ld_unit_zero (S := S1024x1024) zero2, View.ld_unit_zero (S := S1x1024) zero2, View.ld_unit_zero (S := S1024x1408) zero2, View.ld_unit_zero (S := S1408x1024) zero2]

end Cases

/-- What the point after a tile's first one writes: over the tile's own blocks. -/
abbrev tileOut (c : Dev nD) (s t : Fin cfg0.N) : Vec F S512x1024 .f32 :=
  k0_pay6 (k0_pay2 (iblk m c 0 s) (iblk m c 1 s) (iblk m c 2 s))
    (k0_pay5 (k0_pay3 (iblk m c 0 s) (iblk m c 1 s) (iblk m c 2 s) (iblk m c 3 s)) (iblk m c 4 t) (iblk m c 5 t)
      (k0_pay5 (k0_pay3 (iblk m c 0 s) (iblk m c 1 s) (iblk m c 2 s) (iblk m c 3 s)) (iblk m c 4 s) (iblk m c 5 s) k0_pay4 (iblk m c 6 s)) (iblk m c 6 t))

/-- A tile's first point leaves the residual rows, the normalized rows and the first half's accumulator. -/
theorem first_point (c : Dev nD) (t : Fin cfg0.N) (h0 : t.val % 2 = 0) (h1 : ¬t.val % 2 = 1) :
    (outsAt0 m c t.val t.isLt).2 = (k0_pay2 (iblk m c 0 t) (iblk m c 1 t) (iblk m c 2 t), k0_pay3 (iblk m c 0 t) (iblk m c 1 t) (iblk m c 2 t) (iblk m c 3 t),
      k0_pay5 (k0_pay3 (iblk m c 0 t) (iblk m c 1 t) (iblk m c 2 t) (iblk m c 3 t)) (iblk m c 4 t) (iblk m c 5 t) k0_pay4 (iblk m c 6 t)) := by
  rw [outsAt0_A m c t h0 h1]
  dsimp only
  rw [first_residual, first_normed, first_acc]

/-- A tile's last point writes the tile's result. -/
theorem last_point (c : Dev nD) (s t : Fin cfg0.N) (h0 : ¬t.val % 2 = 0) (h1 : t.val % 2 = 1) (e : t.val = s.val + 1) :
    (outsAt0 m c t.val t.isLt).1 = tileOut m c s t := by
  have hs := first_point m c s (by omega) (by omega)
  have es : s = ⟨t.val - 1, Nat.lt_of_le_of_lt (Nat.sub_le _ _) t.isLt⟩ := Fin.ext (by show s.val = t.val - 1; omega)
  rw [outsAt0_B m c t h0 h1]
  dsimp only
  rw [last_out]
  subst es
  dsimp only at hs
  rw [hs]

/-- The result array at an index: its tile's last point's result at the index's place in the tile. -/
theorem result_out (c : Dev nD) (i : S16384x1024.Idx) (s t : Fin cfg0.N) (e : t.val = s.val + 1) (ht : t.val = Value.pt7Of i) :
    Value.G7 m c i = tileOut m c s t (Value.loc7Of i) := by
  have h1 : t.val % 2 = 1 := by rw [ht]; show (2 * Value.run7Of i + 1) % 2 = 1; omega
  rw [← last_point m c s t (by omega) h1 e, Value.outsAt0_sweep]
  unfold Value.G7
  rw [dif_pos (by rw [← ht]; exact t.isLt)]
  exact congrFun (congrArg Prod.fst (Value.fold0_congr m c _ _ _ _ ht.symm)) _

end Cert.Kernel3Ideal.Ffn
-- ==== Proof.Ffn.lean ====
/- The output projection and the dense feed-forward block of one row, as functions over the extended reals. -/
module

public import Idealize.ShloMosaic.Lib.Pointwise

@[expose] public section

noncomputable section

namespace Cert.Dense

open Idealize.ShloMosaic

variable (x o : Fin 1024 → EReal) (wo : (⟨2, ![1024, 1024]⟩ : Shape).Idx → EReal) (g : Fin 1024 → EReal)
variable (wgu : (⟨2, ![1024, 5632]⟩ : Shape).Idx → EReal) (wd : (⟨2, ![2816, 1024]⟩ : Shape).Idx → EReal)

/-- A row plus its attention's output times the output projection. -/
def resid (q : Fin 1024) : EReal := x q + ∑ d : Fin 1024, o d * wo (ix2 d q)

/-- A row over the root of its mean square, times the norm's gains. -/
def normed (a : Fin 1024 → EReal) (q : Fin 1024) : EReal :=
  a q * Ideal.rsqrt (Ideal.div (∑ d : Fin 1024, a d * a d) (Ideal.ofBits .f32 0x44800000#32) + Ideal.ofBits .f32 0x358637BD#32) * g q

/-- A normalized row times a column of the gate and up weights. -/
def proj (h : Fin 1024 → EReal) (n : Fin 5632) : EReal := ∑ d : Fin 1024, h d * wgu (ix2 d n)

/-- A normalized row's hidden value at unit `k`. -/
def hidden (h : Fin 1024 → EReal) (k : Fin 2816) : EReal :=
  proj wgu h ⟨k.val, by omega⟩ * Ideal.logistic (proj wgu h ⟨k.val, by omega⟩) * proj wgu h ⟨2816 + k.val, by omega⟩

/-- What the hidden units from `1408 * j` on add to the row. -/
def half (h : Fin 1024 → EReal) (j : Fin 2) (q : Fin 1024) : EReal :=
  ∑ k : Fin 1408, hidden wgu h ⟨1408 * j.val + k.val, by omega⟩ * wd (ix2 ⟨1408 * j.val + k.val, by omega⟩ q)

/-- The layer's row: the residual row plus what the block makes of it normalized. -/
def row (q : Fin 1024) : EReal :=
  resid x o wo q + ∑ k : Fin 2816, hidden wgu (normed g (resid x o wo)) k * wd (ix2 k q)

/-- The block's sum is the first half's plus the second half's. -/
theorem row_halves (q : Fin 1024) :
    row x o wo g wgu wd q = resid x o wo q + (half wgu wd (normed g (resid x o wo)) 0 q + half wgu wd (normed g (resid x o wo)) 1 q) := by
  unfold row half
  rw [Fin.sum_univ_two_halves 1408 1408 rfl]
  have first (k : Fin 1408) : (⟨1408 * (0 : Fin 2).val + k.val, by simp; omega⟩ : Fin 2816) = ⟨k.val, by omega⟩ := Fin.ext (by simp)
  simp only [first]
  rfl

end Cert.Dense
-- ==== Proof.FfnValue.lean ====
/- The output projection and the dense feed-forward block, read at an index. -/
module

public import proofs.«01_k».proof.Proof.FfnCases
public import proofs.«01_k».proof.Proof.Ffn
public import Idealize.ShloMosaic.Lib.Pipeline.ValueKit

@[expose] public section

set_option maxRecDepth 16384

noncomputable section

namespace Cert.Kernel3Ideal.Ffn

open Cert.Kernel3Ideal Cert.Kernel3Ideal.Gen Cert.Dense
open Idealize.ShloMosaic Idealize.ShloMosaic.TcCoe

variable (m : (ℓ : Loc nD τ sig) → Buf (Elt Ideal) ℓ)

/-! ## The points' values at an index -/

theorem resid_apply (x o : Vec Ideal S512x1024 .f32) (w : Vec Ideal S1024x1024 .bf16) (p : Fin 512) (q : Fin 1024) :
    ((k0_pay2 (F := Ideal) x o w) (ix2 p q) : EReal) = resid (fun d => x (ix2 p d)) (fun d => o (ix2 p d)) w q := by
  pointwise [k0_pay2, k0_pay1, resid]

theorem normed_apply (x o : Vec Ideal S512x1024 .f32) (w : Vec Ideal S1024x1024 .bf16) (g : Vec Ideal S1x1024 .f32) (p : Fin 512) (q : Fin 1024) :
    ((k0_pay3 (F := Ideal) x o w g) (ix2 p q) : EReal) = normed (fun d => g (ix2 0 d)) (resid (fun d => x (ix2 p d)) (fun d => o (ix2 p d)) w) q := by
  pointwise [k0_pay3, k0_pay1, normed, resid]

theorem acc_apply (h : Vec Ideal S512x1024 .bf16) (g u : Vec Ideal S1024x1408 .bf16) (a : Vec Ideal S512x1024 .f32) (d : Vec Ideal S1408x1024 .bf16) (p : Fin 512) (q : Fin 1024) :
    ((k0_pay5 (F := Ideal) h g u a d) (ix2 p q) : EReal) = (a (ix2 p q) : EReal) + ∑ k : Fin 1408,
      ((∑ j : Fin 1024, h (ix2 p j) * g (ix2 j k)) * Ideal.logistic (∑ j : Fin 1024, h (ix2 p j) * g (ix2 j k)) * (∑ j : Fin 1024, h (ix2 p j) * u (ix2 j k)) : EReal) * d (ix2 k q) := by
  pointwise [k0_pay5]

theorem zero_apply (p : Fin 512) (q : Fin 1024) : ((k0_pay4 (F := Ideal)) (ix2 p q) : EReal) = 0 := by
  pointwise [k0_pay4]

theorem sum_apply (r a : Vec Ideal S512x1024 .f32) (p : Fin 512) (q : Fin 1024) : ((k0_pay6 (F := Ideal) r a) (ix2 p q) : EReal) = (r (ix2 p q) : EReal) + (a (ix2 p q) : EReal) := by
  pointwise [k0_pay6]

/-- A step over a half's blocks of the weights adds that half. -/
theorem acc_half (h : Vec Ideal S512x1024 .bf16) (g u : Vec Ideal S1024x1408 .bf16) (a : Vec Ideal S512x1024 .f32) (d : Vec Ideal S1408x1024 .bf16) (hr : Fin 1024 → EReal)
    (wgu : FVec Ideal S1024x5632 .f32) (wd : FVec Ideal S2816x1024 .f32) (j : Fin 2) (p : Fin 512) (q : Fin 1024)
    (e1 : ∀ i : Fin 1024, (h (ix2 p i) : EReal) = hr i)
    (e2 : ∀ (i : Fin 1024) (k : Fin 1408), (g (ix2 i k) : EReal) = wgu (ix2 i ⟨1408 * j.val + k.val, by omega⟩))
    (e3 : ∀ (i : Fin 1024) (k : Fin 1408), (u (ix2 i k) : EReal) = wgu (ix2 i ⟨2816 + (1408 * j.val + k.val), by omega⟩))
    (e4 : ∀ k : Fin 1408, (d (ix2 k q) : EReal) = wd (ix2 ⟨1408 * j.val + k.val, by omega⟩ q)) :
    ((k0_pay5 (F := Ideal) h g u a d) (ix2 p q) : EReal) = (a (ix2 p q) : EReal) + half wgu wd hr j q := by
  refine (acc_apply h g u a d p q).trans ?_
  simp only [e1, e2, e3, e4]
  rfl

/-- A tile's result over blocks that hold its rows and the weights' halves: the layer's row. -/
theorem tile_of_blocks (x o : Vec Ideal S512x1024 .f32) (w : Vec Ideal S1024x1024 .bf16) (g : Vec Ideal S1x1024 .f32) (g0 u0 g1 u1 : Vec Ideal S1024x1408 .bf16) (d0 d1 : Vec Ideal S1408x1024 .bf16)
    (xr or : Fin 1024 → EReal) (wo : FVec Ideal S1024x1024 .f32) (gr : Fin 1024 → EReal) (wgu : FVec Ideal S1024x5632 .f32) (wd : FVec Ideal S2816x1024 .f32) (p : Fin 512) (q : Fin 1024)
    (ex : ∀ d : Fin 1024, (x (ix2 p d) : EReal) = xr d) (eo : ∀ d : Fin 1024, (o (ix2 p d) : EReal) = or d) (ew : ∀ d q : Fin 1024, (w (ix2 d q) : EReal) = wo (ix2 d q))
    (eg : ∀ d : Fin 1024, (g (ix2 0 d) : EReal) = gr d)
    (a1 : ∀ (i : Fin 1024) (k : Fin 1408), (g0 (ix2 i k) : EReal) = wgu (ix2 i ⟨1408 * (0 : Fin 2).val + k.val, by simp; omega⟩))
    (a2 : ∀ (i : Fin 1024) (k : Fin 1408), (u0 (ix2 i k) : EReal) = wgu (ix2 i ⟨2816 + (1408 * (0 : Fin 2).val + k.val), by simp; omega⟩))
    (a3 : ∀ k : Fin 1408, (d0 (ix2 k q) : EReal) = wd (ix2 ⟨1408 * (0 : Fin 2).val + k.val, by simp; omega⟩ q))
    (b1 : ∀ (i : Fin 1024) (k : Fin 1408), (g1 (ix2 i k) : EReal) = wgu (ix2 i ⟨1408 * (1 : Fin 2).val + k.val, by simp; omega⟩))
    (b2 : ∀ (i : Fin 1024) (k : Fin 1408), (u1 (ix2 i k) : EReal) = wgu (ix2 i ⟨2816 + (1408 * (1 : Fin 2).val + k.val), by simp; omega⟩))
    (b3 : ∀ k : Fin 1408, (d1 (ix2 k q) : EReal) = wd (ix2 ⟨1408 * (1 : Fin 2).val + k.val, by simp; omega⟩ q)) :
    ((k0_pay6 (F := Ideal) (k0_pay2 x o w) (k0_pay5 (F := Ideal) (k0_pay3 x o w g) g1 u1 (k0_pay5 (F := Ideal) (k0_pay3 x o w g) g0 u0 (k0_pay4 (F := Ideal)) d0) d1) : FVec Ideal S512x1024 .f32) (ix2 p q) : EReal)
      = row xr or wo gr wgu wd q := by
  have er (q : Fin 1024) : ((k0_pay2 (F := Ideal) x o w) (ix2 p q) : EReal) = resid xr or wo q := by
    refine (resid_apply x o w p q).trans ?_
    unfold resid
    simp only [ex, eo, ew]
  have en (q : Fin 1024) : ((k0_pay3 (F := Ideal) x o w g) (ix2 p q) : EReal) = normed gr (resid xr or wo) q := by
    refine (normed_apply x o w g p q).trans ?_
    unfold normed resid
    simp only [ex, eo, ew, eg]
  refine (sum_apply _ _ p q).trans ((congrArg₂ (fun u v : EReal => u + v) (er q) ((acc_half _ g1 u1 _ d1 _ wgu wd 1 p q en b1 b2 b3).trans
    (congrArg (· + _) ((acc_half _ g0 u0 _ d0 _ wgu wd 0 p q en a1 a2 a3).trans (congrArg (· + _) (zero_apply p q)))))).trans ?_)
  rw [row_halves]
  simp only [zero_add]

/-! ## The windows' blocks -/

/-- The arguments as launched: rows, attention's rows, output projection, gains, gate and up weights, down weights. -/
abbrev X (c : Dev nD) : FVec Ideal S16384x1024 .f32 := m ((c : Thread nD τ).loc main_arg0)
abbrev O (c : Dev nD) : FVec Ideal S16384x1024 .f32 := m ((c : Thread nD τ).loc main_arg1)
abbrev WO (c : Dev nD) : FVec Ideal S1024x1024 .f32 := m ((c : Thread nD τ).loc main_arg2)
abbrev NG (c : Dev nD) : FVec Ideal S1024 .f32 := m ((c : Thread nD τ).loc main_arg3)
abbrev WGU (c : Dev nD) : FVec Ideal S1024x5632 .f32 := m ((c : Thread nD τ).loc main_arg4)
abbrev WD (c : Dev nD) : FVec Ideal S2816x1024 .f32 := m ((c : Thread nD τ).loc main_arg5)

/-- Narrowing the weights changes nothing over the reals. -/
theorem V_gate (c : Dev nD) : (show FVec Ideal S1024x5632 .bf16 from V m c main_v0) = WGU m c := by
  show V m c main_v0 = _
  entry_read
  rfl

/-- The same of the output projection. -/
theorem V_proj (c : Dev nD) : (show FVec Ideal S1024x1024 .bf16 from V m c main_v1) = WO m c := by
  show V m c main_v1 = _
  entry_read
  rfl

/-- The same of the down weights. -/
theorem V_down (c : Dev nD) : (show FVec Ideal S2816x1024 .bf16 from V m c main_v3) = WD m c := by
  show V m c main_v3 = _
  entry_read
  rfl

/-- The gains, as one row. -/
theorem V_gains (c : Dev nD) (d : Fin 1024) : (show FVec Ideal S1x1024 .f32 from V m c main_v2) (ix2 0 d) = NG m c (ix1 d) := by
  show V m c main_v2 (ix2 0 d) = _
  entry_read
  pointwise []

theorem coords_rows (t : Fin cfg0.N) : (grid0.coords t 0).val = t.val / 2 % 32 := Pipeline.Grid.coords_val t 0 (by decide) rfl
theorem coords_half (t : Fin cfg0.N) : (grid0.coords t 1).val = t.val % 2 := by
  have h : (grid0.coords t 1).val = t.val / 1 % 2 := Pipeline.Grid.coords_val t 1 (by decide) rfl
  rw [h, Nat.div_one]

theorem rows_word (t : Fin cfg0.N) : (BitVec.ofNat 32 (grid0.coords t 0).val).toNat = t.val / 2 % 32 := by
  rw [coords_rows, BitVec.toNat_ofNat]; omega
theorem half_word (t : Fin cfg0.N) : (BitVec.ofNat 32 (grid0.coords t 1).val).toNat = t.val % 2 := by
  rw [coords_half, BitVec.toNat_ofNat]; omega
theorem up_word (t : Fin cfg0.N) : (Scalar.addi 2#32 (BitVec.ofNat 32 (grid0.coords t 1).val)).toNat = 2 + t.val % 2 := by
  show (2#32 + BitVec.ofNat 32 (grid0.coords t 1).val).toNat = _
  rw [BitVec.toNat_add, half_word, BitVec.toNat_ofNat]; omega

/-- The blocks of the rows: the point's tile. -/
theorem x_block (c : Dev nD) (t : Fin cfg0.N) (p : Fin 512) (q : Fin 1024) :
    (iblk m c 0 t : FVec Ideal S512x1024 .f32) (ix2 p q) = X m c (ix2 ⟨512 * (t.val / 2 % 32) + p.val, by omega⟩ q) := by
  rw [show X m c = V m c main_arg0 from (V_main_arg0 m c).symm]
  refine congrArg (V m c main_arg0) (funext fun a => Fin.ext ?_)
  refine (Pipeline.Window.rect_emb_val (cfg0.win 0) t (ix2 p q) a).trans ?_
  match a with
  | ⟨0, _⟩ => show (BitVec.ofNat 32 (grid0.coords t 0).val).toNat * 512 + p.val = 512 * (t.val / 2 % 32) + p.val; rw [rows_word]; omega
  | ⟨1, _⟩ => show 0 * 1024 + q.val = q.val; omega

theorem o_block (c : Dev nD) (t : Fin cfg0.N) (p : Fin 512) (q : Fin 1024) :
    (iblk m c 1 t : FVec Ideal S512x1024 .f32) (ix2 p q) = O m c (ix2 ⟨512 * (t.val / 2 % 32) + p.val, by omega⟩ q) := by
  rw [show O m c = V m c main_arg1 from (V_main_arg1 m c).symm]
  refine congrArg (V m c main_arg1) (funext fun a => Fin.ext ?_)
  refine (Pipeline.Window.rect_emb_val (cfg0.win 1) t (ix2 p q) a).trans ?_
  match a with
  | ⟨0, _⟩ => show (BitVec.ofNat 32 (grid0.coords t 0).val).toNat * 512 + p.val = 512 * (t.val / 2 % 32) + p.val; rw [rows_word]; omega
  | ⟨1, _⟩ => show 0 * 1024 + q.val = q.val; omega

/-- The output projection's block and the gains' are their arrays. -/
theorem proj_block (c : Dev nD) (t : Fin cfg0.N) (p q : Fin 1024) : (iblk m c 2 t : FVec Ideal S1024x1024 .bf16) (ix2 p q) = WO m c (ix2 p q) := by
  rw [← V_proj m c]
  refine congrArg (V m c main_v1) (funext fun a => Fin.ext ?_)
  refine (Pipeline.Window.rect_emb_val (cfg0.win 2) t (ix2 p q) a).trans ?_
  match a with
  | ⟨0, _⟩ => show 0 * 1024 + p.val = p.val; omega
  | ⟨1, _⟩ => show 0 * 1024 + q.val = q.val; omega

theorem gains_block (c : Dev nD) (t : Fin cfg0.N) (d : Fin 1024) : (iblk m c 3 t : FVec Ideal S1x1024 .f32) (ix2 0 d) = NG m c (ix1 d) := by
  rw [← V_gains m c d]
  refine congrArg (V m c main_v2) (funext fun a => Fin.ext ?_)
  refine (Pipeline.Window.rect_emb_val (cfg0.win 3) t (ix2 0 d) a).trans ?_
  match a with
  | ⟨0, _⟩ => rfl
  | ⟨1, _⟩ => show 0 * 1024 + d.val = d.val; omega

/-- The gate weights' block: the point's half of the columns. -/
theorem gate_block (c : Dev nD) (t : Fin cfg0.N) (j : Fin 2) (hj : t.val % 2 = j.val) (i : Fin 1024) (k : Fin 1408) :
    (iblk m c 4 t : FVec Ideal S1024x1408 .bf16) (ix2 i k) = WGU m c (ix2 i ⟨1408 * j.val + k.val, by omega⟩) := by
  rw [← V_gate m c]
  refine congrArg (V m c main_v0) (funext fun a => Fin.ext ?_)
  refine (Pipeline.Window.rect_emb_val (cfg0.win 4) t (ix2 i k) a).trans ?_
  match a with
  | ⟨0, _⟩ => show 0 * 1024 + i.val = i.val; omega
  | ⟨1, _⟩ => show (BitVec.ofNat 32 (grid0.coords t 1).val).toNat * 1408 + k.val = 1408 * j.val + k.val; rw [half_word]; omega

/-- The up weights' block: the same columns, past the gate's. -/
theorem up_block (c : Dev nD) (t : Fin cfg0.N) (j : Fin 2) (hj : t.val % 2 = j.val) (i : Fin 1024) (k : Fin 1408) :
    (iblk m c 5 t : FVec Ideal S1024x1408 .bf16) (ix2 i k) = WGU m c (ix2 i ⟨2816 + (1408 * j.val + k.val), by omega⟩) := by
  rw [← V_gate m c]
  refine congrArg (V m c main_v0) (funext fun a => Fin.ext ?_)
  refine (Pipeline.Window.rect_emb_val (cfg0.win 5) t (ix2 i k) a).trans ?_
  match a with
  | ⟨0, _⟩ => show 0 * 1024 + i.val = i.val; omega
  | ⟨1, _⟩ =>
    show (Scalar.addi 2#32 (BitVec.ofNat 32 (grid0.coords t 1).val)).toNat * 1408 + k.val = 2816 + (1408 * j.val + k.val)
    rw [up_word]; omega

/-- The down weights' block: the point's half of the rows. -/
theorem down_block (c : Dev nD) (t : Fin cfg0.N) (j : Fin 2) (hj : t.val % 2 = j.val) (k : Fin 1408) (q : Fin 1024) :
    (iblk m c 6 t : FVec Ideal S1408x1024 .bf16) (ix2 k q) = WD m c (ix2 ⟨1408 * j.val + k.val, by omega⟩ q) := by
  rw [← V_down m c]
  refine congrArg (V m c main_v3) (funext fun a => Fin.ext ?_)
  refine (Pipeline.Window.rect_emb_val (cfg0.win 6) t (ix2 k q) a).trans ?_
  match a with
  | ⟨0, _⟩ => show (BitVec.ofNat 32 (grid0.coords t 1).val).toNat * 1408 + k.val = 1408 * j.val + k.val; rw [half_word]; omega
  | ⟨1, _⟩ => show 0 * 1024 + q.val = q.val; omega

/-! ## The result -/

/-- A row of the result. -/
def rowOf (x o : FVec Ideal S16384x1024 .f32) (wo : FVec Ideal S1024x1024 .f32) (g : FVec Ideal S1024 .f32) (wgu : FVec Ideal S1024x5632 .f32) (wd : FVec Ideal S2816x1024 .f32)
    (r : Fin 16384) (q : Fin 1024) : EReal :=
  row (fun d => x (ix2 r d)) (fun d => o (ix2 r d)) wo (fun d => g (ix1 d)) wgu wd q

/-- The result array's contents. -/
def G (c : Dev nD) : FVec Ideal S16384x1024 .f32 := fun i => rowOf (X m c) (O m c) (WO m c) (NG m c) (WGU m c) (WD m c) (i 0) (i 1)

/-- The kernel's result array after the run. -/
theorem result_eq (c : Dev nD) : Value.G7 m c = G m c := by
  funext y
  obtain ⟨r, q, rfl⟩ : ∃ (r : Fin 16384) (q : Fin 1024), y = ix2 r q := ⟨y 0, y 1, eq_ix2 y⟩
  have hpt : Value.pt7Of (ix2 r q) = 2 * (r.val / 512) + 1 := by
    show 2 * (1 * (r.val / 512 - 0) + 1 * (q.val / 1024 - 0)) + 1 = _
    omega
  have hs : 2 * (r.val / 512) < cfg0.N := Nat.lt_of_lt_of_eq (by omega : _ < 64) N_0.symm
  have ht : 2 * (r.val / 512) + 1 < cfg0.N := Nat.lt_of_lt_of_eq (by omega : _ < 64) N_0.symm
  have hl : Value.loc7Of (ix2 r q) = ix2 ⟨r.val % 512, by omega⟩ q := by
    funext a
    apply Fin.ext
    match a with
    | ⟨0, _⟩ => rfl
    | ⟨1, _⟩ => show q.val % 1024 = q.val; omega
  have s0 : (2 * (r.val / 512)) % 2 = (0 : Fin 2).val := by show _ = 0; omega
  have t1 : (2 * (r.val / 512) + 1) % 2 = (1 : Fin 2).val := by show _ = 1; omega
  have hr : (⟨512 * (2 * (r.val / 512) / 2 % 32) + r.val % 512, by omega⟩ : Fin 16384) = r := Fin.ext (by show 512 * (2 * (r.val / 512) / 2 % 32) + r.val % 512 = r.val; omega)
  refine (result_out m c (ix2 r q) ⟨2 * (r.val / 512), hs⟩ ⟨2 * (r.val / 512) + 1, ht⟩ rfl hpt.symm).trans ((congrArg _ hl).trans ?_)
  refine (tile_of_blocks _ _ _ _ _ _ _ _ _ _ (fun d => X m c (ix2 r d)) (fun d => O m c (ix2 r d)) (WO m c) (fun d => NG m c (ix1 d)) (WGU m c) (WD m c) ⟨r.val % 512, by omega⟩ q
    (fun d => (x_block m c ⟨2 * (r.val / 512), hs⟩ _ d).trans (congrArg (fun r => X m c (ix2 r d)) hr))
    (fun d => (o_block m c ⟨2 * (r.val / 512), hs⟩ _ d).trans (congrArg (fun r => O m c (ix2 r d)) hr))
    (fun d q => proj_block m c ⟨2 * (r.val / 512), hs⟩ d q) (fun d => gains_block m c ⟨2 * (r.val / 512), hs⟩ d)
    (fun i k => gate_block m c ⟨2 * (r.val / 512), hs⟩ 0 s0 i k) (fun i k => up_block m c ⟨2 * (r.val / 512), hs⟩ 0 s0 i k) (fun k => down_block m c ⟨2 * (r.val / 512), hs⟩ 0 s0 k q)
    (fun i k => gate_block m c ⟨2 * (r.val / 512) + 1, ht⟩ 1 t1 i k) (fun i k => up_block m c ⟨2 * (r.val / 512) + 1, ht⟩ 1 t1 i k) (fun k => down_block m c ⟨2 * (r.val / 512) + 1, ht⟩ 1 t1 k q)).trans ?_
  rfl

end Cert.Kernel3Ideal.Ffn
-- ==== Proof.FfnRef.lean ====
/- The reference of the output projection and the dense feed-forward block, read at an index. -/
module

public import proofs.«01_k».proof.Proof.Gen.Reference3Ideal.Run
public import proofs.«01_k».proof.Proof.Ffn

@[expose] public section

set_option maxRecDepth 16384

noncomputable section

namespace Cert.Reference3Ideal.Ffn

open Cert.Reference3Ideal Cert.Reference3Ideal.Gen Cert.Dense
open Idealize.ShloMosaic Idealize.ShloMosaic.TcCoe

variable (x o : FVec Ideal S16384x1024 .f32) (wo : FVec Ideal S1024x1024 .f32) (g : FVec Ideal S1024 .f32) (wgu : FVec Ideal S1024x5632 .f32) (wd : FVec Ideal S2816x1024 .f32)

/-- The residual rows. -/
abbrev residual : FVec Ideal S16384x1024 .f32 := addf x (Host.dotGeneral dot_S16384x1024_S1024x1024_S16384x1024_1_0_0_1_n_n none o wo)

/-- Rows normalized. -/
abbrev normalized (a : FVec Ideal S16384x1024 .f32) : FVec Ideal S16384x1024 .f32 :=
  mulf (mulf a (broadcastInDim S16384x1024 ![0, 1] bcast_S16384x1_S16384x1024_0_1 (Host.rsqrt (addf
    (Host.divf (broadcastInDim S16384x1 ![0] bcast_S16384_S16384x1_0 (Host.reduceAdd (mulf a a) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Normalized rows times the gate and up weights. -/
abbrev projected (h : FVec Ideal S16384x1024 .f32) : FVec Ideal S16384x5632 .f32 := Host.dotGeneral dot_S16384x1024_S1024x5632_S16384x5632_1_0_0_1_n_n none h wgu

/-- What the block makes of the projections: the gated product times the down weights. -/
abbrev block (P : FVec Ideal S16384x5632 .f32) : FVec Ideal S16384x1024 .f32 :=
  Host.dotGeneral dot_S16384x2816_S2816x1024_S16384x1024_1_0_0_1_n_n none
    (mulf (mulf (extractStridedSlice S16384x2816 ![0, 0] P slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] P slices_S16384x5632_S16384x2816_0_0))))))
      (extractStridedSlice S16384x2816 ![0, 2816] P slices_S16384x5632_S16384x2816_0_2816)) wd

theorem residual_apply (r : Fin 16384) (q : Fin 1024) :
    (residual x o wo (ix2 r q) : EReal) = resid (fun d => x (ix2 r d)) (fun d => o (ix2 r d)) wo q := by
  pointwise [residual, resid]

theorem normalized_apply (a : FVec Ideal S16384x1024 .f32) (r : Fin 16384) (q : Fin 1024) :
    (normalized g a (ix2 r q) : EReal) = normed (fun d => g (ix1 d)) (fun d => a (ix2 r d)) q := by
  pointwise [normalized, normed]

theorem projected_apply (h : FVec Ideal S16384x1024 .f32) (r : Fin 16384) (n : Fin 5632) :
    (projected wgu h (ix2 r n) : EReal) = proj wgu (fun d => h (ix2 r d)) n := by
  pointwise [projected, proj]

theorem block_apply (P : FVec Ideal S16384x5632 .f32) (h : Fin 1024 → EReal) (r : Fin 16384) (q : Fin 1024) (hP : ∀ n, (P (ix2 r n) : EReal) = proj wgu h n) :
    (block wd P (ix2 r q) : EReal) = ∑ k : Fin 2816, Dense.hidden wgu h k * wd (ix2 k q) := by
  pointwise [block, Dense.hidden]
  simp only [hP]
  rfl

/-- The reference's result array, of the arguments. -/
theorem result_total (m : (ℓ : Loc nD τ sig) → Buf (Elt Ideal) ℓ) (c : Dev nD) :
    Value.res_out0 m c = (fun (x o : FVec Ideal S16384x1024 .f32) wo g wgu wd => addf (residual x o wo) (block wd (projected wgu (normalized g (residual x o wo)))))
      (m (c.tc.loc main_arg0)) (m (c.tc.loc main_arg1)) (m (c.tc.loc main_arg2)) (m (c.tc.loc main_arg3)) (m (c.tc.loc main_arg4)) (m (c.tc.loc main_arg5)) := by
  unfold Value.res_out0 Value.res_main_v21
  rfl

theorem total_apply (r : Fin 16384) (q : Fin 1024) :
    (addf (residual x o wo) (block wd (projected wgu (normalized g (residual x o wo)))) (ix2 r q) : EReal)
      = row (fun d => x (ix2 r d)) (fun d => o (ix2 r d)) wo (fun d => g (ix1 d)) wgu wd q := by
  have add_at (a b : FVec Ideal S16384x1024 .f32) : (addf a b (ix2 r q) : EReal) = (a (ix2 r q) : EReal) + (b (ix2 r q) : EReal) := rfl
  have hn (d : Fin 1024) : (normalized g (residual x o wo) (ix2 r d) : EReal) = normed (fun d => g (ix1 d)) (resid (fun d => x (ix2 r d)) (fun d => o (ix2 r d)) wo) d := by
    refine (normalized_apply g (residual x o wo) r d).trans ?_
    congr 1
    exact funext fun d => residual_apply x o wo r d
  refine (add_at _ _).trans (congrArg₂ (fun u v : EReal => u + v) (residual_apply x o wo r q)
    (block_apply wgu wd _ (normed (fun d => g (ix1 d)) (resid (fun d => x (ix2 r d)) (fun d => o (ix2 r d)) wo)) r q fun n => (projected_apply wgu _ r n).trans ?_))
  exact congrArg (fun h => proj wgu h n) (funext hn)

end Cert.Reference3Ideal.Ffn
-- ==== Proof.Heads.lean ====
/- The projections of one row: its normalized row times the weights, the heads normalized and turned by their position. -/
module

public import proofs.«01_k».proof.Proof.Ffn
public import Idealize.ShloMosaic.Lib.Pointwise

@[expose] public section

noncomputable section

namespace Cert.Heads

open Idealize.ShloMosaic

/-! ## Real numbers among the extended reals -/

/-- The value is a real number. -/
def IsReal (a : EReal) : Prop := ∃ r : ℝ, a = (r : EReal)

theorem IsReal.mul {a b : EReal} : IsReal a → IsReal b → IsReal (a * b) := by
  rintro ⟨r, rfl⟩ ⟨s, rfl⟩
  exact ⟨r * s, (EReal.coe_mul r s).symm⟩

theorem isReal_sum {ι : Type} (s : Finset ι) (f : ι → EReal) (h : ∀ i, IsReal (f i)) : IsReal (∑ i ∈ s, f i) := by
  choose r hr using h
  refine ⟨∑ i ∈ s, r i, ?_⟩
  rw [Finset.sum_congr rfl fun i _ => hr i]
  exact (map_sum (⟨⟨Real.toEReal, rfl⟩, EReal.coe_add⟩ : ℝ →+ EReal) r s).symm

theorem isReal_of_ne {a : EReal} (h1 : a ≠ ⊤) (h2 : a ≠ ⊥) : IsReal a := ⟨a.toReal, (EReal.coe_toReal h1 h2).symm⟩

theorem isReal_zero : IsReal 0 := ⟨0, EReal.coe_zero.symm⟩

theorem IsReal.sub_self {a : EReal} : IsReal a → a - a = 0 := by
  rintro ⟨r, rfl⟩
  rw [← EReal.coe_sub, _root_.sub_self, EReal.coe_zero]

theorem sq_nonneg (a : EReal) : 0 ≤ a * a := by
  induction a with
  | bot => simp
  | top => simp
  | coe r => rw [← EReal.coe_mul]; exact EReal.coe_nonneg.mpr (mul_self_nonneg r)

theorem sq_eq_top {a : EReal} (h : ¬IsReal a) : a * a = ⊤ := by
  induction a with
  | bot => simp
  | top => simp
  | coe r => exact absurd ⟨r, rfl⟩ h

/-! ## The row's norm -/

theorem bits_1024 : Ideal.ofBits .f32 0x44800000#32 = ((1024 : ℝ) : EReal) := by simp [Ideal.ofBits, Ideal.ieee, -EReal.coe_mul]; norm_num
theorem bits_64 : Ideal.ofBits .f32 0x42800000#32 = ((64 : ℝ) : EReal) := by simp [Ideal.ofBits, Ideal.ieee, -EReal.coe_mul]; norm_num
theorem bits_inv_64 : Ideal.ofBits .f32 0x3C800000#32 = ((64⁻¹ : ℝ) : EReal) := by simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem div_1024 (a : EReal) : Ideal.div a (Ideal.ofBits .f32 0x44800000#32) = a * ((1024⁻¹ : ℝ) : EReal) := by
  rw [bits_1024]
  unfold Ideal.div
  rw [if_neg (by norm_cast), ← EReal.coe_inv]

/-- Dividing by sixty-four is multiplying by its inverse. -/
theorem div_64 (a : EReal) : Ideal.div a (Ideal.ofBits .f32 0x42800000#32) = a * Ideal.ofBits .f32 0x3C800000#32 := by
  rw [bits_64, bits_inv_64]
  unfold Ideal.div
  rw [if_neg (by norm_cast), ← EReal.coe_inv]

/-- A normalized row is real wherever the gains are, whatever the row holds: an infinite entry makes the mean square
    infinite and the whole row zero. -/
theorem normed_real (g a : Fin 1024 → EReal) (hg : ∀ q, IsReal (g q)) (q : Fin 1024) : IsReal (Dense.normed g a q) := by
  unfold Dense.normed
  refine IsReal.mul ?_ (hg q)
  obtain ⟨e, he, heq⟩ := bits_eps
  rw [heq, div_1024]
  by_cases h : ∀ d, IsReal (a d)
  · refine IsReal.mul (h q) ?_
    choose r hr using h
    have hs : ∑ d : Fin 1024, a d * a d = ((∑ d : Fin 1024, r d * r d : ℝ) : EReal) := by
      rw [Finset.sum_congr rfl fun d _ => show a d * a d = ((r d * r d : ℝ) : EReal) by rw [hr d, EReal.coe_mul]]
      exact (map_sum (⟨⟨Real.toEReal, rfl⟩, EReal.coe_add⟩ : ℝ →+ EReal) _ _).symm
    have hn : 0 ≤ ∑ d : Fin 1024, r d * r d := Finset.sum_nonneg fun d _ => mul_self_nonneg (r d)
    have hp : 0 < (∑ d : Fin 1024, r d * r d) * 1024⁻¹ + e := by positivity
    rw [hs, ← EReal.coe_mul, ← EReal.coe_add]
    show IsReal (if (∑ d : Fin 1024, r d * r d) * 1024⁻¹ + e < 0 then ⊥ else if (∑ d : Fin 1024, r d * r d) * 1024⁻¹ + e = 0 then ⊤ else
      ((Real.sqrt ((∑ d : Fin 1024, r d * r d) * 1024⁻¹ + e))⁻¹ : ℝ))
    rw [if_neg (not_lt.mpr hp.le), if_neg hp.ne']
    exact ⟨_, rfl⟩
  · obtain ⟨d, hd⟩ := not_forall.mp h
    have hs : ∑ d : Fin 1024, a d * a d = ⊤ :=
      top_le_iff.mp ((sq_eq_top hd).symm.le.trans (Finset.single_le_sum (f := fun d => a d * a d) (fun i _ => sq_nonneg (a i)) (Finset.mem_univ d)))
    rw [hs, EReal.top_mul_coe_of_pos (by norm_num), EReal.top_add_coe]
    show IsReal (a q * 0)
    rw [mul_zero]
    exact isReal_zero

/-! ## The heads -/

variable {N : Nat} (h : Fin 1024 → EReal) (w : (⟨2, ![1024, N]⟩ : Shape).Idx → EReal)

/-- A normalized row times a column of the weights. -/
def column (n : Fin N) : EReal := ∑ d : Fin 1024, h d * w (ix2 d n)

theorem column_real (hh : ∀ d, IsReal (h d)) (hw : ∀ i, IsReal (w i)) (n : Fin N) : IsReal (column h w n) :=
  isReal_sum _ _ fun d => (hh d).mul (hw _)

/-- A head over the root of its mean square, times the gains. -/
def unit (g v : Fin 64 → EReal) (k : Fin 64) : EReal :=
  v k * Ideal.rsqrt (Ideal.div (∑ j : Fin 64, v j * v j) (Ideal.ofBits .f32 0x42800000#32) + Ideal.ofBits .f32 0x358637BD#32) * g k

/-- A head turned: its first eight entries and its next eight are the two coordinates of eight points in the plane. -/
def turned (c s : Fin 8 → EReal) (v : Fin 64 → EReal) (k : Fin 64) : EReal :=
  if hk : k.val < 8 then v k * c ⟨k.val, hk⟩ - v ⟨k.val + 8, by omega⟩ * s ⟨k.val, hk⟩
  else if hk' : k.val < 16 then v k * c ⟨k.val - 8, by omega⟩ + v ⟨k.val - 8, by omega⟩ * s ⟨k.val - 8, by omega⟩
  else v k

/-- Entry `n` of the heads that the columns from `b` on hold, normalized and turned. -/
def head (b : Nat) (hb : b + 512 ≤ N) (c s : Fin 8 → EReal) (g : Fin 64 → EReal) (n : Fin 512) : EReal :=
  turned c s (unit g fun k => column h w ⟨b + (64 * (n.val / 64) + k.val), by omega⟩) ⟨n.val % 64, by omega⟩

/-- A sum over the lanes of a group of two heads, masked to the head of lane `b`, is the sum over that head. -/
theorem sum_group (f : Fin 128 → EReal) (b : Fin 128) :
    (∑ a : Fin 128, f a * (if a.val / 64 = b.val / 64 then 1 else 0)) = ∑ j : Fin 64, f ⟨64 * (b.val / 64) + j.val, by omega⟩ := by
  rw [Fin.sum_univ_two_halves 64 64 rfl]
  have hb : b.val / 64 = 0 ∨ b.val / 64 = 1 := by omega
  rcases hb with e | e
  · have h1 (j : Fin 64) : (j.val / 64 = b.val / 64) := by omega
    have h2 (j : Fin 64) : ¬((64 + j.val) / 64 = b.val / 64) := by omega
    simp only [h1, h2, if_true, if_false, mul_one, mul_zero, Finset.sum_const_zero, add_zero]
    refine Finset.sum_congr rfl fun j _ => congrArg f (Fin.ext ?_)
    show j.val = 64 * (b.val / 64) + j.val
    omega
  · have h1 (j : Fin 64) : ¬(j.val / 64 = b.val / 64) := by omega
    have h2 (j : Fin 64) : ((64 + j.val) / 64 = b.val / 64) := by omega
    simp only [h1, h2, if_true, if_false, mul_one, mul_zero, Finset.sum_const_zero, zero_add]
    refine Finset.sum_congr rfl fun j _ => congrArg f (Fin.ext ?_)
    show 64 + j.val = 64 * (b.val / 64) + j.val
    omega

/-! ## The results of the even layer's call -/

/-- The angle of a position: its number times a frequency. -/
def angle (s : Nat) (i : Fin 8) : EReal :=
  FloatOps.sitofp (F := Ideal) .f32 (BitVec.ofNat 32 s) *
    Ideal.pow (Ideal.ofBits .f32 0x48F42400#32) (Ideal.div (-FloatOps.sitofp (F := Ideal) .f32 (BitVec.ofNat 32 i.val) * Ideal.ofBits .f32 0x40000000#32) (Ideal.ofBits .f32 0x41800000#32))

/-- The cosines and the sines at a position. -/
def cosAt (s : Nat) (i : Fin 8) : EReal := Ideal.cos (angle s i)
def sinAt (s : Nat) (i : Fin 8) : EReal := Ideal.sin (angle s i)

/-- The same of a row of the prompt, whose position is its number within its sequence of 2048. -/
abbrev cosOf (r : Fin 16384) : Fin 8 → EReal := cosAt (r.val % 2048)
abbrev sinOf (r : Fin 16384) : Fin 8 → EReal := sinAt (r.val % 2048)

/-- The scale of attention's scores, one eighth. -/
def eighth : EReal := Ideal.ofBits .f32 0x3E000000#32

section Results

variable {R : Nat} (x : (⟨2, ![R, 1024]⟩ : Shape).Idx → EReal) (g : (⟨1, ![1024]⟩ : Shape).Idx → EReal) (w : (⟨2, ![1024, 3072]⟩ : Shape).Idx → EReal) (qg kg : (⟨1, ![64]⟩ : Shape).Idx → EReal)

/-- A row normalized. -/
def rowOf (r : Fin R) : Fin 1024 → EReal := Dense.normed (fun d => g (ix1 d)) fun d => x (ix2 r d)

/-- The dense heads' queries at a row's position, scaled. -/
def denseQAt (s : Nat) (r : Fin R) (q : Fin 512) : EReal := head (rowOf x g r) w 0 (by omega) (cosAt s) (sinAt s) (fun k => qg (ix1 k)) q * eighth

/-- The dense heads' keys at a row's position, then their values. -/
def denseKVAt (s : Nat) (r : Fin R) (q : Fin 1024) : EReal :=
  if h : q.val < 512 then head (rowOf x g r) w 512 (by omega) (cosAt s) (sinAt s) (fun k => kg (ix1 k)) ⟨q.val, h⟩ else column (rowOf x g r) w ⟨512 + q.val, by omega⟩

/-- The sparse heads' queries, scaled. -/
def sparseQ (r : Fin R) (q : Fin 512) : EReal := column (rowOf x g r) w ⟨1536 + q.val, by omega⟩ * eighth

/-- The sparse heads' keys, then their values. -/
def sparseKV (r : Fin R) (q : Fin 1024) : EReal := column (rowOf x g r) w ⟨2048 + q.val, by omega⟩

end Results

/-- The dense heads' rows of the prompt. -/
abbrev denseQ (x : (⟨2, ![16384, 1024]⟩ : Shape).Idx → EReal) (g : (⟨1, ![1024]⟩ : Shape).Idx → EReal) (w : (⟨2, ![1024, 3072]⟩ : Shape).Idx → EReal) (qg : (⟨1, ![64]⟩ : Shape).Idx → EReal)
    (r : Fin 16384) (q : Fin 512) : EReal := denseQAt x g w qg (r.val % 2048) r q
abbrev denseKV (x : (⟨2, ![16384, 1024]⟩ : Shape).Idx → EReal) (g : (⟨1, ![1024]⟩ : Shape).Idx → EReal) (w : (⟨2, ![1024, 3072]⟩ : Shape).Idx → EReal) (kg : (⟨1, ![64]⟩ : Shape).Idx → EReal)
    (r : Fin 16384) (q : Fin 1024) : EReal := denseKVAt x g w kg (r.val % 2048) r q

/-! ## The results of the odd layer's call -/

section Odd

variable (x : (⟨2, ![16384, 1024]⟩ : Shape).Idx → EReal) (g : (⟨1, ![1024]⟩ : Shape).Idx → EReal) (w : (⟨2, ![1024, 2608]⟩ : Shape).Idx → EReal) (qg : (⟨1, ![64]⟩ : Shape).Idx → EReal)
  (kg : (⟨2, ![3, 64]⟩ : Shape).Idx → EReal)

/-- The queries, sixteen heads of them, scaled. -/
def oddQ (r : Fin 16384) (q : Fin 1024) : EReal :=
  (if h : q.val < 512 then head (rowOf x g r) w 0 (by omega) (cosOf r) (sinOf r) (fun k => qg (ix1 k)) ⟨q.val, h⟩
    else head (rowOf x g r) w 512 (by omega) (cosOf r) (sinOf r) (fun k => qg (ix1 k)) ⟨q.val - 512, by omega⟩) * eighth

/-- The keys of branch `i`, four heads of them, then its values. -/
def oddKV (i : Fin 3) (r : Fin 16384) (q : Fin 512) : EReal :=
  if q.val < 256 then head (rowOf x g r) w (1024 + 512 * i.val) (by omega) (cosOf r) (sinOf r) (fun k => kg (ix2 i k)) q
    else column (rowOf x g r) w ⟨1024 + 512 * i.val + q.val, by omega⟩

/-- The branches' gates, forty-eight of them; the columns past those hold the gate of a zero. -/
def oddGate (r : Fin 16384) (l : Fin 128) : EReal := Ideal.logistic (if h : l.val < 48 then column (rowOf x g r) w ⟨2560 + l.val, by omega⟩ else 0)

/-- Weights with eighty columns of zeros after them. -/
def padded : (⟨2, ![1024, 2688]⟩ : Shape).Idx → EReal := fun i => if h : (i 1).val < 2608 then w (ix2 (i 0) ⟨(i 1).val, h⟩) else 0

theorem padded_real (hw : ∀ i, IsReal (w i)) (i : (⟨2, ![1024, 2688]⟩ : Shape).Idx) : IsReal (padded w i) := by
  unfold padded
  split
  · exact hw _
  · exact isReal_zero

theorem column_padded (h : Fin 1024 → EReal) (n : Fin 2688) : column h (padded w) n = if hn : n.val < 2608 then column h w ⟨n.val, hn⟩ else 0 := by
  unfold column
  by_cases hn : n.val < 2608
  · rw [dif_pos hn]
    exact Finset.sum_congr rfl fun d _ => congrArg (h d * ·) (dif_pos hn)
  · rw [dif_neg hn]
    exact Finset.sum_eq_zero fun d _ => (congrArg (h d * ·) (dif_neg hn)).trans (mul_zero _)

theorem column_inside (h : Fin 1024 → EReal) (n : Nat) (hn : n < 2608) : column h (padded w) ⟨n, by omega⟩ = column h w ⟨n, hn⟩ :=
  (column_padded w h _).trans (dif_pos hn)

theorem head_padded (h : Fin 1024 → EReal) (b : Nat) (hb : b + 512 ≤ 2608) (c s : Fin 8 → EReal) (gr : Fin 64 → EReal) (q : Fin 512) :
    head h (padded w) b (by omega) c s gr q = head h w b hb c s gr q := by
  unfold head
  exact congrFun (congrArg (turned c s) (congrArg (unit gr) (funext fun k => column_inside w h _ (by omega)))) _

end Odd

end Cert.Heads

end
-- ==== Proof.HeadPoint.lean ====
/- The kernel's step over a group of two heads, read at an index. -/
module

public import proofs.«01_k».proof.Proof.Gen.Kernel4Ideal.Value
public import proofs.«01_k».proof.Proof.Heads

@[expose] public section

set_option maxRecDepth 16384

noncomputable section

namespace Cert.Kernel4Ideal.Proj

open Cert.Kernel4Ideal Cert.Kernel4Ideal.Gen Cert.Heads
open Idealize.ShloMosaic Idealize.ShloMosaic.TcCoe

/-- The matrix that adds up each head's lanes. -/
abbrev ones : FVec Ideal S128x128 .bf16 := k0_pay7 (F := Ideal) k0_pay5 (iota .tc S128x128 32 [1] iota_S128x128_d1_w32) 64#32 k0_pay6

/-- A group's rows with each head over the root of its mean square, times the gains: the squares' sums are taken in two parts. -/
abbrev unitBlock (o : FVec Ideal S128x128 .bf16) (y : FVec Ideal S512x128 .f32) (g : FVec Ideal S1x128 .f32) : FVec Ideal S512x128 .f32 :=
  mulf (mulf y (rsqrt (addf (mulf (addf
      (matmul dot_S512x128_S128x128_S512x128_1_0_0_1_n_n none (truncf .bf16 (mulf y y) bitsLt_bf16_f32) o (constant S512x128 .f32 0x00000000#32))
      (matmul dot_S512x128_S128x128_S512x128_1_0_0_1_n_n none (truncf .bf16 (subf (mulf y y) (extf .f32 (truncf .bf16 (mulf y y) bitsLt_bf16_f32) bitsLt_bf16_f32)) bitsLt_bf16_f32) o (constant S512x128 .f32 0x00000000#32)))
      (broadcast S512x128 (Scalar.ofBits (F := Ideal) .f32 0x3C800000#32)))
      (broadcast S512x128 (Scalar.ofBits (F := Ideal) .f32 0x358637BD#32)))))
    (broadcastTo S512x128 g broadcasts_S1x128_S512x128)

/-- The rows turned: times the cosines, and the rows moved by eight lanes either way times the sines. -/
abbrev turnedBlock (c sa sb n : FVec Ideal S512x128 .f32) : FVec Ideal S512x128 .f32 :=
  addf (addf (mulf n c) (mulf (dynamicRotate 1 120#32 none n rotates_S512x128_d1) sa)) (mulf (dynamicRotate 1 8#32 none n rotates_S512x128_d1) sb)

theorem row_group (a b : Fin 128) : k0_pay5 (ix2 a b) = BitVec.ofNat 32 (a.val / 64) := by
  have h : ∀ a : Fin 128, k0_pay5 (ix2 a (0 : Fin 128)) = BitVec.ofNat 32 (a.val / 64) := by decide +kernel
  exact h a

theorem lane_group : ∀ b : Fin 128, Scalar.select
    (IntOp.andi
      (IntOp.cmpi CmpIPredicate.ne
        (IntOp.subi (BitVec.setWidth 32 (IntOp.cmpi CmpIPredicate.sgt (BitVec.ofNat 32 b.val) 0#32))
          (BitVec.setWidth 32 (IntOp.cmpi CmpIPredicate.slt (BitVec.ofNat 32 b.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 b.val) 64#32) 0#32))
    (IntOp.subi (IntOp.divsi ArithUnit.vector (BitVec.ofNat 32 b.val) 64#32) 1#32)
    (IntOp.divsi ArithUnit.vector (BitVec.ofNat 32 b.val) 64#32) = BitVec.ofNat 32 (b.val / 64) := by decide +kernel

theorem ones_apply (a b : Fin 128) : (ones (ix2 a b) : EReal) = if a.val / 64 = b.val / 64 then 1 else 0 := by
  pointwise [ones, k0_pay7, k0_pay6]
  rw [row_group, lane_group]
  by_cases h : a.val / 64 = b.val / 64
  · rw [if_pos h, h]
    show Scalar.select (BitVec.ofBool (BitVec.ofNat 32 (b.val / 64) == BitVec.ofNat 32 (b.val / 64))) (1 : EReal) 0 = 1
    rw [beq_self_eq_true]
    rfl
  · have hne : ¬(BitVec.ofNat 32 (a.val / 64) = BitVec.ofNat 32 (b.val / 64)) := by
      intro e
      have := congrArg BitVec.toNat e
      rw [BitVec.toNat_ofNat, BitVec.toNat_ofNat] at this
      omega
    rw [if_neg h]
    show Scalar.select (BitVec.ofBool (BitVec.ofNat 32 (a.val / 64) == BitVec.ofNat 32 (b.val / 64))) (1 : EReal) 0 = 0
    rw [beq_eq_false_iff_ne.mpr hne]
    rfl

theorem unitBlock_apply (y : FVec Ideal S512x128 .f32) (g : FVec Ideal S1x128 .f32) (v : Fin 128 → EReal) (gr : Fin 64 → EReal) (p : Fin 512) (l : Fin 128)
    (hy : ∀ l : Fin 128, (y (ix2 p l) : EReal) = v l) (hv : ∀ l, IsReal (v l)) (hg : ∀ l : Fin 128, (g (ix2 0 l) : EReal) = gr ⟨l.val % 64, by omega⟩) :
    (unitBlock ones y g (ix2 p l) : EReal) = unit gr (fun k => v ⟨64 * (l.val / 64) + k.val, by omega⟩) ⟨l.val % 64, by omega⟩ := by
  pointwise [unitBlock]
  simp only [hy, hg, ones_apply, ((hv _).mul (hv _)).sub_self, zero_mul, Finset.sum_const_zero, add_zero]
  rw [sum_group (fun x => v x * v x) l]
  unfold unit
  rw [div_64]
  have e : (⟨64 * (l.val / 64) + l.val % 64, by omega⟩ : Fin 128) = l := Fin.ext (by show 64 * (l.val / 64) + l.val % 64 = l.val; omega)
  dsimp only
  rw [e]

theorem turnedBlock_apply (c sa sb n : FVec Ideal S512x128 .f32) (cs sn : Fin 8 → EReal) (v : Fin 2 → Fin 64 → EReal) (p : Fin 512) (l : Fin 128)
    (hn : ∀ l : Fin 128, (n (ix2 p l) : EReal) = v ⟨l.val / 64, by omega⟩ ⟨l.val % 64, by omega⟩)
    (hc : ∀ l : Fin 128, (c (ix2 p l) : EReal) = if h : l.val % 64 < 8 then cs ⟨l.val % 64, h⟩ else if h : l.val % 64 < 16 then cs ⟨l.val % 64 - 8, by omega⟩ else 1)
    (hsa : ∀ l : Fin 128, (sa (ix2 p l) : EReal) = if h : l.val % 64 < 8 then -sn ⟨l.val % 64, h⟩ else 0)
    (hsb : ∀ l : Fin 128, (sb (ix2 p l) : EReal) = if l.val % 64 < 8 then 0 else if h : l.val % 64 < 16 then sn ⟨l.val % 64 - 8, by omega⟩ else 0) :
    (turnedBlock c sa sb n (ix2 p l) : EReal) = turned cs sn (v ⟨l.val / 64, by omega⟩) ⟨l.val % 64, by omega⟩ := by
  pointwise [turnedBlock]
  simp only [hn, hc, hsa, hsb]
  unfold turned
  have hl := l.isLt
  by_cases h1 : l.val % 64 < 8
  · have a1 : (⟨(l.val + 128 - 120) % 128 / 64, by omega⟩ : Fin 2) = ⟨l.val / 64, by omega⟩ := Fin.ext (by show (l.val + 128 - 120) % 128 / 64 = l.val / 64; omega)
    have a2 : (⟨(l.val + 128 - 120) % 128 % 64, by omega⟩ : Fin 64) = ⟨l.val % 64 + 8, by omega⟩ := Fin.ext (by show (l.val + 128 - 120) % 128 % 64 = l.val % 64 + 8; omega)
    rw [dif_pos h1, dif_pos h1, dif_pos h1, if_pos h1, a1, a2, mul_zero, add_zero, mul_neg, ← sub_eq_add_neg]
  · by_cases h2 : l.val % 64 < 16
    · have a1 : (⟨(l.val + 128 - 8) % 128 / 64, by omega⟩ : Fin 2) = ⟨l.val / 64, by omega⟩ := Fin.ext (by show (l.val + 128 - 8) % 128 / 64 = l.val / 64; omega)
      have a2 : (⟨(l.val + 128 - 8) % 128 % 64, by omega⟩ : Fin 64) = ⟨l.val % 64 - 8, by omega⟩ := Fin.ext (by show (l.val + 128 - 8) % 128 % 64 = l.val % 64 - 8; omega)
      rw [dif_neg h1, dif_neg h1, dif_neg h1, if_neg h1, dif_pos h2, dif_pos h2, dif_pos h2, a1, a2, mul_zero, add_zero]
    · rw [dif_neg h1, dif_neg h1, dif_neg h1, if_neg h1, dif_neg h2, dif_neg h2, dif_neg h2, mul_zero, mul_zero, mul_one, add_zero, add_zero]

end Cert.Kernel4Ideal.Proj
-- ==== Proof.ProjTile.lean ====
/- The kernel's step over a tile of rows: what it leaves in the six results, read at an index. -/
module

public import proofs.«01_k».proof.Proof.HeadPoint
public import Idealize.ShloMosaic.Lib.Pipeline.Value
public import Idealize.ShloMosaic.Lib.Pipeline.ValueKit
public import Idealize.ShloMosaic.Lib.Tactic

@[expose] public section

set_option maxRecDepth 16384

noncomputable section

namespace Cert.Kernel4Ideal.Proj

open Cert.Kernel4Ideal Cert.Kernel4Ideal.Gen Cert.Heads
open Idealize.ShloMosaic Idealize.ShloMosaic.TcCoe

theorem zero2 : (![0, 0] : Fin 2 → Nat) = fun _ => 0 := funext fun a => by fin_cases a <;> rfl

section Tile

variable (x0 : Vec Ideal S512x1024 .f32) (x1 : Vec Ideal S1x1024 .f32) (x2 : Vec Ideal S1024x3072 .bf16) (x3 x4 : Vec Ideal S1x128 .f32) (x5 x6 x7 : Vec Ideal S512x128 .f32)
  (p : Fin 512) (hr : Fin 1024 → EReal) (w : S1024x3072.Idx → EReal) (qg kg : Fin 64 → EReal) (cs sn : Fin 8 → EReal)

/-- What the blocks hold for row `p` of the tile: the row normalized, the weights, the two gains once per head, and the
    three tables of the row's position. -/
structure Row : Prop where
  row : ∀ d : Fin 1024, ((k0_pay4 (F := Ideal) x0 x1) (ix2 p d) : EReal) = hr d
  weights : ∀ (d : Fin 1024) (n : Fin 3072), (x2 (ix2 d n) : EReal) = w (ix2 d n)
  row_real : ∀ d, IsReal (hr d)
  weights_real : ∀ i, IsReal (w i)
  q_gains : ∀ l : Fin 128, ((k0_pay13 (F := Ideal) x3) (ix2 0 l) : EReal) = qg ⟨l.val % 64, by omega⟩
  k_gains : ∀ l : Fin 128, ((k0_pay13 (F := Ideal) x4) (ix2 0 l) : EReal) = kg ⟨l.val % 64, by omega⟩
  cosines : ∀ l : Fin 128, ((k0_pay8 (F := Ideal) x5) (ix2 p l) : EReal) = if h : l.val % 64 < 8 then cs ⟨l.val % 64, h⟩ else if h : l.val % 64 < 16 then cs ⟨l.val % 64 - 8, by omega⟩ else 1
  sines_up : ∀ l : Fin 128, ((k0_pay9 (F := Ideal) x6) (ix2 p l) : EReal) = if h : l.val % 64 < 8 then -sn ⟨l.val % 64, h⟩ else 0
  sines_down : ∀ l : Fin 128, ((k0_pay10 (F := Ideal) x7) (ix2 p l) : EReal) = if l.val % 64 < 8 then 0 else if h : l.val % 64 < 16 then sn ⟨l.val % 64 - 8, by omega⟩ else 0

variable {x0 x1 x2 x3 x4 x5 x6 x7 p hr w qg kg cs sn} (R : Row x0 x1 x2 x3 x4 x5 x6 x7 p hr w qg kg cs sn)
include R

/-- A group of lanes of 512 columns' heads: with the gains it is handed, the heads' entries. -/
theorem group_head (b : Nat) (hb : b + 512 ≤ 3072) (j : Nat) (hj : j < 4) (y : FVec Ideal S512x128 .f32) (g : FVec Ideal S1x128 .f32) (gr : Fin 64 → EReal)
    (hy : ∀ l : Fin 128, (y (ix2 p l) : EReal) = column hr w ⟨b + (128 * j + l.val), by omega⟩)
    (hg : ∀ l : Fin 128, (g (ix2 0 l) : EReal) = gr ⟨l.val % 64, by omega⟩) (q : Fin 512) (l : Fin 128) (hq : q.val = 128 * j + l.val) :
    (turnedBlock (k0_pay8 (F := Ideal) x5) (k0_pay9 (F := Ideal) x6) (k0_pay10 (F := Ideal) x7) (unitBlock ones y g) (ix2 p l) : EReal) = head hr w b hb cs sn gr q := by
  refine (turnedBlock_apply _ _ _ _ cs sn (fun e => unit gr fun k => column hr w ⟨b + (128 * j + (64 * e.val + k.val)), by omega⟩) p l
    (fun l => (unitBlock_apply y g (fun l => column hr w ⟨b + (128 * j + l.val), by omega⟩) gr p l hy (fun _ => column_real hr w R.row_real R.weights_real _) hg).trans rfl)
    R.cosines R.sines_up R.sines_down).trans ?_
  unfold head
  have e1 : q.val / 64 = 2 * j + l.val / 64 := by omega
  have e2 : (⟨q.val % 64, by omega⟩ : Fin 64) = ⟨l.val % 64, by omega⟩ := Fin.ext (by show q.val % 64 = l.val % 64; omega)
  rw [e2]
  refine congrFun (congrArg (turned cs sn) (congrArg (unit gr) (funext fun k => congrArg (column hr w) (Fin.ext ?_)))) _
  show b + (128 * j + (64 * (l.val / 64) + k.val)) = b + (64 * (q.val / 64) + k.val)
  omega

theorem columns_512 (b : Nat) (hb : b + 512 ≤ 3072) (off : Fin 2 → Nat) (h0 : off 0 = 0) (h1 : off 1 = b) (inb) (n : Fin 512) :
    ((k0_pay11 (F := Ideal) (k0_pay4 x0 x1) (View.ld x2 (Rect.unit (s := S1024x3072) off ![1024, 512] inb))) (ix2 p n) : EReal) = column hr w ⟨b + n.val, by omega⟩ := by
  pointwise [k0_pay11, column]
  refine Finset.sum_congr rfl fun d _ => ?_
  rw [R.row d, ← R.weights d ⟨b + n.val, by omega⟩]
  exact congrArg (fun i => hr d * x2 i) (congrArg₂ ix2 (Fin.ext (by show off 0 + d.val = d.val; omega)) (Fin.ext (by show off 1 + n.val = b + n.val; omega)))

theorem columns_1024 (b : Nat) (hb : b + 1024 ≤ 3072) (off : Fin 2 → Nat) (h0 : off 0 = 0) (h1 : off 1 = b) (inb) (n : Fin 1024) :
    ((k0_pay3 (F := Ideal) (k0_pay4 x0 x1) (View.ld x2 (Rect.unit (s := S1024x3072) off ![1024, 1024] inb))) (ix2 p n) : EReal) = column hr w ⟨b + n.val, by omega⟩ := by
  pointwise [k0_pay3, k0_pay2, column]
  refine Finset.sum_congr rfl fun d _ => ?_
  rw [R.row d, ← R.weights d ⟨b + n.val, by omega⟩]
  exact congrArg (fun i => hr d * x2 i) (congrArg₂ ix2 (Fin.ext (by show off 0 + d.val = d.val; omega)) (Fin.ext (by show off 1 + n.val = b + n.val; omega)))

/-- The same of a slice of the product's columns, read at any index of the group. -/
theorem tile_head (b : Nat) (hb : b + 512 ≤ 3072) (j : Nat) (hj : j < 4) (Y : FVec Ideal S512x512 .f32) (g : FVec Ideal S1x128 .f32) (gr : Fin 64 → EReal)
    (hY : ∀ n : Fin 512, (Y (ix2 p n) : EReal) = column hr w ⟨b + n.val, by omega⟩)
    (hg : ∀ l : Fin 128, (g (ix2 0 l) : EReal) = gr ⟨l.val % 64, by omega⟩) (off : Fin 2 → Nat) (o0 : off 0 = 0) (o1 : off 1 = 128 * j) (sl) (q : Fin 512)
    (x : S512x128.Idx) (e0 : p.val = (x 0).val) (e1 : q.val = 128 * j + (x 1).val) :
    (turnedBlock (k0_pay8 (F := Ideal) x5) (k0_pay9 (F := Ideal) x6) (k0_pay10 (F := Ideal) x7) (unitBlock ones (extractStridedSlice S512x128 off Y sl) g) x : EReal) = head hr w b hb cs sn gr q := by
  have ex : x = ix2 p (x 1) := by
    refine (eq_ix2 x).trans (congrArg₂ ix2 (Fin.ext e0.symm) rfl)
  rw [ex]
  refine group_head R b hb j hj _ g gr (fun l => ?_) hg q (x 1) e1
  refine Eq.trans ?_ (hY ⟨128 * j + l.val, by omega⟩)
  pointwise
  exact congrArg Y (congrArg₂ ix2 (Fin.ext (by show off 0 + p.val = p.val; omega)) (Fin.ext (by show off 1 + l.val = 128 * j + l.val; omega)))

variable (c : Dev nD) (i : grid0.Coords) (a1 : Memref sig .tc .vmem S512x1024 .f32) (w1 : a1.IsWhole) (a2 : Memref sig .tc .vmem S1x1024 .f32) (w2 : a2.IsWhole) (a3 : Memref sig .tc .vmem S1024x3072 .bf16) (w3 : a3.IsWhole) (a4 : Memref sig .tc .vmem S1x128 .f32) (w4 : a4.IsWhole) (a5 : Memref sig .tc .vmem S1x128 .f32) (w5 : a5.IsWhole) (a6 : Memref sig .tc .vmem S512x128 .f32) (w6 : a6.IsWhole) (a7 : Memref sig .tc .vmem S512x128 .f32) (w7 : a7.IsWhole) (a8 : Memref sig .tc .vmem S512x128 .f32) (w8 : a8.IsWhole) (a9 : Memref sig .tc .vmem S512x512 .bf16) (w9 : a9.IsWhole) (a10 : Memref sig .tc .vmem S512x1024 .f32) (w10 : a10.IsWhole) (a11 : Memref sig .tc .vmem S512x512 .bf16) (w11 : a11.IsWhole) (a12 : Memref sig .tc .vmem S512x1024 .f32) (w12 : a12.IsWhole) (a13 : Memref sig .tc .vmem S512x1024 .bf16) (w13 : a13.IsWhole) (a14 : Memref sig .tc .vmem S512x1024 .bf16) (w14 : a14.IsWhole)

theorem out8 (q : Fin 512) : (out0_A_8 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = head hr w 0 (by omega) cs sn qg q * Ideal.ofBits .f32 0x3E000000#32 := by
  unfold out0_A_8
  rw [View.read_writes_eq_canon _ _ _ (cover0_A_8 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h
  · exact congrArg (· * Ideal.ofBits .f32 0x3E000000#32) (tile_head R 0 (by omega) 3 (by omega) _ (k0_pay13 x3) qg (fun n => columns_512 R 0 (by omega) _ rfl rfl _ n) R.q_gains ![0, 384] rfl rfl slices_S512x512_o0_384_S512x128 _ x h0 (by simpa using h1))
  · exact congrArg (· * Ideal.ofBits .f32 0x3E000000#32) (tile_head R 0 (by omega) 2 (by omega) _ (k0_pay13 x3) qg (fun n => columns_512 R 0 (by omega) _ rfl rfl _ n) R.q_gains ![0, 256] rfl rfl slices_S512x512_o0_256_S512x128 _ x h0 (by simpa using h1))
  · exact congrArg (· * Ideal.ofBits .f32 0x3E000000#32) (tile_head R 0 (by omega) 1 (by omega) _ (k0_pay13 x3) qg (fun n => columns_512 R 0 (by omega) _ rfl rfl _ n) R.q_gains ![0, 128] rfl rfl slices_S512x512_o0_128_S512x128 _ x h0 (by simpa using h1))
  · exact congrArg (· * Ideal.ofBits .f32 0x3E000000#32) (tile_head R 0 (by omega) 0 (by omega) _ (k0_pay13 x3) qg (fun n => columns_512 R 0 (by omega) _ rfl rfl _ n) R.q_gains ![0, 0] rfl rfl slices_S512x512_o0_0_S512x128 _ x h0 (by simpa using h1))

theorem out9 (q : Fin 1024) : (out0_A_9 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = if h : q.val < 512 then head hr w 512 (by omega) cs sn kg ⟨q.val, h⟩ else column hr w ⟨512 + q.val, by omega⟩ := by
  unfold out0_A_9
  rw [View.read_writes_eq_canon _ _ _ (cover0_A_9 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 512 := by have := h1; simp at this; omega
    have ex : x = ix2 p (x 1) := (eq_ix2 x).trans (congrArg₂ ix2 (Fin.ext h0.symm) rfl)
    rw [dif_neg hq, ex]
    refine (columns_512 R 1024 (by omega) ![0, 1024] rfl rfl inb_S1024x3072_S1024x512_0_1024 (x 1)).trans (congrArg (column hr w) (Fin.ext ?_))
    show 1024 + (x 1).val = 512 + q.val
    have := h1; simp at this; omega
  · have hq : q.val < 512 := by have := h1; simp at this; omega
    rw [dif_pos hq]
    exact (tile_head R 512 (by omega) 3 (by omega) _ (k0_pay13 x4) kg (fun n => columns_512 R 512 (by omega) _ rfl rfl _ n) R.k_gains ![0, 384] rfl rfl slices_S512x512_o0_384_S512x128 _ x h0 (by simpa using h1))
  · have hq : q.val < 512 := by have := h1; simp at this; omega
    rw [dif_pos hq]
    exact (tile_head R 512 (by omega) 2 (by omega) _ (k0_pay13 x4) kg (fun n => columns_512 R 512 (by omega) _ rfl rfl _ n) R.k_gains ![0, 256] rfl rfl slices_S512x512_o0_256_S512x128 _ x h0 (by simpa using h1))
  · have hq : q.val < 512 := by have := h1; simp at this; omega
    rw [dif_pos hq]
    exact (tile_head R 512 (by omega) 1 (by omega) _ (k0_pay13 x4) kg (fun n => columns_512 R 512 (by omega) _ rfl rfl _ n) R.k_gains ![0, 128] rfl rfl slices_S512x512_o0_128_S512x128 _ x h0 (by simpa using h1))
  · have hq : q.val < 512 := by have := h1; simp at this; omega
    rw [dif_pos hq]
    exact (tile_head R 512 (by omega) 0 (by omega) _ (k0_pay13 x4) kg (fun n => columns_512 R 512 (by omega) _ rfl rfl _ n) R.k_gains ![0, 0] rfl rfl slices_S512x512_o0_0_S512x128 _ x h0 (by simpa using h1))

theorem out10 (q : Fin 512) : (out0_A_10 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = column hr w ⟨1536 + q.val, by omega⟩ * Ideal.ofBits .f32 0x3E000000#32 := by
  unfold out0_A_10
  rw [View.read_writes_eq_canon _ _ _ (cover0_A_10 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h
  have ex : x = ix2 p (x 1) := (eq_ix2 x).trans (congrArg₂ ix2 (Fin.ext h0.symm) rfl)
  rw [ex]
  refine congrArg (· * Ideal.ofBits .f32 0x3E000000#32) ((columns_512 R 1536 (by omega) ![0, 1536] rfl rfl inb_S1024x3072_S1024x512_0_1536 (x 1)).trans (congrArg (column hr w) (Fin.ext ?_)))
  show 1536 + (x 1).val = 1536 + q.val
  have := h1; simp at this; omega

theorem out11 (q : Fin 1024) : (out0_A_11 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = column hr w ⟨2048 + q.val, by omega⟩ := by
  unfold out0_A_11
  rw [View.read_writes_eq_canon _ _ _ (cover0_A_11 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h
  have ex : x = ix2 p (x 1) := (eq_ix2 x).trans (congrArg₂ ix2 (Fin.ext h0.symm) rfl)
  rw [ex]
  refine (columns_1024 R 2048 (by omega) ![0, 2048] rfl rfl inb_S1024x3072_S1024x1024_0_2048 (x 1)).trans (congrArg (column hr w) (Fin.ext ?_))
  show 2048 + (x 1).val = 2048 + q.val
  have := h1; simp at this; omega

theorem out12 (q : Fin 1024) : (out0_A_12 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = if h : q.val < 512 then head hr w 512 (by omega) cs sn kg ⟨q.val, h⟩ else column hr w ⟨512 + q.val, by omega⟩ := by
  unfold out0_A_12
  rw [View.read_writes_eq_canon _ _ _ (cover0_A_12 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 512 := by have := h1; simp at this; omega
    have ex : x = ix2 p (x 1) := (eq_ix2 x).trans (congrArg₂ ix2 (Fin.ext h0.symm) rfl)
    rw [dif_neg hq, ex]
    refine (columns_512 R 1024 (by omega) ![0, 1024] rfl rfl inb_S1024x3072_S1024x512_0_1024 (x 1)).trans (congrArg (column hr w) (Fin.ext ?_))
    show 1024 + (x 1).val = 512 + q.val
    have := h1; simp at this; omega
  · have hq : q.val < 512 := by have := h1; simp at this; omega
    rw [dif_pos hq]
    exact (tile_head R 512 (by omega) 3 (by omega) _ (k0_pay13 x4) kg (fun n => columns_512 R 512 (by omega) _ rfl rfl _ n) R.k_gains ![0, 384] rfl rfl slices_S512x512_o0_384_S512x128 _ x h0 (by simpa using h1))
  · have hq : q.val < 512 := by have := h1; simp at this; omega
    rw [dif_pos hq]
    exact (tile_head R 512 (by omega) 2 (by omega) _ (k0_pay13 x4) kg (fun n => columns_512 R 512 (by omega) _ rfl rfl _ n) R.k_gains ![0, 256] rfl rfl slices_S512x512_o0_256_S512x128 _ x h0 (by simpa using h1))
  · have hq : q.val < 512 := by have := h1; simp at this; omega
    rw [dif_pos hq]
    exact (tile_head R 512 (by omega) 1 (by omega) _ (k0_pay13 x4) kg (fun n => columns_512 R 512 (by omega) _ rfl rfl _ n) R.k_gains ![0, 128] rfl rfl slices_S512x512_o0_128_S512x128 _ x h0 (by simpa using h1))
  · have hq : q.val < 512 := by have := h1; simp at this; omega
    rw [dif_pos hq]
    exact (tile_head R 512 (by omega) 0 (by omega) _ (k0_pay13 x4) kg (fun n => columns_512 R 512 (by omega) _ rfl rfl _ n) R.k_gains ![0, 0] rfl rfl slices_S512x512_o0_0_S512x128 _ x h0 (by simpa using h1))

theorem out13 (q : Fin 1024) : (out0_A_13 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = column hr w ⟨2048 + q.val, by omega⟩ := by
  unfold out0_A_13
  rw [View.read_writes_eq_canon _ _ _ (cover0_A_13 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h
  have ex : x = ix2 p (x 1) := (eq_ix2 x).trans (congrArg₂ ix2 (Fin.ext h0.symm) rfl)
  rw [ex]
  refine (columns_1024 R 2048 (by omega) ![0, 2048] rfl rfl inb_S1024x3072_S1024x1024_0_2048 (x 1)).trans (congrArg (column hr w) (Fin.ext ?_))
  show 2048 + (x 1).val = 2048 + q.val
  have := h1; simp at this; omega

end Tile

end Cert.Kernel4Ideal.Proj
-- ==== Proof.ProjValue.lean ====
/- The projections' call: what the host prepares and what the tiles leave in the results. -/
module

public import proofs.«01_k».proof.Proof.ProjTile
public import proofs.«01_k».proof.Proof.Gen.Kernel4Ideal.Value
public import Idealize.ShloMosaic.Lib.StableHlo.RunRead

@[expose] public section

set_option maxRecDepth 16384

noncomputable section

namespace Cert.Kernel4Ideal.Proj

open Cert.Kernel4Ideal Cert.Kernel4Ideal.Gen Cert.Heads
open Idealize.ShloMosaic Idealize.ShloMosaic.TcCoe

variable (m : (ℓ : Loc nD τ sig) → Buf (Elt Ideal) ℓ)

/-- Two copies of a table side by side. -/
theorem doubled (y : FVec Ideal S2048x64 .f32) (s : Fin 2048) (l : Fin 128) :
    (concatenate S2048x128 1 [⟨S2048x64, y⟩, ⟨S2048x64, y⟩] concatenates_S2048x64_S2048x64_S2048x128_d1 (ix2 s l) : EReal) = y (ix2 s ⟨l.val % 64, by omega⟩) := by
  pointwise []
  split
  · exact congrArg (fun k => y (ix2 s k)) (Fin.ext (by show l.val = l.val % 64; omega))
  · exact congrArg (fun k => y (ix2 s k)) (Fin.ext (by show l.val - 64 = l.val % 64; omega))

/-- A table of a head's lanes in three parts. -/
theorem joined (a b : FVec Ideal S2048x8 .f32) (d : FVec Ideal S2048x48 .f32) (s : Fin 2048) (k : Fin 64) :
    (concatenate S2048x64 1 [⟨S2048x8, a⟩, ⟨S2048x8, b⟩, ⟨S2048x48, d⟩] concatenates_S2048x8_S2048x8_S2048x48_S2048x64_d1 (ix2 s k) : EReal)
      = if h : k.val < 8 then a (ix2 s ⟨k.val, h⟩) else if h : k.val < 16 then b (ix2 s ⟨k.val - 8, by omega⟩) else d (ix2 s ⟨k.val - 16, by omega⟩) := by
  pointwise []
  refine dite_congr rfl (fun h => rfl) fun h => ?_
  have e : (k.val - 8 < 8) = (k.val < 16) := propext (by omega)
  refine dite_congr e (fun _ => rfl) fun _ => ?_
  exact congrArg (fun k => d (ix2 s k)) (Fin.ext (by show k.val - 8 - 8 = k.val - 16; omega))

/-- The angles' array as the host computes it. -/
theorem angles_apply (V0 : Valuation τ sig (Elt Ideal)) (s : Fin 2048) (i : Fin 8) :
    ((show FVec Ideal S2048x8 .f32 from StableHlo.upto hostOps0 V0 18 (Proc.devRef .tc main_v14)) (ix2 s i) : EReal) = angle s i := by
  show StableHlo.upto hostOps0 V0 18 (Proc.devRef .tc main_v14) (ix2 s i) = _
  after_reads_simp
  pointwise [angle]

theorem V_cosines (c : Dev nD) (s : Fin 2048) (l : Fin 128) : ((show FVec Ideal S2048x128 .f32 from V m c main_v24) (ix2 s l) : EReal)
    = if h : l.val % 64 < 8 then Ideal.cos (angle s ⟨l.val % 64, h⟩) else if h : l.val % 64 < 16 then Ideal.cos (angle s ⟨l.val % 64 - 8, by omega⟩) else 1 := by
  show StableHlo.after hostOps0 (fun b => m (c, b)) (Proc.devRef .tc main_v24) (ix2 s l) = _
  after_reads_simp
  refine (doubled _ s l).trans ?_
  after_reads_simp
  refine (joined _ _ _ s ⟨l.val % 64, by omega⟩).trans ?_
  refine dite_congr rfl (fun h => ?_) fun _ => dite_congr rfl (fun h => ?_) fun _ => ?_
  · refine (congrFun (StableHlo.unary_result _ _ _ _ _ _) _).trans ?_
    exact congrArg Ideal.cos (angles_apply (fun b => m (c, b)) s _)
  · refine (congrFun (StableHlo.unary_result _ _ _ _ _ _) _).trans ?_
    exact congrArg Ideal.cos (angles_apply (fun b => m (c, b)) s _)
  · refine (congrFun (StableHlo.unary_result _ _ _ _ _ _) _).trans ?_
    after_reads_simp
    pointwise []
theorem V_up (c : Dev nD) (s : Fin 2048) (l : Fin 128) : ((show FVec Ideal S2048x128 .f32 from V m c main_v25) (ix2 s l) : EReal)
    = if h : l.val % 64 < 8 then -Ideal.sin (angle s ⟨l.val % 64, h⟩) else 0 := by
  show StableHlo.after hostOps0 (fun b => m (c, b)) (Proc.devRef .tc main_v25) (ix2 s l) = _
  after_reads_simp
  refine (doubled _ s l).trans ?_
  after_reads_simp
  refine (joined _ _ _ s ⟨l.val % 64, by omega⟩).trans ?_
  have hz (h : ¬ l.val % 64 < 8) : (0 : EReal) = if h : l.val % 64 < 16 then 0 else 0 := by split <;> rfl
  refine dite_congr rfl (fun h => ?_) fun h => (dite_congr rfl (fun h => ?_) fun _ => ?_).trans (hz h).symm
  · refine (congrFun (StableHlo.unary_result _ _ _ _ _ _) _).trans ?_
    after_reads_simp
    exact congrArg (fun v : EReal => -Ideal.sin v) (angles_apply (fun b => m (c, b)) s _)
  · refine (congrFun (StableHlo.unary_result _ _ _ _ _ _) _).trans ?_
    after_reads_simp
    pointwise []
  · refine (congrFun (StableHlo.unary_result _ _ _ _ _ _) _).trans ?_
    after_reads_simp
    pointwise []
theorem V_down (c : Dev nD) (s : Fin 2048) (l : Fin 128) : ((show FVec Ideal S2048x128 .f32 from V m c main_v26) (ix2 s l) : EReal)
    = if l.val % 64 < 8 then 0 else if h : l.val % 64 < 16 then Ideal.sin (angle s ⟨l.val % 64 - 8, by omega⟩) else 0 := by
  show StableHlo.after hostOps0 (fun b => m (c, b)) (Proc.devRef .tc main_v26) (ix2 s l) = _
  after_reads_simp
  refine (doubled _ s l).trans ?_
  after_reads_simp
  refine (joined _ _ _ s ⟨l.val % 64, by omega⟩).trans ?_
  refine dite_congr rfl (fun h => ?_) fun _ => dite_congr rfl (fun h => ?_) fun _ => ?_
  · refine (congrFun (StableHlo.unary_result _ _ _ _ _ _) _).trans ?_
    after_reads_simp
    pointwise []
  · refine (congrFun (StableHlo.unary_result _ _ _ _ _ _) _).trans ?_
    after_reads_simp
    exact congrArg Ideal.sin (angles_apply (fun b => m (c, b)) s _)
  · refine (congrFun (StableHlo.unary_result _ _ _ _ _ _) _).trans ?_
    after_reads_simp
    pointwise []

/-! ## The windows' blocks -/

/-- The arguments as launched: rows, gains, weights, the queries' gains, the keys'. -/
abbrev X (c : Dev nD) : FVec Ideal S16384x1024 .f32 := m ((c : Thread nD τ).loc main_arg0)
abbrev NG (c : Dev nD) : FVec Ideal S1024 .f32 := m ((c : Thread nD τ).loc main_arg1)
abbrev W (c : Dev nD) : FVec Ideal S1024x3072 .f32 := m ((c : Thread nD τ).loc main_arg2)
abbrev QG (c : Dev nD) : FVec Ideal S64 .f32 := m ((c : Thread nD τ).loc main_arg3)
abbrev KG (c : Dev nD) : FVec Ideal S64 .f32 := m ((c : Thread nD τ).loc main_arg4)

/-- Narrowing the weights changes nothing over the reals. -/
theorem V_weights (c : Dev nD) : (show FVec Ideal S1024x3072 .bf16 from V m c main_v28) = W m c := by
  show V m c main_v28 = _
  entry_read
  rfl

/-- The gains, as one row. -/
theorem V_gains (c : Dev nD) (d : Fin 1024) : (show FVec Ideal S1x1024 .f32 from V m c main_v27) (ix2 0 d) = NG m c (ix1 d) := by
  show V m c main_v27 (ix2 0 d) = _
  entry_read
  pointwise []

/-- The heads' gains, once per head of a group. -/
theorem V_q_gains (c : Dev nD) (l : Fin 128) : (show FVec Ideal S1x128 .f32 from V m c main_v32) (ix2 0 l) = QG m c (ix1 ⟨l.val % 64, by omega⟩) := by
  show V m c main_v32 (ix2 0 l) = _
  entry_read
  pointwise []

theorem V_k_gains (c : Dev nD) (l : Fin 128) : (show FVec Ideal S1x128 .f32 from V m c main_v36) (ix2 0 l) = KG m c (ix1 ⟨l.val % 64, by omega⟩) := by
  show V m c main_v36 (ix2 0 l) = _
  entry_read
  pointwise []

theorem x_index : ∀ t : Fin cfg0.N, win0_0.index t = ![t.val, 0] := (by decide +kernel : ∀ t : Fin grid0.N, win0_0.index t = ![t.val, 0])
theorem gains_index : ∀ t : Fin cfg0.N, win0_1.index t = ![0, 0] := (by decide +kernel : ∀ t : Fin grid0.N, win0_1.index t = ![0, 0])
theorem weights_index : ∀ t : Fin cfg0.N, win0_2.index t = ![0, 0] := (by decide +kernel : ∀ t : Fin grid0.N, win0_2.index t = ![0, 0])
theorem q_index : ∀ t : Fin cfg0.N, win0_3.index t = ![0, 0] := (by decide +kernel : ∀ t : Fin grid0.N, win0_3.index t = ![0, 0])
theorem k_index : ∀ t : Fin cfg0.N, win0_4.index t = ![0, 0] := (by decide +kernel : ∀ t : Fin grid0.N, win0_4.index t = ![0, 0])
theorem cos_index : ∀ t : Fin cfg0.N, win0_5.index t = ![t.val % 4, 0] := (by decide +kernel : ∀ t : Fin grid0.N, win0_5.index t = ![t.val % 4, 0])
theorem up_index : ∀ t : Fin cfg0.N, win0_6.index t = ![t.val % 4, 0] := (by decide +kernel : ∀ t : Fin grid0.N, win0_6.index t = ![t.val % 4, 0])
theorem down_index : ∀ t : Fin cfg0.N, win0_7.index t = ![t.val % 4, 0] := (by decide +kernel : ∀ t : Fin grid0.N, win0_7.index t = ![t.val % 4, 0])

/-- A tile's rows. -/
theorem x_block (c : Dev nD) (t : Fin cfg0.N) (p : Fin 512) (d : Fin 1024) (r : Fin 16384) (hr : r.val = 512 * t.val + p.val) :
    (iblk m c 0 t : FVec Ideal S512x1024 .f32) (ix2 p d) = X m c (ix2 r d) := by
  rw [show X m c = V m c main_arg0 from (V_main_arg0 m c).symm]
  refine congrArg (V m c main_arg0) (funext fun a => Fin.ext ?_)
  refine (Pipeline.Window.rect_emb_val (cfg0.win 0) t (ix2 p d) a).trans ?_
  have e := x_index t
  match a with
  | ⟨0, _⟩ => show win0_0.index t 0 * 512 + p.val = r.val; rw [e]; show t.val * 512 + p.val = r.val; omega
  | ⟨1, _⟩ => show win0_0.index t 1 * 1024 + d.val = d.val; rw [e]; show 0 * 1024 + d.val = d.val; omega

/-- The gains', the weights' and the heads' gains' blocks are their arrays. -/
theorem gains_block (c : Dev nD) (t : Fin cfg0.N) (d : Fin 1024) : (iblk m c 1 t : FVec Ideal S1x1024 .f32) (ix2 0 d) = NG m c (ix1 d) := by
  rw [← V_gains m c d]
  refine congrArg (V m c main_v27) (funext fun a => Fin.ext ?_)
  refine (Pipeline.Window.rect_emb_val (cfg0.win 1) t (ix2 0 d) a).trans ?_
  have e := gains_index t
  match a with
  | ⟨0, _⟩ => show win0_1.index t 0 * 1 + 0 = 0; rw [e]; show 0 * 1 + 0 = 0; omega
  | ⟨1, _⟩ => show win0_1.index t 1 * 1024 + d.val = d.val; rw [e]; show 0 * 1024 + d.val = d.val; omega

theorem weights_block (c : Dev nD) (t : Fin cfg0.N) (d : Fin 1024) (n : Fin 3072) : (iblk m c 2 t : FVec Ideal S1024x3072 .bf16) (ix2 d n) = W m c (ix2 d n) := by
  rw [← V_weights m c]
  refine congrArg (V m c main_v28) (funext fun a => Fin.ext ?_)
  refine (Pipeline.Window.rect_emb_val (cfg0.win 2) t (ix2 d n) a).trans ?_
  have e := weights_index t
  match a with
  | ⟨0, _⟩ => show win0_2.index t 0 * 1024 + d.val = d.val; rw [e]; show 0 * 1024 + d.val = d.val; omega
  | ⟨1, _⟩ => show win0_2.index t 1 * 3072 + n.val = n.val; rw [e]; show 0 * 3072 + n.val = n.val; omega

theorem q_block (c : Dev nD) (t : Fin cfg0.N) (l : Fin 128) : (iblk m c 3 t : FVec Ideal S1x128 .f32) (ix2 0 l) = QG m c (ix1 ⟨l.val % 64, by omega⟩) := by
  rw [← V_q_gains m c l]
  refine congrArg (V m c main_v32) (funext fun a => Fin.ext ?_)
  refine (Pipeline.Window.rect_emb_val (cfg0.win 3) t (ix2 0 l) a).trans ?_
  have e := q_index t
  match a with
  | ⟨0, _⟩ => show win0_3.index t 0 * 1 + 0 = 0; rw [e]; show 0 * 1 + 0 = 0; omega
  | ⟨1, _⟩ => show win0_3.index t 1 * 128 + l.val = l.val; rw [e]; show 0 * 128 + l.val = l.val; omega

theorem k_block (c : Dev nD) (t : Fin cfg0.N) (l : Fin 128) : (iblk m c 4 t : FVec Ideal S1x128 .f32) (ix2 0 l) = KG m c (ix1 ⟨l.val % 64, by omega⟩) := by
  rw [← V_k_gains m c l]
  refine congrArg (V m c main_v36) (funext fun a => Fin.ext ?_)
  refine (Pipeline.Window.rect_emb_val (cfg0.win 4) t (ix2 0 l) a).trans ?_
  have e := k_index t
  match a with
  | ⟨0, _⟩ => show win0_4.index t 0 * 1 + 0 = 0; rw [e]; show 0 * 1 + 0 = 0; omega
  | ⟨1, _⟩ => show win0_4.index t 1 * 128 + l.val = l.val; rw [e]; show 0 * 128 + l.val = l.val; omega

/-- A tile's rows of the tables: the tables repeat every four tiles. -/
theorem cos_block (c : Dev nD) (t : Fin cfg0.N) (p : Fin 512) (l : Fin 128) (s : Fin 2048) (hs : s.val = 512 * (t.val % 4) + p.val) :
    (iblk m c 5 t : FVec Ideal S512x128 .f32) (ix2 p l) = (show FVec Ideal S2048x128 .f32 from V m c main_v24) (ix2 s l) := by
  refine congrArg (V m c main_v24) (funext fun a => Fin.ext ?_)
  refine (Pipeline.Window.rect_emb_val (cfg0.win 5) t (ix2 p l) a).trans ?_
  have e := cos_index t
  match a with
  | ⟨0, _⟩ => show win0_5.index t 0 * 512 + p.val = s.val; rw [e]; show t.val % 4 * 512 + p.val = s.val; omega
  | ⟨1, _⟩ => show win0_5.index t 1 * 128 + l.val = l.val; rw [e]; show 0 * 128 + l.val = l.val; omega

theorem up_block (c : Dev nD) (t : Fin cfg0.N) (p : Fin 512) (l : Fin 128) (s : Fin 2048) (hs : s.val = 512 * (t.val % 4) + p.val) :
    (iblk m c 6 t : FVec Ideal S512x128 .f32) (ix2 p l) = (show FVec Ideal S2048x128 .f32 from V m c main_v25) (ix2 s l) := by
  refine congrArg (V m c main_v25) (funext fun a => Fin.ext ?_)
  refine (Pipeline.Window.rect_emb_val (cfg0.win 6) t (ix2 p l) a).trans ?_
  have e := up_index t
  match a with
  | ⟨0, _⟩ => show win0_6.index t 0 * 512 + p.val = s.val; rw [e]; show t.val % 4 * 512 + p.val = s.val; omega
  | ⟨1, _⟩ => show win0_6.index t 1 * 128 + l.val = l.val; rw [e]; show 0 * 128 + l.val = l.val; omega

theorem down_block (c : Dev nD) (t : Fin cfg0.N) (p : Fin 512) (l : Fin 128) (s : Fin 2048) (hs : s.val = 512 * (t.val % 4) + p.val) :
    (iblk m c 7 t : FVec Ideal S512x128 .f32) (ix2 p l) = (show FVec Ideal S2048x128 .f32 from V m c main_v26) (ix2 s l) := by
  refine congrArg (V m c main_v26) (funext fun a => Fin.ext ?_)
  refine (Pipeline.Window.rect_emb_val (cfg0.win 7) t (ix2 p l) a).trans ?_
  have e := down_index t
  match a with
  | ⟨0, _⟩ => show win0_7.index t 0 * 512 + p.val = s.val; rw [e]; show t.val % 4 * 512 + p.val = s.val; omega
  | ⟨1, _⟩ => show win0_7.index t 1 * 128 + l.val = l.val; rw [e]; show 0 * 128 + l.val = l.val; omega

/-- What a point's blocks hold for a row of its tile. -/
theorem row_blocks (c : Dev nD) (hg : ∀ i, IsReal (NG m c i)) (hw : ∀ i, IsReal (W m c i)) (t : Fin cfg0.N) (p : Fin 512) (r : Fin 16384) (hr : r.val = 512 * t.val + p.val) :
    Row (iblk m c 0 t) (iblk m c 1 t) (iblk m c 2 t) (iblk m c 3 t) (iblk m c 4 t) (iblk m c 5 t) (iblk m c 6 t) (iblk m c 7 t) p (rowOf (X m c) (NG m c) r) (W m c)
      (fun k => QG m c (ix1 k)) (fun k => KG m c (ix1 k)) (cosOf r) (sinOf r) where
  row d := by
    pointwise [k0_pay4]
    simp only [x_block m c t p _ r hr, gains_block m c t]
    rfl
  weights d n := weights_block m c t d n
  row_real := normed_real _ _ fun _ => hg _
  weights_real := hw
  q_gains l := by
    pointwise [k0_pay13]
    exact q_block m c t l
  k_gains l := by
    pointwise [k0_pay13]
    exact k_block m c t l
  cosines l := by
    pointwise [k0_pay8]
    exact (cos_block m c t p l ⟨r.val % 2048, by omega⟩ (by show r.val % 2048 = _; omega)).trans (V_cosines m c _ l)
  sines_up l := by
    pointwise [k0_pay9]
    exact (up_block m c t p l ⟨r.val % 2048, by omega⟩ (by show r.val % 2048 = _; omega)).trans (V_up m c _ l)
  sines_down l := by
    pointwise [k0_pay10]
    exact (down_block m c t p l ⟨r.val % 2048, by omega⟩ (by show r.val % 2048 = _; omega)).trans (V_down m c _ l)

/-! ## The results -/

theorem index8 : ∀ t : Fin cfg0.N, win0_8.index t = ![t.val, 0] := (by decide +kernel : ∀ t : Fin grid0.N, win0_8.index t = ![t.val, 0])

theorem result8 (c : Dev nD) (hg : ∀ i, IsReal (NG m c i)) (hw : ∀ i, IsReal (W m c i)) :
    (dats m 0 c).arrAt 8 cfg0.N = (fun i => denseQ (X m c) (NG m c) (W m c) (QG m c) (i 0) (i 1) : FVec Ideal S16384x512 .bf16) := by
  refine (dats m 0 c).arrAt_eq_of_covers 8 _ (by decide +kernel) fun t hf y => ?_
  blk_simp
  rw [after0_8]
  simp only [outsAt0]
  have ey : (y : (⟨2, ![512, 512]⟩ : Shape).Idx) = ix2 (y 0) (y 1) := eq_ix2 _
  have er : ((win0_8.blk t).view.emb y 0).val = 512 * t.val + (y 0).val := by
    blk_simp [index8]
    omega
  have eq : (y 1 : Fin 512) = (win0_8.blk t).view.emb y 1 := by
    refine Fin.ext ?_
    blk_simp [index8]
  refine (congrArg _ ey).trans ((out8 (row_blocks m c hg hw t (y 0) ((win0_8.blk t).view.emb y 0) er) c _ _ _ _ _ _ _ _ _ _ _ _ _ _ _ _ _ _ _ _ _ _ _ _ _ _ _ _ _ (y 1)).trans ?_)
  rw [← eq]
  rfl

theorem index9 : ∀ t : Fin cfg0.N, win0_9.index t = ![t.val, 0] := (by decide +kernel : ∀ t : Fin grid0.N, win0_9.index t = ![t.val, 0])

theorem result9 (c : Dev nD) (hg : ∀ i, IsReal (NG m c i)) (hw : ∀ i, IsReal (W m c i)) :
    (dats m 0 c).arrAt 9 cfg0.N = (fun i => denseKV (X m c) (NG m c) (W m c) (KG m c) (i 0) (i 1) : FVec Ideal S16384x1024 .f32) := by
  refine (dats m 0 c).arrAt_eq_of_covers 9 _ (by decide +kernel) fun t hf y => ?_
  blk_simp
  rw [after0_9]
  simp only [outsAt0]
  have ey : (y : (⟨2, ![512, 1024]⟩ : Shape).Idx) = ix2 (y 0) (y 1) := eq_ix2 _
  have er : ((win0_9.blk t).view.emb y 0).val = 512 * t.val + (y 0).val := by
    blk_simp [index9]
    omega
  have eq : (y 1 : Fin 1024) = (win0_9.blk t).view.emb y 1 := by
    refine Fin.ext ?_
    blk_simp [index9]
  refine (congrArg _ ey).trans ((out9 (row_blocks m c hg hw t (y 0) ((win0_9.blk t).view.emb y 0) er) c _ _ _ _ _ _ _ _ _ _ _ _ _ _ _ _ _ _ _ _ _ _ _ _ _ _ _ _ _ (y 1)).trans ?_)
  rw [← eq]
  rfl

theorem index10 : ∀ t : Fin cfg0.N, win0_10.index t = ![t.val, 0] := (by decide +kernel : ∀ t : Fin grid0.N, win0_10.index t = ![t.val, 0])

theorem result10 (c : Dev nD) (hg : ∀ i, IsReal (NG m c i)) (hw : ∀ i, IsReal (W m c i)) :
    (dats m 0 c).arrAt 10 cfg0.N = (fun i => sparseQ (X m c) (NG m c) (W m c) (i 0) (i 1) : FVec Ideal S16384x512 .bf16) := by
  refine (dats m 0 c).arrAt_eq_of_covers 10 _ (by decide +kernel) fun t hf y => ?_
  blk_simp
  rw [after0_10]
  simp only [outsAt0]
  have ey : (y : (⟨2, ![512, 512]⟩ : Shape).Idx) = ix2 (y 0) (y 1) := eq_ix2 _
  have er : ((win0_10.blk t).view.emb y 0).val = 512 * t.val + (y 0).val := by
    blk_simp [index10]
    omega
  have eq : (y 1 : Fin 512) = (win0_10.blk t).view.emb y 1 := by
    refine Fin.ext ?_
    blk_simp [index10]
  refine (congrArg _ ey).trans ((out10 (row_blocks m c hg hw t (y 0) ((win0_10.blk t).view.emb y 0) er) c _ _ _ _ _ _ _ _ _ _ _ _ _ _ _ _ _ _ _ _ _ _ _ _ _ _ _ _ _ (y 1)).trans ?_)
  rw [← eq]
  rfl

theorem index11 : ∀ t : Fin cfg0.N, win0_11.index t = ![t.val, 0] := (by decide +kernel : ∀ t : Fin grid0.N, win0_11.index t = ![t.val, 0])

theorem result11 (c : Dev nD) (hg : ∀ i, IsReal (NG m c i)) (hw : ∀ i, IsReal (W m c i)) :
    (dats m 0 c).arrAt 11 cfg0.N = (fun i => sparseKV (X m c) (NG m c) (W m c) (i 0) (i 1) : FVec Ideal S16384x1024 .f32) := by
  refine (dats m 0 c).arrAt_eq_of_covers 11 _ (by decide +kernel) fun t hf y => ?_
  blk_simp
  rw [after0_11]
  simp only [outsAt0]
  have ey : (y : (⟨2, ![512, 1024]⟩ : Shape).Idx) = ix2 (y 0) (y 1) := eq_ix2 _
  have er : ((win0_11.blk t).view.emb y 0).val = 512 * t.val + (y 0).val := by
    blk_simp [index11]
    omega
  have eq : (y 1 : Fin 1024) = (win0_11.blk t).view.emb y 1 := by
    refine Fin.ext ?_
    blk_simp [index11]
  refine (congrArg _ ey).trans ((out11 (row_blocks m c hg hw t (y 0) ((win0_11.blk t).view.emb y 0) er) c _ _ _ _ _ _ _ _ _ _ _ _ _ _ _ _ _ _ _ _ _ _ _ _ _ _ _ _ _ (y 1)).trans ?_)
  rw [← eq]
  rfl

theorem index12 : ∀ t : Fin cfg0.N, win0_12.index t = ![t.val, 0] := (by decide +kernel : ∀ t : Fin grid0.N, win0_12.index t = ![t.val, 0])

theorem result12 (c : Dev nD) (hg : ∀ i, IsReal (NG m c i)) (hw : ∀ i, IsReal (W m c i)) :
    (dats m 0 c).arrAt 12 cfg0.N = (fun i => denseKV (X m c) (NG m c) (W m c) (KG m c) (i 0) (i 1) : FVec Ideal S16384x1024 .bf16) := by
  refine (dats m 0 c).arrAt_eq_of_covers 12 _ (by decide +kernel) fun t hf y => ?_
  blk_simp
  rw [after0_12]
  simp only [outsAt0]
  have ey : (y : (⟨2, ![512, 1024]⟩ : Shape).Idx) = ix2 (y 0) (y 1) := eq_ix2 _
  have er : ((win0_12.blk t).view.emb y 0).val = 512 * t.val + (y 0).val := by
    blk_simp [index12]
    omega
  have eq : (y 1 : Fin 1024) = (win0_12.blk t).view.emb y 1 := by
    refine Fin.ext ?_
    blk_simp [index12]
  refine (congrArg _ ey).trans ((out12 (row_blocks m c hg hw t (y 0) ((win0_12.blk t).view.emb y 0) er) c _ _ _ _ _ _ _ _ _ _ _ _ _ _ _ _ _ _ _ _ _ _ _ _ _ _ _ _ _ (y 1)).trans ?_)
  rw [← eq]
  rfl

theorem index13 : ∀ t : Fin cfg0.N, win0_13.index t = ![t.val, 0] := (by decide +kernel : ∀ t : Fin grid0.N, win0_13.index t = ![t.val, 0])

theorem result13 (c : Dev nD) (hg : ∀ i, IsReal (NG m c i)) (hw : ∀ i, IsReal (W m c i)) :
    (dats m 0 c).arrAt 13 cfg0.N = (fun i => sparseKV (X m c) (NG m c) (W m c) (i 0) (i 1) : FVec Ideal S16384x1024 .bf16) := by
  refine (dats m 0 c).arrAt_eq_of_covers 13 _ (by decide +kernel) fun t hf y => ?_
  blk_simp
  rw [after0_13]
  simp only [outsAt0]
  have ey : (y : (⟨2, ![512, 1024]⟩ : Shape).Idx) = ix2 (y 0) (y 1) := eq_ix2 _
  have er : ((win0_13.blk t).view.emb y 0).val = 512 * t.val + (y 0).val := by
    blk_simp [index13]
    omega
  have eq : (y 1 : Fin 1024) = (win0_13.blk t).view.emb y 1 := by
    refine Fin.ext ?_
    blk_simp [index13]
  refine (congrArg _ ey).trans ((out13 (row_blocks m c hg hw t (y 0) ((win0_13.blk t).view.emb y 0) er) c _ _ _ _ _ _ _ _ _ _ _ _ _ _ _ _ _ _ _ _ _ _ _ _ _ _ _ _ _ (y 1)).trans ?_)
  rw [← eq]
  rfl

end Cert.Kernel4Ideal.Proj
-- ==== Proof.ProjRef.lean ====
/- The reference of the projections, read at an index. -/
module

public import proofs.«01_k».proof.Proof.Gen.Reference4Ideal.Run
public import proofs.«01_k».proof.Proof.Heads

@[expose] public section

set_option maxRecDepth 16384

noncomputable section

namespace Cert.Reference4Ideal.Proj

open Cert.Reference4Ideal Cert.Reference4Ideal.Gen Cert.Heads
open Idealize.ShloMosaic Idealize.ShloMosaic.TcCoe

variable (x : FVec Ideal S16384x1024 .f32) (g : FVec Ideal S1024 .f32) (w : FVec Ideal S1024x3072 .f32) (hg : FVec Ideal S64 .f32)

/-! ## The reference's steps -/

/-- Rows normalized. -/
abbrev normalized : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Normalized rows times the weights. -/
abbrev projected : FVec Ideal S16384x3072 .f32 := Host.dotGeneral dot_S16384x1024_S1024x3072_S16384x3072_1_0_0_1_n_n none (normalized x g) w

/-- Columns split into sequences, positions, heads and their entries. -/
abbrev split (Y : FVec Ideal S16384x512 .f32) : FVec Ideal S8x2048x8x64 .f32 := shapeCast S8x2048x8x64 Y shapeCasts_S16384x512_S8x2048x8x64

/-- Heads normalized. -/
abbrev units (A : FVec Ideal S8x2048x8x64 .f32) : FVec Ideal S8x2048x8x64 .f32 :=
  mulf (mulf A (broadcastInDim S8x2048x8x64 ![0, 1, 2, 3] bcast_S8x2048x8x1_S8x2048x8x64_0_1_2_3 (Host.rsqrt (addf
    (Host.divf (broadcastInDim S8x2048x8x1 ![0, 1, 2] bcast_S8x2048x8_S8x2048x8x1_0_1_2 (Host.reduceAdd (mulf A A) (constant S_ .f32 0x00000000#32) reducesTo_S8x2048x8x64_S8x2048x8_d3 h_S_))
      (broadcastInDim S8x2048x8x1 ![] bcast_S_S8x2048x8x1 (constant S_ .f32 0x42800000#32)))
    (broadcastInDim S8x2048x8x1 ![] bcast_S_S8x2048x8x1 (constant S_ .f32 0x358637BD#32))))))
    (broadcastInDim S8x2048x8x64 ![0, 1, 2, 3] bcast_S1x1x1x64_S8x2048x8x64_0_1_2_3 (broadcastInDim S1x1x1x64 ![3] bcast_S64_S1x1x1x64_3 hg))

/-- The angles of the positions. -/
abbrev angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 (Host.powf (broadcastInDim S8 ![] bcast_S_S8 (constant S_ .f32 0x48F42400#32))
      (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- A table of the positions, for every sequence and head. -/
abbrev along (T : FVec Ideal S2048x8 .f32) : FVec Ideal S8x2048x8x8 .f32 :=
  broadcastInDim S8x2048x8x8 ![0, 1, 2, 3] bcast_S1x2048x1x8_S8x2048x8x8_0_1_2_3 (broadcastInDim S1x2048x1x8 ![1, 2, 3] bcast_S2048x1x8_S1x2048x1x8_1_2_3 (shapeCast S2048x1x8 T shapeCasts_S2048x8_S2048x1x8))

/-- The eight entries of each head that start at its first and at its ninth, and those that are not turned. -/
abbrev firsts (U : FVec Ideal S8x2048x8x64 .f32) : FVec Ideal S8x2048x8x8 .f32 := extractStridedSlice S8x2048x8x8 ![0, 0, 0, 0] U slices_S8x2048x8x64_S8x2048x8x8_0_0_0_0
abbrev seconds (U : FVec Ideal S8x2048x8x64 .f32) : FVec Ideal S8x2048x8x8 .f32 := extractStridedSlice S8x2048x8x8 ![0, 0, 0, 8] U slices_S8x2048x8x64_S8x2048x8x8_0_0_0_8
abbrev others (U : FVec Ideal S8x2048x8x64 .f32) : FVec Ideal S8x2048x8x48 .f32 := extractStridedSlice S8x2048x8x48 ![0, 0, 0, 16] U slices_S8x2048x8x64_S8x2048x8x48_0_0_0_16

/-- Heads turned. -/
abbrev turns (U : FVec Ideal S8x2048x8x64 .f32) (C S : FVec Ideal S8x2048x8x8 .f32) : FVec Ideal S8x2048x8x64 .f32 :=
  concatenate S8x2048x8x64 3 [⟨S8x2048x8x8, (subf (mulf (firsts U) C) (mulf (seconds U) S) : FVec Ideal S8x2048x8x8 .f32)⟩,
    ⟨S8x2048x8x8, (addf (mulf (seconds U) C) (mulf (firsts U) S) : FVec Ideal S8x2048x8x8 .f32)⟩,
    ⟨S8x2048x8x48, (others U : FVec Ideal S8x2048x8x48 .f32)⟩] concatenates_S8x2048x8x8_S8x2048x8x8_S8x2048x8x48_S8x2048x8x64_d3

/-- Columns of heads, normalized and turned. -/
abbrev headed (Y : FVec Ideal S16384x512 .f32) : FVec Ideal S16384x512 .f32 :=
  shapeCast S16384x512 (turns (units hg (split Y)) (along (Host.cos angles)) (along (Host.sin angles))) shapeCasts_S8x2048x8x64_S16384x512

/-- The scaled columns. -/
abbrev scaled (Y : FVec Ideal S16384x512 .f32) : FVec Ideal S16384x512 .f32 := mulf Y (broadcastInDim S16384x512 ![] bcast_S_S16384x512 (constant S_ .f32 0x3E000000#32))

/-- Two arrays side by side. -/
abbrev beside (A B : FVec Ideal S16384x512 .f32) : FVec Ideal S16384x1024 .f32 :=
  concatenate S16384x1024 1 [⟨S16384x512, (A : FVec Ideal S16384x512 .f32)⟩, ⟨S16384x512, (B : FVec Ideal S16384x512 .f32)⟩] concatenates_S16384x512_S16384x512_S16384x1024_d1

/-! ## The steps read at an index -/

theorem normalized_apply (r : Fin 16384) (q : Fin 1024) : (normalized x g (ix2 r q) : EReal) = rowOf x g r q := by
  pointwise [normalized, rowOf, Dense.normed]

theorem projected_apply (r : Fin 16384) (n : Fin 3072) : (projected x g w (ix2 r n) : EReal) = column (rowOf x g r) w n := by
  have h (N : FVec Ideal S16384x1024 .f32) : (Host.dotGeneral dot_S16384x1024_S1024x3072_S16384x3072_1_0_0_1_n_n none N w (ix2 r n) : EReal)
      = ∑ d : Fin 1024, (N (ix2 r d) : EReal) * w (ix2 d n) := by
    pointwise []
  exact (h _).trans (Finset.sum_congr rfl fun d _ => congrArg (· * _) (normalized_apply x g r d))

theorem units_apply (A : FVec Ideal S8x2048x8x64 .f32) (b : Fin 8) (s : Fin 2048) (h : Fin 8) (k : Fin 64) :
    (units hg A (ix4 b s h k) : EReal) = unit (fun k => hg (ix1 k)) (fun k => A (ix4 b s h k)) k := by
  pointwise [units, unit]

theorem angles_apply (s : Fin 2048) (i : Fin 8) : (angles (ix2 s i) : EReal) = angle s i := by
  pointwise [angles, angle]

theorem along_apply (T : FVec Ideal S2048x8 .f32) (b : Fin 8) (s : Fin 2048) (h : Fin 8) (i : Fin 8) : (along T (ix4 b s h i) : EReal) = T (ix2 s i) := by
  pointwise [along]

theorem split_apply (Y : FVec Ideal S16384x512 .f32) (b : Fin 8) (s : Fin 2048) (h : Fin 8) (k : Fin 64) :
    (split Y (ix4 b s h k) : EReal) = Y (ix2 ⟨2048 * b.val + s.val, by omega⟩ ⟨64 * h.val + k.val, by omega⟩) := by
  pointwise [split]
  exact congrArg Y (congrArg₂ ix2 (Fin.ext (by show b.val * 2048 + s.val = 2048 * b.val + s.val; omega)) (Fin.ext (by show h.val * 64 + k.val = 64 * h.val + k.val; omega)))

theorem merged_apply (T : FVec Ideal S8x2048x8x64 .f32) (r : Fin 16384) (q : Fin 512) :
    (shapeCast S16384x512 T shapeCasts_S8x2048x8x64_S16384x512 (ix2 r q) : EReal)
      = T (ix4 ⟨r.val / 2048, by omega⟩ ⟨r.val % 2048, by omega⟩ ⟨q.val / 64, by omega⟩ ⟨q.val % 64, by omega⟩) := by
  pointwise []

theorem turns_apply (U : FVec Ideal S8x2048x8x64 .f32) (C S : FVec Ideal S8x2048x8x8 .f32) (b : Fin 8) (s : Fin 2048) (h : Fin 8) (k : Fin 64) :
    (turns U C S (ix4 b s h k) : EReal) = turned (fun i => C (ix4 b s h i)) (fun i => S (ix4 b s h i)) (fun k => U (ix4 b s h k)) k := by
  have at_lane (a : Nat) (ha : a < 64) (l : Fin 64) (e : a = l.val) : (U (ix4 b s h ⟨a, ha⟩) : EReal) = U (ix4 b s h l) := congrArg (fun l => (U (ix4 b s h l) : EReal)) (Fin.ext e)
  pointwise [turns, firsts, seconds, others, turned]
  refine dite_congr rfl (fun h1 => ?_) fun h1 => dite_congr (propext ⟨fun h2 => by omega, fun h2 => by omega⟩) (fun h2 => ?_) fun h2 => ?_
  · rw [at_lane (8 + k.val) _ ⟨k.val + 8, by omega⟩ (by show 8 + k.val = k.val + 8; omega)]
  · rw [at_lane (8 + (k.val - 8)) _ k (by omega)]
  · exact at_lane _ _ k (by omega)

theorem scaled_apply (Y : FVec Ideal S16384x512 .f32) (r : Fin 16384) (q : Fin 512) : (scaled Y (ix2 r q) : EReal) = Y (ix2 r q) * eighth := by
  pointwise [scaled, eighth]

theorem beside_apply (A B : FVec Ideal S16384x512 .f32) (r : Fin 16384) (q : Fin 1024) :
    (beside A B (ix2 r q) : EReal) = if h : q.val < 512 then A (ix2 r ⟨q.val, h⟩) else B (ix2 r ⟨q.val - 512, by omega⟩) := by
  pointwise [beside]

/-- The heads of the columns from `o` on. -/
theorem headed_apply (o : Nat) (ho : o + 512 ≤ 3072) (Y : FVec Ideal S16384x512 .f32) (hY : ∀ (r : Fin 16384) (q : Fin 512), (Y (ix2 r q) : EReal) = column (rowOf x g r) w ⟨o + q.val, by omega⟩)
    (r : Fin 16384) (q : Fin 512) : (headed hg Y (ix2 r q) : EReal) = head (rowOf x g r) w o ho (cosOf r) (sinOf r) (fun k => hg (ix1 k)) q := by
  refine (merged_apply _ r q).trans ((turns_apply _ _ _ _ _ _ _).trans ?_)
  unfold head
  have hc : (fun i : Fin 8 => (along (Host.cos angles) (ix4 ⟨r.val / 2048, by omega⟩ ⟨r.val % 2048, by omega⟩ (⟨q.val / 64, by omega⟩ : Fin 8) i) : EReal)) = cosOf r :=
    funext fun i => (along_apply _ _ _ _ i).trans (congrArg Ideal.cos (angles_apply _ i))
  have hs : (fun i : Fin 8 => (along (Host.sin angles) (ix4 ⟨r.val / 2048, by omega⟩ ⟨r.val % 2048, by omega⟩ (⟨q.val / 64, by omega⟩ : Fin 8) i) : EReal)) = sinOf r :=
    funext fun i => (along_apply _ _ _ _ i).trans (congrArg Ideal.sin (angles_apply _ i))
  have hu : (fun k : Fin 64 => (units hg (split Y) (ix4 ⟨r.val / 2048, by omega⟩ ⟨r.val % 2048, by omega⟩ (⟨q.val / 64, by omega⟩ : Fin 8) k) : EReal))
      = unit (fun k => hg (ix1 k)) fun k => column (rowOf x g r) w ⟨o + (64 * (q.val / 64) + k.val), by omega⟩ := by
    refine funext fun k => (units_apply hg _ _ _ _ k).trans (congrArg (fun v => unit (fun k => hg (ix1 k)) v k) (funext fun k => ?_))
    refine (split_apply Y _ _ _ k).trans ((hY _ _).trans ?_)
    have hr : (⟨2048 * (r.val / 2048) + r.val % 2048, by omega⟩ : Fin 16384) = r := Fin.ext (by show 2048 * (r.val / 2048) + r.val % 2048 = r.val; omega)
    exact congrArg (fun r => column (rowOf x g r) w ⟨o + (64 * (q.val / 64) + k.val), by omega⟩) hr
  rw [hc, hs, hu]

/-- The columns of the product from `0`, `512`, … on. -/
abbrev columns0 : FVec Ideal S16384x512 .f32 := extractStridedSlice S16384x512 ![0, 0] (projected x g w) slices_S16384x3072_S16384x512_0_0
abbrev columns512 : FVec Ideal S16384x512 .f32 := extractStridedSlice S16384x512 ![0, 512] (projected x g w) slices_S16384x3072_S16384x512_0_512
abbrev columns1024 : FVec Ideal S16384x512 .f32 := extractStridedSlice S16384x512 ![0, 1024] (projected x g w) slices_S16384x3072_S16384x512_0_1024
abbrev columns1536 : FVec Ideal S16384x512 .f32 := extractStridedSlice S16384x512 ![0, 1536] (projected x g w) slices_S16384x3072_S16384x512_0_1536
abbrev columns2048 : FVec Ideal S16384x512 .f32 := extractStridedSlice S16384x512 ![0, 2048] (projected x g w) slices_S16384x3072_S16384x512_0_2048
abbrev columns2560 : FVec Ideal S16384x512 .f32 := extractStridedSlice S16384x512 ![0, 2560] (projected x g w) slices_S16384x3072_S16384x512_0_2560

/-- A slice of columns, from `o` on. -/
theorem slice_apply (o : Nat) (ho : o + 512 ≤ 3072) (P : FVec Ideal S16384x3072 .f32) (hs : S16384x3072.Slices ![0, o] S16384x512) (r : Fin 16384) (q : Fin 512) :
    (extractStridedSlice S16384x512 ![0, o] P hs (ix2 r q) : EReal) = P (ix2 r ⟨o + q.val, by omega⟩) := by
  pointwise []

theorem columns_apply (o : Nat) (ho : o + 512 ≤ 3072) (hs : S16384x3072.Slices ![0, o] S16384x512) (r : Fin 16384) (q : Fin 512) :
    (extractStridedSlice S16384x512 ![0, o] (projected x g w) hs (ix2 r q) : EReal) = column (rowOf x g r) w ⟨o + q.val, by omega⟩ :=
  (slice_apply o ho _ hs r q).trans (projected_apply x g w r _)

/-! ## The results -/

theorem dense_queries (r : Fin 16384) (q : Fin 512) : (scaled (headed hg (columns0 x g w)) (ix2 r q) : EReal) = denseQ x g w hg r q :=
  (scaled_apply _ r q).trans (congrArg (· * eighth) (headed_apply x g w hg 0 (by omega) _ (fun r q => columns_apply x g w 0 (by omega) _ r q) r q))

theorem dense_keys (r : Fin 16384) (q : Fin 1024) : (beside (headed hg (columns512 x g w)) (columns1024 x g w) (ix2 r q) : EReal) = denseKV x g w hg r q := by
  refine (beside_apply _ _ r q).trans (dite_congr rfl (fun h => ?_) fun h => ?_)
  · exact headed_apply x g w hg 512 (by omega) _ (fun r q => columns_apply x g w 512 (by omega) _ r q) r _
  · refine (columns_apply x g w 1024 (by omega) _ r _).trans (congrArg (column (rowOf x g r) w) (Fin.ext ?_))
    show 1024 + (q.val - 512) = 512 + q.val
    omega

theorem sparse_queries (r : Fin 16384) (q : Fin 512) : (scaled (columns1536 x g w) (ix2 r q) : EReal) = sparseQ x g w r q :=
  (scaled_apply _ r q).trans (congrArg (· * eighth) (columns_apply x g w 1536 (by omega) _ r q))

theorem sparse_keys (r : Fin 16384) (q : Fin 1024) : (beside (columns2048 x g w) (columns2560 x g w) (ix2 r q) : EReal) = sparseKV x g w r q := by
  refine (beside_apply _ _ r q).trans ?_
  unfold sparseKV
  by_cases h : q.val < 512
  · rw [dif_pos h]
    exact columns_apply x g w 2048 (by omega) _ r _
  · rw [dif_neg h]
    refine (columns_apply x g w 2560 (by omega) _ r _).trans (congrArg (column (rowOf x g r) w) (Fin.ext ?_))
    show 2560 + (q.val - 512) = 2048 + q.val
    omega

theorem res0_total (m : (ℓ : Loc nD τ sig) → Buf (Elt Ideal) ℓ) (c : Dev nD) :
    Value.res_main_v127 m c = (fun (x : FVec Ideal S16384x1024 .f32) g w hg => truncf .bf16 (scaled (headed hg (columns0 x g w))) bitsLt_bf16_f32)
      (m (c.tc.loc main_arg0)) (m (c.tc.loc main_arg1)) (m (c.tc.loc main_arg2)) (m (c.tc.loc main_arg3)) := by
  unfold Value.res_main_v127
  rfl

theorem res1_total (m : (ℓ : Loc nD τ sig) → Buf (Elt Ideal) ℓ) (c : Dev nD) :
    Value.res_main_v123 m c = (fun (x : FVec Ideal S16384x1024 .f32) g w hg => beside (headed hg (columns512 x g w)) (columns1024 x g w))
      (m (c.tc.loc main_arg0)) (m (c.tc.loc main_arg1)) (m (c.tc.loc main_arg2)) (m (c.tc.loc main_arg4)) := by
  unfold Value.res_main_v123
  rfl

theorem res4_total (m : (ℓ : Loc nD τ sig) → Buf (Elt Ideal) ℓ) (c : Dev nD) :
    Value.res_main_v131 m c = (fun (x : FVec Ideal S16384x1024 .f32) g w hg => truncf .bf16 (beside (headed hg (columns512 x g w)) (columns1024 x g w)) bitsLt_bf16_f32)
      (m (c.tc.loc main_arg0)) (m (c.tc.loc main_arg1)) (m (c.tc.loc main_arg2)) (m (c.tc.loc main_arg4)) := by
  unfold Value.res_main_v131
  rfl

/-! ## The result arrays, of the arguments -/

theorem result0 (m : (ℓ : Loc nD τ sig) → Buf (Elt Ideal) ℓ) (c : Dev nD) :
    Value.res_main_v127 m c = (fun i => denseQ (m (c.tc.loc main_arg0)) (m (c.tc.loc main_arg1)) (m (c.tc.loc main_arg2)) (m (c.tc.loc main_arg3)) (i 0) (i 1) : FVec Ideal S16384x512 .bf16) := by
  refine (res0_total m c).trans (funext fun i => ?_)
  rw [eq_ix2 i]
  exact dense_queries _ _ _ _ (i 0) (i 1)

theorem result1 (m : (ℓ : Loc nD τ sig) → Buf (Elt Ideal) ℓ) (c : Dev nD) :
    Value.res_main_v123 m c = (fun i => denseKV (m (c.tc.loc main_arg0)) (m (c.tc.loc main_arg1)) (m (c.tc.loc main_arg2)) (m (c.tc.loc main_arg4)) (i 0) (i 1) : FVec Ideal S16384x1024 .f32) := by
  refine (res1_total m c).trans (funext fun i => ?_)
  rw [eq_ix2 i]
  exact dense_keys _ _ _ _ (i 0) (i 1)

theorem result2 : (truncf .bf16 (scaled (columns1536 x g w)) bitsLt_bf16_f32 : FVec Ideal S16384x512 .bf16) = fun i => sparseQ x g w (i 0) (i 1) := by
  funext i
  rw [eq_ix2 i]
  exact sparse_queries x g w (i 0) (i 1)

theorem result3 : beside (columns2048 x g w) (columns2560 x g w) = fun i => sparseKV x g w (i 0) (i 1) := by
  funext i
  rw [eq_ix2 i]
  exact sparse_keys x g w (i 0) (i 1)

theorem result4 (m : (ℓ : Loc nD τ sig) → Buf (Elt Ideal) ℓ) (c : Dev nD) :
    Value.res_main_v131 m c = (fun i => denseKV (m (c.tc.loc main_arg0)) (m (c.tc.loc main_arg1)) (m (c.tc.loc main_arg2)) (m (c.tc.loc main_arg4)) (i 0) (i 1) : FVec Ideal S16384x1024 .bf16) := by
  refine (res4_total m c).trans (funext fun i => ?_)
  rw [eq_ix2 i]
  exact dense_keys _ _ _ _ (i 0) (i 1)

theorem result5 : (truncf .bf16 (beside (columns2048 x g w) (columns2560 x g w)) bitsLt_bf16_f32 : FVec Ideal S16384x1024 .bf16) = fun i => sparseKV x g w (i 0) (i 1) := by
  funext i
  rw [eq_ix2 i]
  exact sparse_keys x g w (i 0) (i 1)

end Cert.Reference4Ideal.Proj

end
-- ==== Proof.Finite.lean ====
/- The gains and the weights the precondition of the projections admits. -/
module

public import proofs.«01_k».proof.Proof.Gen.Pre_finite
public import Idealize.ShloMosaic.Lib.ReduceAll
public import proofs.«01_k».proof.Proof.Heads

@[expose] public section

noncomputable section

namespace Cert.Finite

open Idealize.ShloMosaic Cert.Pre_finite Cert.Pre_finite.Gen

theorem bits_inf : Ideal.ofBits .f32 0x7F800000#32 = ⊤ := by simp [Ideal.ofBits, Ideal.ieee]

/-- An extended real whose absolute value is below infinity is real. -/
theorem isReal_of_abs (a : EReal) (h : BitVec.ofBool (decide (max a (-a) < Ideal.ofBits .f32 0x7F800000#32)) = 1#1) : Heads.IsReal a := by
  have one_iff (p : Bool) : BitVec.ofBool p = 1#1 ↔ p = true := by cases p <;> decide
  rw [one_iff, decide_eq_true_eq, bits_inf] at h
  refine Heads.isReal_of_ne ?_ ?_
  · rintro rfl
    exact absurd h (by simp)
  · rintro rfl
    exact absurd h (by simp)

/-- Under the precondition the gains of the rows and the weights are real numbers. -/
theorem reals (x : FVec Ideal S16384x1024 .f32) (g : FVec Ideal S1024 .f32) (w : FVec Ideal S1024x3072 .f32) (qg kg : FVec Ideal S64 .f32)
    (hp : fn x g w qg kg = fun _ => 1#1) : (∀ i, Heads.IsReal (g i)) ∧ ∀ i, Heads.IsReal (w i) := by
  have andi_one (a b : BitVec 1) : IntOp.andi a b = 1#1 ↔ a = 1#1 ∧ b = 1#1 := by revert a b; decide
  haveI : Subsingleton S_.Idx := ⟨fun a b => funext fun i => i.elim0⟩
  have e := congrFun hp (fun a => a.elim0)
  dsimp only [fn] at e
  simp only [andi, andi_one] at e
  refine ⟨fun i => isReal_of_abs _ ?_, fun i => isReal_of_abs _ ?_⟩
  · have hi := Host.reduce_andi_all _ _ _ _ _ e.1 i
    simp only [cmpf, broadcastInDim, constant] at hi
    exact hi
  · have hi := Host.reduce_andi_all _ _ _ _ _ e.2 i
    simp only [cmpf, broadcastInDim, constant] at hi
    exact hi

end Cert.Finite

end
-- ==== Proof.OddTile.lean ====
/- The odd layer's projections, a tile of rows: what the kernel's step leaves in the seven results, read at an index. -/
module

public import proofs.«01_k».proof.Proof.HeadPoint
public import proofs.«01_k».proof.Proof.Gen.Kernel5Ideal.Value
public import Idealize.ShloMosaic.Lib.Pipeline.Value
public import Idealize.ShloMosaic.Lib.Pipeline.ValueKit
public import Idealize.ShloMosaic.Lib.Tactic

@[expose] public section

set_option maxRecDepth 16384

noncomputable section

namespace Cert.Kernel5Ideal.Odd

open Cert.Kernel5Ideal Cert.Kernel5Ideal.Gen Cert.Heads
open Idealize.ShloMosaic Idealize.ShloMosaic.TcCoe

/-- The matrix that adds up each head's lanes. -/
abbrev ones : FVec Ideal S128x128 .bf16 := k0_pay9 (F := Ideal) k0_pay7 (iota .tc S128x128 32 [1] iota_S128x128_d1_w32) 64#32 k0_pay8

/-- A group's rows with each head over the root of its mean square, times the gains: the squares' sums are taken in two parts. -/
abbrev unitBlock (o : FVec Ideal S128x128 .bf16) (y : FVec Ideal S512x128 .f32) (g : FVec Ideal S1x128 .f32) : FVec Ideal S512x128 .f32 :=
  mulf (mulf y (rsqrt (addf (mulf (addf
      (matmul dot_S512x128_S128x128_S512x128_1_0_0_1_n_n none (truncf .bf16 (mulf y y) bitsLt_bf16_f32) o (constant S512x128 .f32 0x00000000#32))
      (matmul dot_S512x128_S128x128_S512x128_1_0_0_1_n_n none (truncf .bf16 (subf (mulf y y) (extf .f32 (truncf .bf16 (mulf y y) bitsLt_bf16_f32) bitsLt_bf16_f32)) bitsLt_bf16_f32) o (constant S512x128 .f32 0x00000000#32)))
      (broadcast S512x128 (Scalar.ofBits (F := Ideal) .f32 0x3C800000#32)))
      (broadcast S512x128 (Scalar.ofBits (F := Ideal) .f32 0x358637BD#32)))))
    (broadcastTo S512x128 g broadcasts_S1x128_S512x128)

/-- The rows turned: times the cosines, and the rows moved by eight lanes either way times the sines. -/
abbrev turnedBlock (c sa sb n : FVec Ideal S512x128 .f32) : FVec Ideal S512x128 .f32 :=
  addf (addf (mulf n c) (mulf (dynamicRotate 1 120#32 none n rotates_S512x128_d1) sa)) (mulf (dynamicRotate 1 8#32 none n rotates_S512x128_d1) sb)

/-- The three are the even layer's. -/
theorem ones_eq : ones = Kernel4Ideal.Proj.ones := rfl
theorem unitBlock_eq (o : FVec Ideal S128x128 .bf16) (y : FVec Ideal S512x128 .f32) (g : FVec Ideal S1x128 .f32) : unitBlock o y g = Kernel4Ideal.Proj.unitBlock o y g := rfl
theorem turnedBlock_eq (c sa sb n : FVec Ideal S512x128 .f32) : turnedBlock c sa sb n = Kernel4Ideal.Proj.turnedBlock c sa sb n := rfl

theorem zero2 : (![0, 0] : Fin 2 → Nat) = fun _ => 0 := funext fun a => by fin_cases a <;> rfl

section Tile

variable (x0 : Vec Ideal S512x1024 .f32) (x1 : Vec Ideal S1x1024 .f32) (x2 : Vec Ideal S1024x2688 .bf16) (x3 : Vec Ideal S1x128 .f32) (x4 : Vec Ideal S3x128 .f32) (x5 x6 x7 : Vec Ideal S512x128 .f32)
  (p : Fin 512) (hr : Fin 1024 → EReal) (w : S1024x2688.Idx → EReal) (qg : Fin 64 → EReal) (kg : Fin 3 → Fin 64 → EReal) (cs sn : Fin 8 → EReal)

/-- What the blocks hold for row `p` of the tile: the row normalized, the weights, the queries' gains and each branch's
    keys' gains once per head, and the three tables of the row's position. -/
structure Row : Prop where
  row : ∀ d : Fin 1024, ((k0_pay6 (F := Ideal) x0 x1) (ix2 p d) : EReal) = hr d
  weights : ∀ (d : Fin 1024) (n : Fin 2688), (x2 (ix2 d n) : EReal) = w (ix2 d n)
  row_real : ∀ d, IsReal (hr d)
  weights_real : ∀ i, IsReal (w i)
  q_gains : ∀ l : Fin 128, ((k0_pay15 (F := Ideal) x3) (ix2 0 l) : EReal) = qg ⟨l.val % 64, by omega⟩
  k_gains : ∀ (i : Fin 3) (l : Fin 128), (x4 (ix2 i l) : EReal) = kg i ⟨l.val % 64, by omega⟩
  cosines : ∀ l : Fin 128, ((k0_pay10 (F := Ideal) x5) (ix2 p l) : EReal) = if h : l.val % 64 < 8 then cs ⟨l.val % 64, h⟩ else if h : l.val % 64 < 16 then cs ⟨l.val % 64 - 8, by omega⟩ else 1
  sines_up : ∀ l : Fin 128, ((k0_pay11 (F := Ideal) x6) (ix2 p l) : EReal) = if h : l.val % 64 < 8 then -sn ⟨l.val % 64, h⟩ else 0
  sines_down : ∀ l : Fin 128, ((k0_pay12 (F := Ideal) x7) (ix2 p l) : EReal) = if l.val % 64 < 8 then 0 else if h : l.val % 64 < 16 then sn ⟨l.val % 64 - 8, by omega⟩ else 0

variable {x0 x1 x2 x3 x4 x5 x6 x7 p hr w qg kg cs sn} (R : Row x0 x1 x2 x3 x4 x5 x6 x7 p hr w qg kg cs sn)
include R

/-- A group of lanes of 512 columns' heads: with the gains it is handed, the heads' entries. -/
theorem group_head (b : Nat) (hb : b + 512 ≤ 2688) (j : Nat) (hj : j < 4) (y : FVec Ideal S512x128 .f32) (g : FVec Ideal S1x128 .f32) (gr : Fin 64 → EReal)
    (hy : ∀ l : Fin 128, (y (ix2 p l) : EReal) = column hr w ⟨b + (128 * j + l.val), by omega⟩)
    (hg : ∀ l : Fin 128, (g (ix2 0 l) : EReal) = gr ⟨l.val % 64, by omega⟩) (q : Fin 512) (l : Fin 128) (hq : q.val = 128 * j + l.val) :
    (turnedBlock (k0_pay10 (F := Ideal) x5) (k0_pay11 (F := Ideal) x6) (k0_pay12 (F := Ideal) x7) (unitBlock ones y g) (ix2 p l) : EReal) = head hr w b hb cs sn gr q := by
  rw [turnedBlock_eq, unitBlock_eq, ones_eq]
  refine (Kernel4Ideal.Proj.turnedBlock_apply _ _ _ _ cs sn (fun e => unit gr fun k => column hr w ⟨b + (128 * j + (64 * e.val + k.val)), by omega⟩) p l
    (fun l => (Kernel4Ideal.Proj.unitBlock_apply y g (fun l => column hr w ⟨b + (128 * j + l.val), by omega⟩) gr p l hy (fun _ => column_real hr w R.row_real R.weights_real _) hg).trans rfl)
    R.cosines R.sines_up R.sines_down).trans ?_
  unfold head
  have e1 : q.val / 64 = 2 * j + l.val / 64 := by omega
  have e2 : (⟨q.val % 64, by omega⟩ : Fin 64) = ⟨l.val % 64, by omega⟩ := Fin.ext (by show q.val % 64 = l.val % 64; omega)
  rw [e2]
  refine congrFun (congrArg (turned cs sn) (congrArg (unit gr) (funext fun k => congrArg (column hr w) (Fin.ext ?_)))) _
  show b + (128 * j + (64 * (l.val / 64) + k.val)) = b + (64 * (q.val / 64) + k.val)
  omega

theorem columns_512 (b : Nat) (hb : b + 512 ≤ 2688) (off : Fin 2 → Nat) (h0 : off 0 = 0) (h1 : off 1 = b) (inb) (n : Fin 512) :
    ((k0_pay13 (F := Ideal) (k0_pay6 x0 x1) (View.ld x2 (Rect.unit (s := S1024x2688) off ![1024, 512] inb))) (ix2 p n) : EReal) = column hr w ⟨b + n.val, by omega⟩ := by
  pointwise [k0_pay13, column]
  refine Finset.sum_congr rfl fun d _ => ?_
  rw [R.row d, ← R.weights d ⟨b + n.val, by omega⟩]
  exact congrArg (fun i => hr d * x2 i) (congrArg₂ ix2 (Fin.ext (by show off 0 + d.val = d.val; omega)) (Fin.ext (by show off 1 + n.val = b + n.val; omega)))

/-- The logistic of the last 128 columns. -/
theorem columns_gate (off : Fin 2 → Nat) (h0 : off 0 = 0) (h1 : off 1 = 2560) (inb) (n : Fin 128) :
    ((k0_pay5 (F := Ideal) (k0_pay6 x0 x1) (View.ld x2 (Rect.unit (s := S1024x2688) off ![1024, 128] inb))) (ix2 p n) : EReal) = Ideal.logistic (column hr w ⟨2560 + n.val, by omega⟩) := by
  pointwise [k0_pay5, column]
  refine congrArg Ideal.logistic (Finset.sum_congr rfl fun d _ => ?_)
  rw [R.row d, ← R.weights d ⟨2560 + n.val, by omega⟩]
  exact congrArg (fun i => hr d * x2 i) (congrArg₂ ix2 (Fin.ext (by show off 0 + d.val = d.val; omega)) (Fin.ext (by show off 1 + n.val = 2560 + n.val; omega)))

/-- A branch's keys' gains, as the kernel loads them. -/
theorem branch_gains (i : Fin 3) (off : Fin 2 → Nat) (h0 : off 0 = i.val) (h1 : off 1 = 0) (inb) (l : Fin 128) :
    ((View.ld x4 (Rect.unit (s := S3x128) off ![1, 128] inb)) (ix2 0 l) : EReal) = kg i ⟨l.val % 64, by omega⟩ := by
  refine Eq.trans ?_ (R.k_gains i l)
  pointwise
  exact congrArg x4 (congrArg₂ ix2 (Fin.ext (by show off 0 + 0 = i.val; omega)) (Fin.ext (by show off 1 + l.val = l.val; omega)))

/-- The heads of a slice of the product's columns, read at any index of the group. -/
theorem tile_head (b : Nat) (hb : b + 512 ≤ 2688) (j : Nat) (hj : j < 4) (Y : FVec Ideal S512x512 .f32) (g : FVec Ideal S1x128 .f32) (gr : Fin 64 → EReal)
    (hY : ∀ n : Fin 512, (Y (ix2 p n) : EReal) = column hr w ⟨b + n.val, by omega⟩)
    (hg : ∀ l : Fin 128, (g (ix2 0 l) : EReal) = gr ⟨l.val % 64, by omega⟩) (off : Fin 2 → Nat) (o0 : off 0 = 0) (o1 : off 1 = 128 * j) (sl) (q : Fin 512)
    (x : S512x128.Idx) (e0 : p.val = (x 0).val) (e1 : q.val = 128 * j + (x 1).val) :
    (turnedBlock (k0_pay10 (F := Ideal) x5) (k0_pay11 (F := Ideal) x6) (k0_pay12 (F := Ideal) x7) (unitBlock ones (extractStridedSlice S512x128 off Y sl) g) x : EReal) = head hr w b hb cs sn gr q := by
  have ex : x = ix2 p (x 1) := by
    refine (eq_ix2 x).trans (congrArg₂ ix2 (Fin.ext e0.symm) rfl)
  rw [ex]
  refine group_head R b hb j hj _ g gr (fun l => ?_) hg q (x 1) e1
  refine Eq.trans ?_ (hY ⟨128 * j + l.val, by omega⟩)
  pointwise
  exact congrArg Y (congrArg₂ ix2 (Fin.ext (by show off 0 + p.val = p.val; omega)) (Fin.ext (by show off 1 + l.val = 128 * j + l.val; omega)))

/-- The last 256 of 512 columns, read at any index of them. -/
theorem tile_values (b : Nat) (hb : b + 512 ≤ 2688) (Y : FVec Ideal S512x512 .f32) (hY : ∀ n : Fin 512, (Y (ix2 p n) : EReal) = column hr w ⟨b + n.val, by omega⟩)
    (sl) (q : Fin 512) (x : S512x256.Idx) (e0 : p.val = (x 0).val) (e1 : q.val = 256 + (x 1).val) :
    (extractStridedSlice S512x256 ![0, 256] Y sl x : EReal) = column hr w ⟨b + q.val, by omega⟩ := by
  have ex : x = ix2 p (x 1) := (eq_ix2 x).trans (congrArg₂ ix2 (Fin.ext e0.symm) rfl)
  have key (l : Fin 256) (e : q.val = 256 + l.val) : (extractStridedSlice S512x256 ![0, 256] Y sl (ix2 p l) : EReal) = Y (ix2 p q) := by
    pointwise
    exact congrArg Y (congrArg₂ ix2 rfl (Fin.ext e.symm))
  exact (congrArg _ ex).trans ((key (x 1) e1).trans (hY q))

variable (c : Dev nD) (i : grid0.Coords) (a1 : Memref sig .tc .vmem S512x1024 .f32) (w1 : a1.IsWhole) (a2 : Memref sig .tc .vmem S1x1024 .f32) (w2 : a2.IsWhole) (a3 : Memref sig .tc .vmem S1024x2688 .bf16) (w3 : a3.IsWhole) (a4 : Memref sig .tc .vmem S1x128 .f32) (w4 : a4.IsWhole) (a5 : Memref sig .tc .vmem S3x128 .f32) (w5 : a5.IsWhole) (a6 : Memref sig .tc .vmem S512x128 .f32) (w6 : a6.IsWhole) (a7 : Memref sig .tc .vmem S512x128 .f32) (w7 : a7.IsWhole) (a8 : Memref sig .tc .vmem S512x128 .f32) (w8 : a8.IsWhole) (a9 : Memref sig .tc .vmem S512x1024 .bf16) (w9 : a9.IsWhole) (a10 : Memref sig .tc .vmem S512x512 .f32) (w10 : a10.IsWhole) (a11 : Memref sig .tc .vmem S512x512 .f32) (w11 : a11.IsWhole) (a12 : Memref sig .tc .vmem S512x512 .f32) (w12 : a12.IsWhole) (a13 : Memref sig .tc .vmem S512x128 .f32) (w13 : a13.IsWhole) (a14 : Memref sig .tc .vmem S512x512 .bf16) (w14 : a14.IsWhole) (a15 : Memref sig .tc .vmem S512x512 .bf16) (w15 : a15.IsWhole)

theorem out8 (q : Fin 1024) : (out0_A_8 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = (if h : q.val < 512 then head hr w 0 (by omega) cs sn qg ⟨q.val, h⟩ else head hr w 512 (by omega) cs sn qg ⟨q.val - 512, by omega⟩) * Ideal.ofBits .f32 0x3E000000#32 := by
  unfold out0_A_8
  rw [View.read_writes_eq_canon _ _ _ (cover0_A_8 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h
  · have hq : ¬ q.val < 512 := by have := h1; simp at this; omega
    rw [dif_neg hq]
    exact congrArg (· * Ideal.ofBits .f32 0x3E000000#32) (tile_head R 512 (by omega) 3 (by omega) _ (k0_pay15 x3) qg (fun n => columns_512 R 512 (by omega) ![0, 512] rfl rfl inb_S1024x2688_S1024x512_0_512 n) R.q_gains ![0, 384] rfl rfl slices_S512x512_o0_384_S512x128 _ x h0 (by have := h1; simp at this; show q.val - 512 = _; omega))
  · have hq : ¬ q.val < 512 := by have := h1; simp at this; omega
    rw [dif_neg hq]
    exact congrArg (· * Ideal.ofBits .f32 0x3E000000#32) (tile_head R 512 (by omega) 2 (by omega) _ (k0_pay15 x3) qg (fun n => columns_512 R 512 (by omega) ![0, 512] rfl rfl inb_S1024x2688_S1024x512_0_512 n) R.q_gains ![0, 256] rfl rfl slices_S512x512_o0_256_S512x128 _ x h0 (by have := h1; simp at this; show q.val - 512 = _; omega))
  · have hq : ¬ q.val < 512 := by have := h1; simp at this; omega
    rw [dif_neg hq]
    exact congrArg (· * Ideal.ofBits .f32 0x3E000000#32) (tile_head R 512 (by omega) 1 (by omega) _ (k0_pay15 x3) qg (fun n => columns_512 R 512 (by omega) ![0, 512] rfl rfl inb_S1024x2688_S1024x512_0_512 n) R.q_gains ![0, 128] rfl rfl slices_S512x512_o0_128_S512x128 _ x h0 (by have := h1; simp at this; show q.val - 512 = _; omega))
  · have hq : ¬ q.val < 512 := by have := h1; simp at this; omega
    rw [dif_neg hq]
    exact congrArg (· * Ideal.ofBits .f32 0x3E000000#32) (tile_head R 512 (by omega) 0 (by omega) _ (k0_pay15 x3) qg (fun n => columns_512 R 512 (by omega) ![0, 512] rfl rfl inb_S1024x2688_S1024x512_0_512 n) R.q_gains ![0, 0] rfl rfl slices_S512x512_o0_0_S512x128 _ x h0 (by have := h1; simp at this; show q.val - 512 = _; omega))
  · have hq : q.val < 512 := by have := h1; simp at this; omega
    rw [dif_pos hq]
    exact congrArg (· * Ideal.ofBits .f32 0x3E000000#32) (tile_head R 0 (by omega) 3 (by omega) _ (k0_pay15 x3) qg (fun n => columns_512 R 0 (by omega) ![0, 0] rfl rfl inb_S1024x2688_S1024x512_0_0 n) R.q_gains ![0, 384] rfl rfl slices_S512x512_o0_384_S512x128 _ x h0 (by have := h1; simp at this; show q.val = _; omega))
  · have hq : q.val < 512 := by have := h1; simp at this; omega
    rw [dif_pos hq]
    exact congrArg (· * Ideal.ofBits .f32 0x3E000000#32) (tile_head R 0 (by omega) 2 (by omega) _ (k0_pay15 x3) qg (fun n => columns_512 R 0 (by omega) ![0, 0] rfl rfl inb_S1024x2688_S1024x512_0_0 n) R.q_gains ![0, 256] rfl rfl slices_S512x512_o0_256_S512x128 _ x h0 (by have := h1; simp at this; show q.val = _; omega))
  · have hq : q.val < 512 := by have := h1; simp at this; omega
    rw [dif_pos hq]
    exact congrArg (· * Ideal.ofBits .f32 0x3E000000#32) (tile_head R 0 (by omega) 1 (by omega) _ (k0_pay15 x3) qg (fun n => columns_512 R 0 (by omega) ![0, 0] rfl rfl inb_S1024x2688_S1024x512_0_0 n) R.q_gains ![0, 128] rfl rfl slices_S512x512_o0_128_S512x128 _ x h0 (by have := h1; simp at this; show q.val = _; omega))
  · have hq : q.val < 512 := by have := h1; simp at this; omega
    rw [dif_pos hq]
    exact congrArg (· * Ideal.ofBits .f32 0x3E000000#32) (tile_head R 0 (by omega) 0 (by omega) _ (k0_pay15 x3) qg (fun n => columns_512 R 0 (by omega) ![0, 0] rfl rfl inb_S1024x2688_S1024x512_0_0 n) R.q_gains ![0, 0] rfl rfl slices_S512x512_o0_0_S512x128 _ x h0 (by have := h1; simp at this; show q.val = _; omega))

theorem out9 (q : Fin 512) : (out0_A_9 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = if q.val < 256 then head hr w 1024 (by omega) cs sn (kg 0) q else column hr w ⟨1024 + q.val, by omega⟩ := by
  unfold out0_A_9
  rw [View.read_writes_eq_canon _ _ _ (cover0_A_9 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 256 := by have := h1; simp at this; omega
    rw [if_neg hq]
    exact tile_values R 1024 (by omega) _ (fun n => columns_512 R 1024 (by omega) ![0, 1024] rfl rfl inb_S1024x2688_S1024x512_0_1024 n) slices_S512x512_o0_256_S512x256 q x h0 (by simpa using h1)
  · have hq : q.val < 256 := by have := h1; have hx := (x 1).isLt; simp at this hx; omega
    rw [if_pos hq]
    exact tile_head R 1024 (by omega) 1 (by omega) _ (View.ld x4 (Rect.unit (s := S3x128) ![0, 0] ![1, 128] inb_S3x128_S1x128_0_0)) (kg 0) (fun n => columns_512 R 1024 (by omega) ![0, 1024] rfl rfl inb_S1024x2688_S1024x512_0_1024 n) (branch_gains R 0 ![0, 0] rfl rfl _) ![0, 128] rfl rfl slices_S512x512_o0_128_S512x128 q x h0 (by simpa using h1)
  · have hq : q.val < 256 := by have := h1; have hx := (x 1).isLt; simp at this hx; omega
    rw [if_pos hq]
    exact tile_head R 1024 (by omega) 0 (by omega) _ (View.ld x4 (Rect.unit (s := S3x128) ![0, 0] ![1, 128] inb_S3x128_S1x128_0_0)) (kg 0) (fun n => columns_512 R 1024 (by omega) ![0, 1024] rfl rfl inb_S1024x2688_S1024x512_0_1024 n) (branch_gains R 0 ![0, 0] rfl rfl _) ![0, 0] rfl rfl slices_S512x512_o0_0_S512x128 q x h0 (by simpa using h1)

theorem out10 (q : Fin 512) : (out0_A_10 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = if q.val < 256 then head hr w 1536 (by omega) cs sn (kg 1) q else column hr w ⟨1536 + q.val, by omega⟩ := by
  unfold out0_A_10
  rw [View.read_writes_eq_canon _ _ _ (cover0_A_10 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 256 := by have := h1; simp at this; omega
    rw [if_neg hq]
    exact tile_values R 1536 (by omega) _ (fun n => columns_512 R 1536 (by omega) ![0, 1536] rfl rfl inb_S1024x2688_S1024x512_0_1536 n) slices_S512x512_o0_256_S512x256 q x h0 (by simpa using h1)
  · have hq : q.val < 256 := by have := h1; have hx := (x 1).isLt; simp at this hx; omega
    rw [if_pos hq]
    exact tile_head R 1536 (by omega) 1 (by omega) _ (View.ld x4 (Rect.unit (s := S3x128) ![1, 0] ![1, 128] inb_S3x128_S1x128_1_0)) (kg 1) (fun n => columns_512 R 1536 (by omega) ![0, 1536] rfl rfl inb_S1024x2688_S1024x512_0_1536 n) (branch_gains R 1 ![1, 0] rfl rfl _) ![0, 128] rfl rfl slices_S512x512_o0_128_S512x128 q x h0 (by simpa using h1)
  · have hq : q.val < 256 := by have := h1; have hx := (x 1).isLt; simp at this hx; omega
    rw [if_pos hq]
    exact tile_head R 1536 (by omega) 0 (by omega) _ (View.ld x4 (Rect.unit (s := S3x128) ![1, 0] ![1, 128] inb_S3x128_S1x128_1_0)) (kg 1) (fun n => columns_512 R 1536 (by omega) ![0, 1536] rfl rfl inb_S1024x2688_S1024x512_0_1536 n) (branch_gains R 1 ![1, 0] rfl rfl _) ![0, 0] rfl rfl slices_S512x512_o0_0_S512x128 q x h0 (by simpa using h1)

theorem out11 (q : Fin 512) : (out0_A_11 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = if q.val < 256 then head hr w 2048 (by omega) cs sn (kg 2) q else column hr w ⟨2048 + q.val, by omega⟩ := by
  unfold out0_A_11
  rw [View.read_writes_eq_canon _ _ _ (cover0_A_11 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 256 := by have := h1; simp at this; omega
    rw [if_neg hq]
    exact tile_values R 2048 (by omega) _ (fun n => columns_512 R 2048 (by omega) ![0, 2048] rfl rfl inb_S1024x2688_S1024x512_0_2048 n) slices_S512x512_o0_256_S512x256 q x h0 (by simpa using h1)
  · have hq : q.val < 256 := by have := h1; have hx := (x 1).isLt; simp at this hx; omega
    rw [if_pos hq]
    exact tile_head R 2048 (by omega) 1 (by omega) _ (View.ld x4 (Rect.unit (s := S3x128) ![2, 0] ![1, 128] inb_S3x128_S1x128_2_0)) (kg 2) (fun n => columns_512 R 2048 (by omega) ![0, 2048] rfl rfl inb_S1024x2688_S1024x512_0_2048 n) (branch_gains R 2 ![2, 0] rfl rfl _) ![0, 128] rfl rfl slices_S512x512_o0_128_S512x128 q x h0 (by simpa using h1)
  · have hq : q.val < 256 := by have := h1; have hx := (x 1).isLt; simp at this hx; omega
    rw [if_pos hq]
    exact tile_head R 2048 (by omega) 0 (by omega) _ (View.ld x4 (Rect.unit (s := S3x128) ![2, 0] ![1, 128] inb_S3x128_S1x128_2_0)) (kg 2) (fun n => columns_512 R 2048 (by omega) ![0, 2048] rfl rfl inb_S1024x2688_S1024x512_0_2048 n) (branch_gains R 2 ![2, 0] rfl rfl _) ![0, 0] rfl rfl slices_S512x512_o0_0_S512x128 q x h0 (by simpa using h1)

theorem out13 (q : Fin 512) : (out0_A_13 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = if q.val < 256 then head hr w 1536 (by omega) cs sn (kg 1) q else column hr w ⟨1536 + q.val, by omega⟩ := by
  unfold out0_A_13
  rw [View.read_writes_eq_canon _ _ _ (cover0_A_13 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 256 := by have := h1; simp at this; omega
    rw [if_neg hq]
    exact tile_values R 1536 (by omega) _ (fun n => columns_512 R 1536 (by omega) ![0, 1536] rfl rfl inb_S1024x2688_S1024x512_0_1536 n) slices_S512x512_o0_256_S512x256 q x h0 (by simpa using h1)
  · have hq : q.val < 256 := by have := h1; have hx := (x 1).isLt; simp at this hx; omega
    rw [if_pos hq]
    exact tile_head R 1536 (by omega) 1 (by omega) _ (View.ld x4 (Rect.unit (s := S3x128) ![1, 0] ![1, 128] inb_S3x128_S1x128_1_0)) (kg 1) (fun n => columns_512 R 1536 (by omega) ![0, 1536] rfl rfl inb_S1024x2688_S1024x512_0_1536 n) (branch_gains R 1 ![1, 0] rfl rfl _) ![0, 128] rfl rfl slices_S512x512_o0_128_S512x128 q x h0 (by simpa using h1)
  · have hq : q.val < 256 := by have := h1; have hx := (x 1).isLt; simp at this hx; omega
    rw [if_pos hq]
    exact tile_head R 1536 (by omega) 0 (by omega) _ (View.ld x4 (Rect.unit (s := S3x128) ![1, 0] ![1, 128] inb_S3x128_S1x128_1_0)) (kg 1) (fun n => columns_512 R 1536 (by omega) ![0, 1536] rfl rfl inb_S1024x2688_S1024x512_0_1536 n) (branch_gains R 1 ![1, 0] rfl rfl _) ![0, 0] rfl rfl slices_S512x512_o0_0_S512x128 q x h0 (by simpa using h1)

theorem out14 (q : Fin 512) : (out0_A_14 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = if q.val < 256 then head hr w 2048 (by omega) cs sn (kg 2) q else column hr w ⟨2048 + q.val, by omega⟩ := by
  unfold out0_A_14
  rw [View.read_writes_eq_canon _ _ _ (cover0_A_14 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h using (View.cover_of_tiledBy _ ![512, 128] (by sl_kernel_rfl) _)
  · have hq : ¬ q.val < 256 := by have := h1; simp at this; omega
    rw [if_neg hq]
    exact tile_values R 2048 (by omega) _ (fun n => columns_512 R 2048 (by omega) ![0, 2048] rfl rfl inb_S1024x2688_S1024x512_0_2048 n) slices_S512x512_o0_256_S512x256 q x h0 (by simpa using h1)
  · have hq : q.val < 256 := by have := h1; have hx := (x 1).isLt; simp at this hx; omega
    rw [if_pos hq]
    exact tile_head R 2048 (by omega) 1 (by omega) _ (View.ld x4 (Rect.unit (s := S3x128) ![2, 0] ![1, 128] inb_S3x128_S1x128_2_0)) (kg 2) (fun n => columns_512 R 2048 (by omega) ![0, 2048] rfl rfl inb_S1024x2688_S1024x512_0_2048 n) (branch_gains R 2 ![2, 0] rfl rfl _) ![0, 128] rfl rfl slices_S512x512_o0_128_S512x128 q x h0 (by simpa using h1)
  · have hq : q.val < 256 := by have := h1; have hx := (x 1).isLt; simp at this hx; omega
    rw [if_pos hq]
    exact tile_head R 2048 (by omega) 0 (by omega) _ (View.ld x4 (Rect.unit (s := S3x128) ![2, 0] ![1, 128] inb_S3x128_S1x128_2_0)) (kg 2) (fun n => columns_512 R 2048 (by omega) ![0, 2048] rfl rfl inb_S1024x2688_S1024x512_0_2048 n) (branch_gains R 2 ![2, 0] rfl rfl _) ![0, 0] rfl rfl slices_S512x512_o0_0_S512x128 q x h0 (by simpa using h1)

theorem out12 (q : Fin 128) : (out0_A_12 c i a1 w1 a2 w2 a3 w3 a4 w4 a5 w5 a6 w6 a7 w7 a8 w8 a9 w9 a10 w10 a11 w11 a12 w12 a13 w13 a14 w14 a15 w15 x0 x1 x2 x3 x4 x5 x6 x7 (ix2 p q) : EReal) = Ideal.logistic (column hr w ⟨2560 + q.val, by omega⟩) := by
  unfold out0_A_12
  rw [View.read_writes_eq_canon _ _ _ (cover0_A_12 c i a1 w1 a2 w2 a3 w3 a4 w4 a5 w5 a6 w6 a7 w7 a8 w8 a9 w9 a10 w10 a11 w11 a12 w12 a13 w13 a14 w14 a15 w15 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S512x1024) zero2, View.ld_unit_zero (S := S1x1024) zero2, View.ld_unit_zero (S := S1x128) zero2, View.ld_unit_zero (S := S512x128) zero2]
  canon_tiles x h
  have ex : x = ix2 p (x 1) := (eq_ix2 x).trans (congrArg₂ ix2 (Fin.ext h0.symm) rfl)
  rw [ex]
  refine (columns_gate R ![0, 2560] rfl rfl inb_S1024x2688_S1024x128_0_2560 (x 1)).trans (congrArg (fun n => Ideal.logistic (column hr w n)) (Fin.ext ?_))
  show 2560 + (x 1).val = 2560 + q.val
  have := h1; simp at this; omega

end Tile

end Cert.Kernel5Ideal.Odd
-- ==== Proof.OddValue.lean ====
/- The odd layer's projections' call: what the host prepares and what the tiles leave in the results. -/
module

public import proofs.«01_k».proof.Proof.OddTile
public import proofs.«01_k».proof.Proof.Gen.Kernel5Ideal.Value
public import Idealize.ShloMosaic.Lib.StableHlo.RunRead

@[expose] public section

set_option maxRecDepth 16384

noncomputable section

namespace Cert.Kernel5Ideal.Odd

open Cert.Kernel5Ideal Cert.Kernel5Ideal.Gen Cert.Heads
open Idealize.ShloMosaic Idealize.ShloMosaic.TcCoe

variable (m : (ℓ : Loc nD τ sig) → Buf (Elt Ideal) ℓ)

/-! ## The tables -/

/-- Two copies of a table side by side. -/
theorem doubled (y : FVec Ideal S2048x64 .f32) (s : Fin 2048) (l : Fin 128) :
    (concatenate S2048x128 1 [⟨S2048x64, y⟩, ⟨S2048x64, y⟩] concatenates_S2048x64_S2048x64_S2048x128_d1 (ix2 s l) : EReal) = y (ix2 s ⟨l.val % 64, by omega⟩) := by
  pointwise []
  split
  · exact congrArg (fun k => y (ix2 s k)) (Fin.ext (by show l.val = l.val % 64; omega))
  · exact congrArg (fun k => y (ix2 s k)) (Fin.ext (by show l.val - 64 = l.val % 64; omega))

/-- A table of a head's lanes in three parts. -/
theorem joined (a b : FVec Ideal S2048x8 .f32) (d : FVec Ideal S2048x48 .f32) (s : Fin 2048) (k : Fin 64) :
    (concatenate S2048x64 1 [⟨S2048x8, a⟩, ⟨S2048x8, b⟩, ⟨S2048x48, d⟩] concatenates_S2048x8_S2048x8_S2048x48_S2048x64_d1 (ix2 s k) : EReal)
      = if h : k.val < 8 then a (ix2 s ⟨k.val, h⟩) else if h : k.val < 16 then b (ix2 s ⟨k.val - 8, by omega⟩) else d (ix2 s ⟨k.val - 16, by omega⟩) := by
  pointwise []
  refine dite_congr rfl (fun h => rfl) fun h => ?_
  have e : (k.val - 8 < 8) = (k.val < 16) := propext (by omega)
  refine dite_congr e (fun _ => rfl) fun _ => ?_
  exact congrArg (fun k => d (ix2 s k)) (Fin.ext (by show k.val - 8 - 8 = k.val - 16; omega))

/-- The angles' array as the host computes it. -/
theorem angles_apply (V0 : Valuation τ sig (Elt Ideal)) (s : Fin 2048) (i : Fin 8) :
    ((show FVec Ideal S2048x8 .f32 from StableHlo.upto hostOps0 V0 18 (Proc.devRef .tc main_v14)) (ix2 s i) : EReal) = angle s i := by
  show StableHlo.upto hostOps0 V0 18 (Proc.devRef .tc main_v14) (ix2 s i) = _
  after_reads_simp
  pointwise [angle]

theorem V_cosines (c : Dev nD) (s : Fin 2048) (l : Fin 128) : ((show FVec Ideal S2048x128 .f32 from V m c main_v24) (ix2 s l) : EReal)
    = if h : l.val % 64 < 8 then Ideal.cos (angle s ⟨l.val % 64, h⟩) else if h : l.val % 64 < 16 then Ideal.cos (angle s ⟨l.val % 64 - 8, by omega⟩) else 1 := by
  show StableHlo.after hostOps0 (fun b => m (c, b)) (Proc.devRef .tc main_v24) (ix2 s l) = _
  after_reads_simp
  refine (doubled _ s l).trans ?_
  after_reads_simp
  refine (joined _ _ _ s ⟨l.val % 64, by omega⟩).trans ?_
  refine dite_congr rfl (fun h => ?_) fun _ => dite_congr rfl (fun h => ?_) fun _ => ?_
  · refine (congrFun (StableHlo.unary_result _ _ _ _ _ _) _).trans ?_
    exact congrArg Ideal.cos (angles_apply (fun b => m (c, b)) s _)
  · refine (congrFun (StableHlo.unary_result _ _ _ _ _ _) _).trans ?_
    exact congrArg Ideal.cos (angles_apply (fun b => m (c, b)) s _)
  · refine (congrFun (StableHlo.unary_result _ _ _ _ _ _) _).trans ?_
    after_reads_simp
    pointwise []
theorem V_up (c : Dev nD) (s : Fin 2048) (l : Fin 128) : ((show FVec Ideal S2048x128 .f32 from V m c main_v25) (ix2 s l) : EReal)
    = if h : l.val % 64 < 8 then -Ideal.sin (angle s ⟨l.val % 64, h⟩) else 0 := by
  show StableHlo.after hostOps0 (fun b => m (c, b)) (Proc.devRef .tc main_v25) (ix2 s l) = _
  after_reads_simp
  refine (doubled _ s l).trans ?_
  after_reads_simp
  refine (joined _ _ _ s ⟨l.val % 64, by omega⟩).trans ?_
  have hz (h : ¬ l.val % 64 < 8) : (0 : EReal) = if h : l.val % 64 < 16 then 0 else 0 := by split <;> rfl
  refine dite_congr rfl (fun h => ?_) fun h => (dite_congr rfl (fun h => ?_) fun _ => ?_).trans (hz h).symm
  · refine (congrFun (StableHlo.unary_result _ _ _ _ _ _) _).trans ?_
    after_reads_simp
    exact congrArg (fun v : EReal => -Ideal.sin v) (angles_apply (fun b => m (c, b)) s _)
  · refine (congrFun (StableHlo.unary_result _ _ _ _ _ _) _).trans ?_
    after_reads_simp
    pointwise []
  · refine (congrFun (StableHlo.unary_result _ _ _ _ _ _) _).trans ?_
    after_reads_simp
    pointwise []
theorem V_down (c : Dev nD) (s : Fin 2048) (l : Fin 128) : ((show FVec Ideal S2048x128 .f32 from V m c main_v26) (ix2 s l) : EReal)
    = if l.val % 64 < 8 then 0 else if h : l.val % 64 < 16 then Ideal.sin (angle s ⟨l.val % 64 - 8, by omega⟩) else 0 := by
  show StableHlo.after hostOps0 (fun b => m (c, b)) (Proc.devRef .tc main_v26) (ix2 s l) = _
  after_reads_simp
  refine (doubled _ s l).trans ?_
  after_reads_simp
  refine (joined _ _ _ s ⟨l.val % 64, by omega⟩).trans ?_
  refine dite_congr rfl (fun h => ?_) fun _ => dite_congr rfl (fun h => ?_) fun _ => ?_
  · refine (congrFun (StableHlo.unary_result _ _ _ _ _ _) _).trans ?_
    after_reads_simp
    pointwise []
  · refine (congrFun (StableHlo.unary_result _ _ _ _ _ _) _).trans ?_
    after_reads_simp
    exact congrArg Ideal.sin (angles_apply (fun b => m (c, b)) s _)
  · refine (congrFun (StableHlo.unary_result _ _ _ _ _ _) _).trans ?_
    after_reads_simp
    pointwise []

/-! ## The windows' blocks -/

/-- The arguments as launched: rows, gains, weights, the queries' gains, the keys'. -/
abbrev X (c : Dev nD) : FVec Ideal S16384x1024 .f32 := m ((c : Thread nD τ).loc main_arg0)
abbrev NG (c : Dev nD) : FVec Ideal S1024 .f32 := m ((c : Thread nD τ).loc main_arg1)
abbrev W (c : Dev nD) : FVec Ideal S1024x2608 .f32 := m ((c : Thread nD τ).loc main_arg2)
abbrev QG (c : Dev nD) : FVec Ideal S64 .f32 := m ((c : Thread nD τ).loc main_arg3)
abbrev KG (c : Dev nD) : FVec Ideal S3x64 .f32 := m ((c : Thread nD τ).loc main_arg4)

/-- The weights, with eighty columns of zeros after them. -/
theorem V_weights (c : Dev nD) (d : Fin 1024) (n : Fin 2688) : (show FVec Ideal S1024x2688 .bf16 from V m c main_v28) (ix2 d n) = padded (W m c) (ix2 d n) := by
  show StableHlo.after hostOps0_2 (StableHlo.after hostOps0_1 (StableHlo.after hostOps0 (fun b => m (c, b)))) (Proc.devRef .tc main_v28) (ix2 d n) = _
  after_reads_simp
  show (pad S1024x2688 ![0, 0] ![0, 80] ![0, 0] (W m c) (sitofp (F := Ideal) .f32 (constantI S_ 32 0#32)) pads_S1024x2608_S1024x2688_000_0800 h_S_ (ix2 d n) : EReal) = _
  have zero_word : (FloatOps.sitofp (F := Ideal) .f32 (0#32) : EReal) = 0 := by show (((0#32 : BitVec 32).toInt : ℝ) : EReal) = 0; simp
  pointwise [padded]
  rw [zero_word]

/-- The gains, as one row. -/
theorem V_gains (c : Dev nD) (d : Fin 1024) : (show FVec Ideal S1x1024 .f32 from V m c main_v29) (ix2 0 d) = NG m c (ix1 d) := by
  show StableHlo.after hostOps0_2 (StableHlo.after hostOps0_1 (StableHlo.after hostOps0 (fun b => m (c, b)))) (Proc.devRef .tc main_v29) (ix2 0 d) = _
  after_reads_simp
  pointwise []

/-- The heads' gains, once per head of a group. -/
theorem V_q_gains (c : Dev nD) (l : Fin 128) : (show FVec Ideal S1x128 .f32 from V m c main_v33) (ix2 0 l) = QG m c (ix1 ⟨l.val % 64, by omega⟩) := by
  show StableHlo.after hostOps0_2 (StableHlo.after hostOps0_1 (StableHlo.after hostOps0 (fun b => m (c, b)))) (Proc.devRef .tc main_v33) (ix2 0 l) = _
  after_reads_simp
  pointwise []

theorem V_k_gains (c : Dev nD) (i : Fin 3) (l : Fin 128) : (show FVec Ideal S3x128 .f32 from V m c main_v36) (ix2 i l) = KG m c (ix2 i ⟨l.val % 64, by omega⟩) := by
  show StableHlo.after hostOps0_2 (StableHlo.after hostOps0_1 (StableHlo.after hostOps0 (fun b => m (c, b)))) (Proc.devRef .tc main_v36) (ix2 i l) = _
  after_reads_simp
  pointwise []

theorem x_index : ∀ t : Fin cfg0.N, win0_0.index t = ![t.val, 0] := (by decide +kernel : ∀ t : Fin grid0.N, win0_0.index t = ![t.val, 0])
theorem gains_index : ∀ t : Fin cfg0.N, win0_1.index t = ![0, 0] := (by decide +kernel : ∀ t : Fin grid0.N, win0_1.index t = ![0, 0])
theorem weights_index : ∀ t : Fin cfg0.N, win0_2.index t = ![0, 0] := (by decide +kernel : ∀ t : Fin grid0.N, win0_2.index t = ![0, 0])
theorem q_index : ∀ t : Fin cfg0.N, win0_3.index t = ![0, 0] := (by decide +kernel : ∀ t : Fin grid0.N, win0_3.index t = ![0, 0])
theorem k_index : ∀ t : Fin cfg0.N, win0_4.index t = ![0, 0] := (by decide +kernel : ∀ t : Fin grid0.N, win0_4.index t = ![0, 0])
theorem cos_index : ∀ t : Fin cfg0.N, win0_5.index t = ![t.val % 4, 0] := (by decide +kernel : ∀ t : Fin grid0.N, win0_5.index t = ![t.val % 4, 0])
theorem up_index : ∀ t : Fin cfg0.N, win0_6.index t = ![t.val % 4, 0] := (by decide +kernel : ∀ t : Fin grid0.N, win0_6.index t = ![t.val % 4, 0])
theorem down_index : ∀ t : Fin cfg0.N, win0_7.index t = ![t.val % 4, 0] := (by decide +kernel : ∀ t : Fin grid0.N, win0_7.index t = ![t.val % 4, 0])

/-- A tile's rows. -/
theorem x_block (c : Dev nD) (t : Fin cfg0.N) (p : Fin 512) (d : Fin 1024) (r : Fin 16384) (hr : r.val = 512 * t.val + p.val) :
    (iblk m c 0 t : FVec Ideal S512x1024 .f32) (ix2 p d) = X m c (ix2 r d) := by
  rw [show X m c = V m c main_arg0 from (V_main_arg0 m c).symm]
  refine congrArg (V m c main_arg0) (funext fun a => Fin.ext ?_)
  refine (Pipeline.Window.rect_emb_val (cfg0.win 0) t (ix2 p d) a).trans ?_
  have e := x_index t
  match a with
  | ⟨0, _⟩ => show win0_0.index t 0 * 512 + p.val = r.val; rw [e]; show t.val * 512 + p.val = r.val; omega
  | ⟨1, _⟩ => show win0_0.index t 1 * 1024 + d.val = d.val; rw [e]; show 0 * 1024 + d.val = d.val; omega

/-- The gains', the weights' and the heads' gains' blocks are their arrays. -/
theorem gains_block (c : Dev nD) (t : Fin cfg0.N) (d : Fin 1024) : (iblk m c 1 t : FVec Ideal S1x1024 .f32) (ix2 0 d) = NG m c (ix1 d) := by
  rw [← V_gains m c d]
  refine congrArg (V m c main_v29) (funext fun a => Fin.ext ?_)
  refine (Pipeline.Window.rect_emb_val (cfg0.win 1) t (ix2 0 d) a).trans ?_
  have e := gains_index t
  match a with
  | ⟨0, _⟩ => show win0_1.index t 0 * 1 + 0 = 0; rw [e]; show 0 * 1 + 0 = 0; omega
  | ⟨1, _⟩ => show win0_1.index t 1 * 1024 + d.val = d.val; rw [e]; show 0 * 1024 + d.val = d.val; omega

theorem weights_block (c : Dev nD) (t : Fin cfg0.N) (d : Fin 1024) (n : Fin 2688) : (iblk m c 2 t : FVec Ideal S1024x2688 .bf16) (ix2 d n) = padded (W m c) (ix2 d n) := by
  rw [← V_weights m c d n]
  refine congrArg (V m c main_v28) (funext fun a => Fin.ext ?_)
  refine (Pipeline.Window.rect_emb_val (cfg0.win 2) t (ix2 d n) a).trans ?_
  have e := weights_index t
  match a with
  | ⟨0, _⟩ => show win0_2.index t 0 * 1024 + d.val = d.val; rw [e]; show 0 * 1024 + d.val = d.val; omega
  | ⟨1, _⟩ => show win0_2.index t 1 * 2688 + n.val = n.val; rw [e]; show 0 * 2688 + n.val = n.val; omega

theorem q_block (c : Dev nD) (t : Fin cfg0.N) (l : Fin 128) : (iblk m c 3 t : FVec Ideal S1x128 .f32) (ix2 0 l) = QG m c (ix1 ⟨l.val % 64, by omega⟩) := by
  rw [← V_q_gains m c l]
  refine congrArg (V m c main_v33) (funext fun a => Fin.ext ?_)
  refine (Pipeline.Window.rect_emb_val (cfg0.win 3) t (ix2 0 l) a).trans ?_
  have e := q_index t
  match a with
  | ⟨0, _⟩ => show win0_3.index t 0 * 1 + 0 = 0; rw [e]; show 0 * 1 + 0 = 0; omega
  | ⟨1, _⟩ => show win0_3.index t 1 * 128 + l.val = l.val; rw [e]; show 0 * 128 + l.val = l.val; omega

theorem k_block (c : Dev nD) (t : Fin cfg0.N) (i : Fin 3) (l : Fin 128) : (iblk m c 4 t : FVec Ideal S3x128 .f32) (ix2 i l) = KG m c (ix2 i ⟨l.val % 64, by omega⟩) := by
  rw [← V_k_gains m c i l]
  refine congrArg (V m c main_v36) (funext fun a => Fin.ext ?_)
  refine (Pipeline.Window.rect_emb_val (cfg0.win 4) t (ix2 i l) a).trans ?_
  have e := k_index t
  match a with
  | ⟨0, _⟩ => show win0_4.index t 0 * 3 + i.val = i.val; rw [e]; show 0 * 3 + i.val = i.val; omega
  | ⟨1, _⟩ => show win0_4.index t 1 * 128 + l.val = l.val; rw [e]; show 0 * 128 + l.val = l.val; omega

/-- A tile's rows of the tables: the tables repeat every four tiles. -/
theorem cos_block (c : Dev nD) (t : Fin cfg0.N) (p : Fin 512) (l : Fin 128) (s : Fin 2048) (hs : s.val = 512 * (t.val % 4) + p.val) :
    (iblk m c 5 t : FVec Ideal S512x128 .f32) (ix2 p l) = (show FVec Ideal S2048x128 .f32 from V m c main_v24) (ix2 s l) := by
  refine congrArg (V m c main_v24) (funext fun a => Fin.ext ?_)
  refine (Pipeline.Window.rect_emb_val (cfg0.win 5) t (ix2 p l) a).trans ?_
  have e := cos_index t
  match a with
  | ⟨0, _⟩ => show win0_5.index t 0 * 512 + p.val = s.val; rw [e]; show t.val % 4 * 512 + p.val = s.val; omega
  | ⟨1, _⟩ => show win0_5.index t 1 * 128 + l.val = l.val; rw [e]; show 0 * 128 + l.val = l.val; omega

theorem up_block (c : Dev nD) (t : Fin cfg0.N) (p : Fin 512) (l : Fin 128) (s : Fin 2048) (hs : s.val = 512 * (t.val % 4) + p.val) :
    (iblk m c 6 t : FVec Ideal S512x128 .f32) (ix2 p l) = (show FVec Ideal S2048x128 .f32 from V m c main_v25) (ix2 s l) := by
  refine congrArg (V m c main_v25) (funext fun a => Fin.ext ?_)
  refine (Pipeline.Window.rect_emb_val (cfg0.win 6) t (ix2 p l) a).trans ?_
  have e := up_index t
  match a with
  | ⟨0, _⟩ => show win0_6.index t 0 * 512 + p.val = s.val; rw [e]; show t.val % 4 * 512 + p.val = s.val; omega
  | ⟨1, _⟩ => show win0_6.index t 1 * 128 + l.val = l.val; rw [e]; show 0 * 128 + l.val = l.val; omega

theorem down_block (c : Dev nD) (t : Fin cfg0.N) (p : Fin 512) (l : Fin 128) (s : Fin 2048) (hs : s.val = 512 * (t.val % 4) + p.val) :
    (iblk m c 7 t : FVec Ideal S512x128 .f32) (ix2 p l) = (show FVec Ideal S2048x128 .f32 from V m c main_v26) (ix2 s l) := by
  refine congrArg (V m c main_v26) (funext fun a => Fin.ext ?_)
  refine (Pipeline.Window.rect_emb_val (cfg0.win 7) t (ix2 p l) a).trans ?_
  have e := down_index t
  match a with
  | ⟨0, _⟩ => show win0_7.index t 0 * 512 + p.val = s.val; rw [e]; show t.val % 4 * 512 + p.val = s.val; omega
  | ⟨1, _⟩ => show win0_7.index t 1 * 128 + l.val = l.val; rw [e]; show 0 * 128 + l.val = l.val; omega

/-- What a point's blocks hold for a row of its tile. -/
theorem row_blocks (c : Dev nD) (hg : ∀ i, IsReal (NG m c i)) (hw : ∀ i, IsReal (W m c i)) (t : Fin cfg0.N) (p : Fin 512) (r : Fin 16384) (hr : r.val = 512 * t.val + p.val) :
    Row (iblk m c 0 t) (iblk m c 1 t) (iblk m c 2 t) (iblk m c 3 t) (iblk m c 4 t) (iblk m c 5 t) (iblk m c 6 t) (iblk m c 7 t) p (rowOf (X m c) (NG m c) r) (padded (W m c))
      (fun k => QG m c (ix1 k)) (fun i k => KG m c (ix2 i k)) (cosOf r) (sinOf r) where
  row d := by
    pointwise [k0_pay6]
    simp only [x_block m c t p _ r hr, gains_block m c t]
    rfl
  weights d n := weights_block m c t d n
  row_real := normed_real _ _ fun _ => hg _
  weights_real := padded_real _ hw
  q_gains l := by
    pointwise [k0_pay15]
    exact q_block m c t l
  k_gains i l := k_block m c t i l
  cosines l := by
    pointwise [k0_pay10]
    exact (cos_block m c t p l ⟨r.val % 2048, by omega⟩ (by show r.val % 2048 = _; omega)).trans (V_cosines m c _ l)
  sines_up l := by
    pointwise [k0_pay11]
    exact (up_block m c t p l ⟨r.val % 2048, by omega⟩ (by show r.val % 2048 = _; omega)).trans (V_up m c _ l)
  sines_down l := by
    pointwise [k0_pay12]
    exact (down_block m c t p l ⟨r.val % 2048, by omega⟩ (by show r.val % 2048 = _; omega)).trans (V_down m c _ l)

/-! ## The results -/

/-- The queries' heads over the weights with zeros after them are those over the weights. -/
theorem queries (c : Dev nD) (r : Fin 16384) (q : Fin 1024) :
    (if h : q.val < 512 then head (rowOf (X m c) (NG m c) r) (padded (W m c)) 0 (by omega) (cosOf r) (sinOf r) (fun k => QG m c (ix1 k)) ⟨q.val, h⟩
      else head (rowOf (X m c) (NG m c) r) (padded (W m c)) 512 (by omega) (cosOf r) (sinOf r) (fun k => QG m c (ix1 k)) ⟨q.val - 512, by omega⟩) * Ideal.ofBits .f32 0x3E000000#32
      = oddQ (X m c) (NG m c) (W m c) (QG m c) r q :=
  congrArg (· * eighth) (dite_congr rfl (fun _ => head_padded _ _ _ (by omega) _ _ _ _) fun _ => head_padded _ _ _ (by omega) _ _ _ _)

/-- A branch's keys and values likewise, and the gates. -/
theorem branch (c : Dev nD) (i : Fin 3) (b : Nat) (hb : b = 1024 + 512 * i.val) (r : Fin 16384) (q : Fin 512) :
    (if q.val < 256 then head (rowOf (X m c) (NG m c) r) (padded (W m c)) b (by omega) (cosOf r) (sinOf r) (fun k => KG m c (ix2 i k)) q
      else column (rowOf (X m c) (NG m c) r) (padded (W m c)) ⟨b + q.val, by omega⟩) = oddKV (X m c) (NG m c) (W m c) (KG m c) i r q := by
  subst hb
  exact ite_congr rfl (fun _ => head_padded _ _ _ (by omega) _ _ _ _) fun _ => column_inside _ _ _ (by omega)

theorem gates (c : Dev nD) (r : Fin 16384) (l : Fin 128) :
    Ideal.logistic (column (rowOf (X m c) (NG m c) r) (padded (W m c)) ⟨2560 + l.val, by omega⟩) = oddGate (X m c) (NG m c) (W m c) r l :=
  congrArg Ideal.logistic ((column_padded _ _ _).trans (dite_congr (propext ⟨fun h => by have : 2560 + l.val < 2608 := h; omega, fun h => by show 2560 + l.val < 2608; omega⟩) (fun _ => rfl) fun _ => rfl))

theorem index8 : ∀ t : Fin cfg0.N, win0_8.index t = ![t.val, 0] := (by decide +kernel : ∀ t : Fin grid0.N, win0_8.index t = ![t.val, 0])

theorem result8 (c : Dev nD) (hg : ∀ i, IsReal (NG m c i)) (hw : ∀ i, IsReal (W m c i)) :
    (dats m 0 c).arrAt 8 cfg0.N = (fun i => oddQ (X m c) (NG m c) (W m c) (QG m c) (i 0) (i 1) : FVec Ideal S16384x1024 .bf16) := by
  refine (dats m 0 c).arrAt_eq_of_covers 8 _ (by decide +kernel) fun t hf y => ?_
  blk_simp
  rw [after0_8]
  simp only [outsAt0]
  have ey : (y : (⟨2, ![512, 1024]⟩ : Shape).Idx) = ix2 (y 0) (y 1) := eq_ix2 _
  have er : ((win0_8.blk t).view.emb y 0).val = 512 * t.val + (y 0).val := by
    blk_simp [index8]
    omega
  have eq : (y 1 : Fin 1024) = (win0_8.blk t).view.emb y 1 := by
    refine Fin.ext ?_
    blk_simp [index8]
  refine (congrArg _ ey).trans ((out8 (row_blocks m c hg hw t (y 0) ((win0_8.blk t).view.emb y 0) er) c _ _ _ _ _ _ _ _ _ _ _ _ _ _ _ _ _ _ _ _ _ _ _ _ _ _ _ _ _ _ _ (y 1)).trans ?_)
  rw [← eq]
  exact queries m c _ _

theorem index9 : ∀ t : Fin cfg0.N, win0_9.index t = ![t.val, 0] := (by decide +kernel : ∀ t : Fin grid0.N, win0_9.index t = ![t.val, 0])

theorem result9 (c : Dev nD) (hg : ∀ i, IsReal (NG m c i)) (hw : ∀ i, IsReal (W m c i)) :
    (dats m 0 c).arrAt 9 cfg0.N = (fun i => oddKV (X m c) (NG m c) (W m c) (KG m c) 0 (i 0) (i 1) : FVec Ideal S16384x512 .f32) := by
  refine (dats m 0 c).arrAt_eq_of_covers 9 _ (by decide +kernel) fun t hf y => ?_
  blk_simp
  rw [after0_9]
  simp only [outsAt0]
  have ey : (y : (⟨2, ![512, 512]⟩ : Shape).Idx) = ix2 (y 0) (y 1) := eq_ix2 _
  have er : ((win0_9.blk t).view.emb y 0).val = 512 * t.val + (y 0).val := by
    blk_simp [index9]
    omega
  have eq : (y 1 : Fin 512) = (win0_9.blk t).view.emb y 1 := by
    refine Fin.ext ?_
    blk_simp [index9]
  refine (congrArg _ ey).trans ((out9 (row_blocks m c hg hw t (y 0) ((win0_9.blk t).view.emb y 0) er) c _ _ _ _ _ _ _ _ _ _ _ _ _ _ _ _ _ _ _ _ _ _ _ _ _ _ _ _ _ _ _ (y 1)).trans ?_)
  rw [← eq]
  exact branch m c 0 1024 rfl _ _

theorem index10 : ∀ t : Fin cfg0.N, win0_10.index t = ![t.val, 0] := (by decide +kernel : ∀ t : Fin grid0.N, win0_10.index t = ![t.val, 0])

theorem result10 (c : Dev nD) (hg : ∀ i, IsReal (NG m c i)) (hw : ∀ i, IsReal (W m c i)) :
    (dats m 0 c).arrAt 10 cfg0.N = (fun i => oddKV (X m c) (NG m c) (W m c) (KG m c) 1 (i 0) (i 1) : FVec Ideal S16384x512 .f32) := by
  refine (dats m 0 c).arrAt_eq_of_covers 10 _ (by decide +kernel) fun t hf y => ?_
  blk_simp
  rw [after0_10]
  simp only [outsAt0]
  have ey : (y : (⟨2, ![512, 512]⟩ : Shape).Idx) = ix2 (y 0) (y 1) := eq_ix2 _
  have er : ((win0_10.blk t).view.emb y 0).val = 512 * t.val + (y 0).val := by
    blk_simp [index10]
    omega
  have eq : (y 1 : Fin 512) = (win0_10.blk t).view.emb y 1 := by
    refine Fin.ext ?_
    blk_simp [index10]
  refine (congrArg _ ey).trans ((out10 (row_blocks m c hg hw t (y 0) ((win0_10.blk t).view.emb y 0) er) c _ _ _ _ _ _ _ _ _ _ _ _ _ _ _ _ _ _ _ _ _ _ _ _ _ _ _ _ _ _ _ (y 1)).trans ?_)
  rw [← eq]
  exact branch m c 1 1536 rfl _ _

theorem index11 : ∀ t : Fin cfg0.N, win0_11.index t = ![t.val, 0] := (by decide +kernel : ∀ t : Fin grid0.N, win0_11.index t = ![t.val, 0])

theorem result11 (c : Dev nD) (hg : ∀ i, IsReal (NG m c i)) (hw : ∀ i, IsReal (W m c i)) :
    (dats m 0 c).arrAt 11 cfg0.N = (fun i => oddKV (X m c) (NG m c) (W m c) (KG m c) 2 (i 0) (i 1) : FVec Ideal S16384x512 .f32) := by
  refine (dats m 0 c).arrAt_eq_of_covers 11 _ (by decide +kernel) fun t hf y => ?_
  blk_simp
  rw [after0_11]
  simp only [outsAt0]
  have ey : (y : (⟨2, ![512, 512]⟩ : Shape).Idx) = ix2 (y 0) (y 1) := eq_ix2 _
  have er : ((win0_11.blk t).view.emb y 0).val = 512 * t.val + (y 0).val := by
    blk_simp [index11]
    omega
  have eq : (y 1 : Fin 512) = (win0_11.blk t).view.emb y 1 := by
    refine Fin.ext ?_
    blk_simp [index11]
  refine (congrArg _ ey).trans ((out11 (row_blocks m c hg hw t (y 0) ((win0_11.blk t).view.emb y 0) er) c _ _ _ _ _ _ _ _ _ _ _ _ _ _ _ _ _ _ _ _ _ _ _ _ _ _ _ _ _ _ _ (y 1)).trans ?_)
  rw [← eq]
  exact branch m c 2 2048 rfl _ _

theorem index12 : ∀ t : Fin cfg0.N, win0_12.index t = ![t.val, 0] := (by decide +kernel : ∀ t : Fin grid0.N, win0_12.index t = ![t.val, 0])

theorem result12 (c : Dev nD) (hg : ∀ i, IsReal (NG m c i)) (hw : ∀ i, IsReal (W m c i)) :
    (dats m 0 c).arrAt 12 cfg0.N = (fun i => oddGate (X m c) (NG m c) (W m c) (i 0) (i 1) : FVec Ideal S16384x128 .f32) := by
  refine (dats m 0 c).arrAt_eq_of_covers 12 _ (by decide +kernel) fun t hf y => ?_
  blk_simp
  rw [after0_12]
  simp only [outsAt0]
  have ey : (y : (⟨2, ![512, 128]⟩ : Shape).Idx) = ix2 (y 0) (y 1) := eq_ix2 _
  have er : ((win0_12.blk t).view.emb y 0).val = 512 * t.val + (y 0).val := by
    blk_simp [index12]
    omega
  have eq : (y 1 : Fin 128) = (win0_12.blk t).view.emb y 1 := by
    refine Fin.ext ?_
    blk_simp [index12]
  refine (congrArg _ ey).trans ((out12 (row_blocks m c hg hw t (y 0) ((win0_12.blk t).view.emb y 0) er) c _ _ _ _ _ _ _ _ _ _ _ _ _ _ _ _ _ _ _ _ _ _ _ _ _ _ _ _ _ _ _ (y 1)).trans ?_)
  rw [← eq]
  exact gates m c _ _

theorem index13 : ∀ t : Fin cfg0.N, win0_13.index t = ![t.val, 0] := (by decide +kernel : ∀ t : Fin grid0.N, win0_13.index t = ![t.val, 0])

theorem result13 (c : Dev nD) (hg : ∀ i, IsReal (NG m c i)) (hw : ∀ i, IsReal (W m c i)) :
    (dats m 0 c).arrAt 13 cfg0.N = (fun i => oddKV (X m c) (NG m c) (W m c) (KG m c) 1 (i 0) (i 1) : FVec Ideal S16384x512 .bf16) := by
  refine (dats m 0 c).arrAt_eq_of_covers 13 _ (by decide +kernel) fun t hf y => ?_
  blk_simp
  rw [after0_13]
  simp only [outsAt0]
  have ey : (y : (⟨2, ![512, 512]⟩ : Shape).Idx) = ix2 (y 0) (y 1) := eq_ix2 _
  have er : ((win0_13.blk t).view.emb y 0).val = 512 * t.val + (y 0).val := by
    blk_simp [index13]
    omega
  have eq : (y 1 : Fin 512) = (win0_13.blk t).view.emb y 1 := by
    refine Fin.ext ?_
    blk_simp [index13]
  refine (congrArg _ ey).trans ((out13 (row_blocks m c hg hw t (y 0) ((win0_13.blk t).view.emb y 0) er) c _ _ _ _ _ _ _ _ _ _ _ _ _ _ _ _ _ _ _ _ _ _ _ _ _ _ _ _ _ _ _ (y 1)).trans ?_)
  rw [← eq]
  exact branch m c 1 1536 rfl _ _

theorem index14 : ∀ t : Fin cfg0.N, win0_14.index t = ![t.val, 0] := (by decide +kernel : ∀ t : Fin grid0.N, win0_14.index t = ![t.val, 0])

theorem result14 (c : Dev nD) (hg : ∀ i, IsReal (NG m c i)) (hw : ∀ i, IsReal (W m c i)) :
    (dats m 0 c).arrAt 14 cfg0.N = (fun i => oddKV (X m c) (NG m c) (W m c) (KG m c) 2 (i 0) (i 1) : FVec Ideal S16384x512 .bf16) := by
  refine (dats m 0 c).arrAt_eq_of_covers 14 _ (by decide +kernel) fun t hf y => ?_
  blk_simp
  rw [after0_14]
  simp only [outsAt0]
  have ey : (y : (⟨2, ![512, 512]⟩ : Shape).Idx) = ix2 (y 0) (y 1) := eq_ix2 _
  have er : ((win0_14.blk t).view.emb y 0).val = 512 * t.val + (y 0).val := by
    blk_simp [index14]
    omega
  have eq : (y 1 : Fin 512) = (win0_14.blk t).view.emb y 1 := by
    refine Fin.ext ?_
    blk_simp [index14]
  refine (congrArg _ ey).trans ((out14 (row_blocks m c hg hw t (y 0) ((win0_14.blk t).view.emb y 0) er) c _ _ _ _ _ _ _ _ _ _ _ _ _ _ _ _ _ _ _ _ _ _ _ _ _ _ _ _ _ _ _ (y 1)).trans ?_)
  rw [← eq]
  exact branch m c 2 2048 rfl _ _

end Cert.Kernel5Ideal.Odd
-- ==== Proof.OddRef.lean ====
/- The reference of the odd layer's projections, read at an index. -/
module

public import proofs.«01_k».proof.Proof.Gen.Reference5Ideal.Run
public import proofs.«01_k».proof.Proof.Heads

@[expose] public section

set_option maxRecDepth 16384

noncomputable section

namespace Cert.Reference5Ideal.Odd

open Cert.Reference5Ideal Cert.Reference5Ideal.Gen Cert.Heads
open Idealize.ShloMosaic Idealize.ShloMosaic.TcCoe

variable (x : FVec Ideal S16384x1024 .f32) (g : FVec Ideal S1024 .f32) (w : FVec Ideal S1024x2608 .f32) (qg : FVec Ideal S64 .f32) (kg : FVec Ideal S3x64 .f32)

/-! ## The normalized rows and the product -/

/-- Rows normalized. -/
abbrev normalized : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Normalized rows times the weights. -/
abbrev projected : FVec Ideal S16384x2608 .f32 := Host.dotGeneral dot_S16384x1024_S1024x2608_S16384x2608_1_0_0_1_n_n none (normalized x g) w

theorem normalized_apply (r : Fin 16384) (q : Fin 1024) : (normalized x g (ix2 r q) : EReal) = rowOf x g r q := by
  pointwise [normalized, rowOf, Dense.normed]

theorem projected_apply (r : Fin 16384) (n : Fin 2608) : (projected x g w (ix2 r n) : EReal) = column (rowOf x g r) w n := by
  have h (N : FVec Ideal S16384x1024 .f32) : (Host.dotGeneral dot_S16384x1024_S1024x2608_S16384x2608_1_0_0_1_n_n none N w (ix2 r n) : EReal)
      = ∑ d : Fin 1024, (N (ix2 r d) : EReal) * w (ix2 d n) := by
    pointwise []
  exact (h _).trans (Finset.sum_congr rfl fun d _ => congrArg (· * _) (normalized_apply x g r d))

/-! ## The angles -/

/-- The angles of the positions. -/
abbrev angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 (Host.powf (broadcastInDim S8 ![] bcast_S_S8 (constant S_ .f32 0x48F42400#32))
      (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

theorem angles_apply (s : Fin 2048) (i : Fin 8) : (angles (ix2 s i) : EReal) = angle s i := by
  pointwise [angles, angle]

/-! ## Sixteen heads -/

namespace Sixteen

variable (hg : FVec Ideal S64 .f32)

/-- Columns split into sequences, positions, heads and their entries. -/
abbrev split (Y : FVec Ideal S16384x1024 .f32) : FVec Ideal S8x2048x16x64 .f32 := shapeCast S8x2048x16x64 Y shapeCasts_S16384x1024_S8x2048x16x64

/-- Heads normalized. -/
abbrev units (A : FVec Ideal S8x2048x16x64 .f32) : FVec Ideal S8x2048x16x64 .f32 :=
  mulf (mulf A (broadcastInDim S8x2048x16x64 ![0, 1, 2, 3] bcast_S8x2048x16x1_S8x2048x16x64_0_1_2_3 (Host.rsqrt (addf
    (Host.divf (broadcastInDim S8x2048x16x1 ![0, 1, 2] bcast_S8x2048x16_S8x2048x16x1_0_1_2 (Host.reduceAdd (mulf A A) (constant S_ .f32 0x00000000#32) reducesTo_S8x2048x16x64_S8x2048x16_d3 h_S_))
      (broadcastInDim S8x2048x16x1 ![] bcast_S_S8x2048x16x1 (constant S_ .f32 0x42800000#32)))
    (broadcastInDim S8x2048x16x1 ![] bcast_S_S8x2048x16x1 (constant S_ .f32 0x358637BD#32))))))
    (broadcastInDim S8x2048x16x64 ![0, 1, 2, 3] bcast_S1x1x1x64_S8x2048x16x64_0_1_2_3 (broadcastInDim S1x1x1x64 ![3] bcast_S64_S1x1x1x64_3 hg))

/-- A table of the positions, for every sequence and head. -/
abbrev along (T : FVec Ideal S2048x8 .f32) : FVec Ideal S8x2048x16x8 .f32 :=
  broadcastInDim S8x2048x16x8 ![0, 1, 2, 3] bcast_S1x2048x1x8_S8x2048x16x8_0_1_2_3 (broadcastInDim S1x2048x1x8 ![1, 2, 3] bcast_S2048x1x8_S1x2048x1x8_1_2_3 (shapeCast S2048x1x8 T shapeCasts_S2048x8_S2048x1x8))

/-- The eight entries of each head that start at its first and at its ninth, and those that are not turned. -/
abbrev firsts (U : FVec Ideal S8x2048x16x64 .f32) : FVec Ideal S8x2048x16x8 .f32 := extractStridedSlice S8x2048x16x8 ![0, 0, 0, 0] U slices_S8x2048x16x64_S8x2048x16x8_0_0_0_0
abbrev seconds (U : FVec Ideal S8x2048x16x64 .f32) : FVec Ideal S8x2048x16x8 .f32 := extractStridedSlice S8x2048x16x8 ![0, 0, 0, 8] U slices_S8x2048x16x64_S8x2048x16x8_0_0_0_8
abbrev others (U : FVec Ideal S8x2048x16x64 .f32) : FVec Ideal S8x2048x16x48 .f32 := extractStridedSlice S8x2048x16x48 ![0, 0, 0, 16] U slices_S8x2048x16x64_S8x2048x16x48_0_0_0_16

/-- Heads turned. -/
abbrev turns (U : FVec Ideal S8x2048x16x64 .f32) (C S : FVec Ideal S8x2048x16x8 .f32) : FVec Ideal S8x2048x16x64 .f32 :=
  concatenate S8x2048x16x64 3 [⟨S8x2048x16x8, (subf (mulf (firsts U) C) (mulf (seconds U) S) : FVec Ideal S8x2048x16x8 .f32)⟩,
    ⟨S8x2048x16x8, (addf (mulf (seconds U) C) (mulf (firsts U) S) : FVec Ideal S8x2048x16x8 .f32)⟩,
    ⟨S8x2048x16x48, (others U : FVec Ideal S8x2048x16x48 .f32)⟩] concatenates_S8x2048x16x8_S8x2048x16x8_S8x2048x16x48_S8x2048x16x64_d3

/-- Columns of heads, normalized and turned. -/
abbrev headed (Y : FVec Ideal S16384x1024 .f32) : FVec Ideal S16384x1024 .f32 :=
  shapeCast S16384x1024 (turns (units hg (split Y)) (along (Host.cos angles)) (along (Host.sin angles))) shapeCasts_S8x2048x16x64_S16384x1024

theorem units_apply (A : FVec Ideal S8x2048x16x64 .f32) (b : Fin 8) (s : Fin 2048) (h : Fin 16) (k : Fin 64) :
    (units hg A (ix4 b s h k) : EReal) = unit (fun k => hg (ix1 k)) (fun k => A (ix4 b s h k)) k := by
  pointwise [units, unit]

theorem along_apply (T : FVec Ideal S2048x8 .f32) (b : Fin 8) (s : Fin 2048) (h : Fin 16) (i : Fin 8) : (along T (ix4 b s h i) : EReal) = T (ix2 s i) := by
  pointwise [along]

theorem split_apply (Y : FVec Ideal S16384x1024 .f32) (b : Fin 8) (s : Fin 2048) (h : Fin 16) (k : Fin 64) :
    (split Y (ix4 b s h k) : EReal) = Y (ix2 ⟨2048 * b.val + s.val, by omega⟩ ⟨64 * h.val + k.val, by omega⟩) := by
  pointwise [split]
  exact congrArg Y (congrArg₂ ix2 (Fin.ext (by show b.val * 2048 + s.val = 2048 * b.val + s.val; omega)) (Fin.ext (by show h.val * 64 + k.val = 64 * h.val + k.val; omega)))

theorem merged_apply (T : FVec Ideal S8x2048x16x64 .f32) (r : Fin 16384) (q : Fin 1024) :
    (shapeCast S16384x1024 T shapeCasts_S8x2048x16x64_S16384x1024 (ix2 r q) : EReal)
      = T (ix4 ⟨r.val / 2048, by omega⟩ ⟨r.val % 2048, by omega⟩ ⟨q.val / 64, by omega⟩ ⟨q.val % 64, by omega⟩) := by
  pointwise []

theorem turns_apply (U : FVec Ideal S8x2048x16x64 .f32) (C S : FVec Ideal S8x2048x16x8 .f32) (b : Fin 8) (s : Fin 2048) (h : Fin 16) (k : Fin 64) :
    (turns U C S (ix4 b s h k) : EReal) = turned (fun i => C (ix4 b s h i)) (fun i => S (ix4 b s h i)) (fun k => U (ix4 b s h k)) k := by
  have at_lane (a : Nat) (ha : a < 64) (l : Fin 64) (e : a = l.val) : (U (ix4 b s h ⟨a, ha⟩) : EReal) = U (ix4 b s h l) := congrArg (fun l => (U (ix4 b s h l) : EReal)) (Fin.ext e)
  pointwise [turns, firsts, seconds, others, turned]
  refine dite_congr rfl (fun h1 => ?_) fun h1 => dite_congr (propext ⟨fun h2 => by omega, fun h2 => by omega⟩) (fun h2 => ?_) fun h2 => ?_
  · rw [at_lane (8 + k.val) _ ⟨k.val + 8, by omega⟩ (by show 8 + k.val = k.val + 8; omega)]
  · rw [at_lane (8 + (k.val - 8)) _ k (by omega)]
  · exact at_lane _ _ k (by omega)

/-- The heads of the columns from `o` on. -/
theorem headed_apply (o : Nat) (ho : o + 1024 ≤ 2608) (Y : FVec Ideal S16384x1024 .f32) (hY : ∀ (r : Fin 16384) (q : Fin 1024), (Y (ix2 r q) : EReal) = column (rowOf x g r) w ⟨o + q.val, by omega⟩)
    (r : Fin 16384) (q : Fin 1024) : (headed hg Y (ix2 r q) : EReal)
      = turned (cosOf r) (sinOf r) (unit (fun k => hg (ix1 k)) fun k => column (rowOf x g r) w ⟨o + (64 * (q.val / 64) + k.val), by omega⟩) ⟨q.val % 64, by omega⟩ := by
  refine (merged_apply _ r q).trans ((turns_apply _ _ _ _ _ _ _).trans ?_)
  have hc : (fun i : Fin 8 => (along (Host.cos angles) (ix4 ⟨r.val / 2048, by omega⟩ ⟨r.val % 2048, by omega⟩ (⟨q.val / 64, by omega⟩ : Fin 16) i) : EReal)) = cosOf r :=
    funext fun i => (along_apply _ _ _ _ i).trans (congrArg Ideal.cos (angles_apply _ i))
  have hs : (fun i : Fin 8 => (along (Host.sin angles) (ix4 ⟨r.val / 2048, by omega⟩ ⟨r.val % 2048, by omega⟩ (⟨q.val / 64, by omega⟩ : Fin 16) i) : EReal)) = sinOf r :=
    funext fun i => (along_apply _ _ _ _ i).trans (congrArg Ideal.sin (angles_apply _ i))
  have hu : (fun k : Fin 64 => (units hg (split Y) (ix4 ⟨r.val / 2048, by omega⟩ ⟨r.val % 2048, by omega⟩ (⟨q.val / 64, by omega⟩ : Fin 16) k) : EReal))
      = unit (fun k => hg (ix1 k)) fun k => column (rowOf x g r) w ⟨o + (64 * (q.val / 64) + k.val), by omega⟩ := by
    refine funext fun k => (units_apply hg _ _ _ _ k).trans (congrArg (fun v => unit (fun k => hg (ix1 k)) v k) (funext fun k => ?_))
    refine (split_apply Y _ _ _ k).trans ((hY _ _).trans ?_)
    have hr : (⟨2048 * (r.val / 2048) + r.val % 2048, by omega⟩ : Fin 16384) = r := Fin.ext (by show 2048 * (r.val / 2048) + r.val % 2048 = r.val; omega)
    exact congrArg (fun r => column (rowOf x g r) w ⟨o + (64 * (q.val / 64) + k.val), by omega⟩) hr
  rw [hc, hs, hu]

end Sixteen

/-! ## Four heads -/

namespace Four

variable (hg : FVec Ideal S64 .f32)

/-- Columns split into sequences, positions, heads and their entries. -/
abbrev split (Y : FVec Ideal S16384x256 .f32) : FVec Ideal S8x2048x4x64 .f32 := shapeCast S8x2048x4x64 Y shapeCasts_S16384x256_S8x2048x4x64

/-- Heads normalized. -/
abbrev units (A : FVec Ideal S8x2048x4x64 .f32) : FVec Ideal S8x2048x4x64 .f32 :=
  mulf (mulf A (broadcastInDim S8x2048x4x64 ![0, 1, 2, 3] bcast_S8x2048x4x1_S8x2048x4x64_0_1_2_3 (Host.rsqrt (addf
    (Host.divf (broadcastInDim S8x2048x4x1 ![0, 1, 2] bcast_S8x2048x4_S8x2048x4x1_0_1_2 (Host.reduceAdd (mulf A A) (constant S_ .f32 0x00000000#32) reducesTo_S8x2048x4x64_S8x2048x4_d3 h_S_))
      (broadcastInDim S8x2048x4x1 ![] bcast_S_S8x2048x4x1 (constant S_ .f32 0x42800000#32)))
    (broadcastInDim S8x2048x4x1 ![] bcast_S_S8x2048x4x1 (constant S_ .f32 0x358637BD#32))))))
    (broadcastInDim S8x2048x4x64 ![0, 1, 2, 3] bcast_S1x1x1x64_S8x2048x4x64_0_1_2_3 (broadcastInDim S1x1x1x64 ![3] bcast_S64_S1x1x1x64_3 hg))

/-- A table of the positions, for every sequence and head. -/
abbrev along (T : FVec Ideal S2048x8 .f32) : FVec Ideal S8x2048x4x8 .f32 :=
  broadcastInDim S8x2048x4x8 ![0, 1, 2, 3] bcast_S1x2048x1x8_S8x2048x4x8_0_1_2_3 (broadcastInDim S1x2048x1x8 ![1, 2, 3] bcast_S2048x1x8_S1x2048x1x8_1_2_3 (shapeCast S2048x1x8 T shapeCasts_S2048x8_S2048x1x8))

/-- The eight entries of each head that start at its first and at its ninth, and those that are not turned. -/
abbrev firsts (U : FVec Ideal S8x2048x4x64 .f32) : FVec Ideal S8x2048x4x8 .f32 := extractStridedSlice S8x2048x4x8 ![0, 0, 0, 0] U slices_S8x2048x4x64_S8x2048x4x8_0_0_0_0
abbrev seconds (U : FVec Ideal S8x2048x4x64 .f32) : FVec Ideal S8x2048x4x8 .f32 := extractStridedSlice S8x2048x4x8 ![0, 0, 0, 8] U slices_S8x2048x4x64_S8x2048x4x8_0_0_0_8
abbrev others (U : FVec Ideal S8x2048x4x64 .f32) : FVec Ideal S8x2048x4x48 .f32 := extractStridedSlice S8x2048x4x48 ![0, 0, 0, 16] U slices_S8x2048x4x64_S8x2048x4x48_0_0_0_16

/-- Heads turned. -/
abbrev turns (U : FVec Ideal S8x2048x4x64 .f32) (C S : FVec Ideal S8x2048x4x8 .f32) : FVec Ideal S8x2048x4x64 .f32 :=
  concatenate S8x2048x4x64 3 [⟨S8x2048x4x8, (subf (mulf (firsts U) C) (mulf (seconds U) S) : FVec Ideal S8x2048x4x8 .f32)⟩,
    ⟨S8x2048x4x8, (addf (mulf (seconds U) C) (mulf (firsts U) S) : FVec Ideal S8x2048x4x8 .f32)⟩,
    ⟨S8x2048x4x48, (others U : FVec Ideal S8x2048x4x48 .f32)⟩] concatenates_S8x2048x4x8_S8x2048x4x8_S8x2048x4x48_S8x2048x4x64_d3

/-- Columns of heads, normalized and turned. -/
abbrev headed (Y : FVec Ideal S16384x256 .f32) : FVec Ideal S16384x256 .f32 :=
  shapeCast S16384x256 (turns (units hg (split Y)) (along (Host.cos angles)) (along (Host.sin angles))) shapeCasts_S8x2048x4x64_S16384x256

theorem units_apply (A : FVec Ideal S8x2048x4x64 .f32) (b : Fin 8) (s : Fin 2048) (h : Fin 4) (k : Fin 64) :
    (units hg A (ix4 b s h k) : EReal) = unit (fun k => hg (ix1 k)) (fun k => A (ix4 b s h k)) k := by
  pointwise [units, unit]

theorem along_apply (T : FVec Ideal S2048x8 .f32) (b : Fin 8) (s : Fin 2048) (h : Fin 4) (i : Fin 8) : (along T (ix4 b s h i) : EReal) = T (ix2 s i) := by
  pointwise [along]

theorem split_apply (Y : FVec Ideal S16384x256 .f32) (b : Fin 8) (s : Fin 2048) (h : Fin 4) (k : Fin 64) :
    (split Y (ix4 b s h k) : EReal) = Y (ix2 ⟨2048 * b.val + s.val, by omega⟩ ⟨64 * h.val + k.val, by omega⟩) := by
  pointwise [split]
  exact congrArg Y (congrArg₂ ix2 (Fin.ext (by show b.val * 2048 + s.val = 2048 * b.val + s.val; omega)) (Fin.ext (by show h.val * 64 + k.val = 64 * h.val + k.val; omega)))

theorem merged_apply (T : FVec Ideal S8x2048x4x64 .f32) (r : Fin 16384) (q : Fin 256) :
    (shapeCast S16384x256 T shapeCasts_S8x2048x4x64_S16384x256 (ix2 r q) : EReal)
      = T (ix4 ⟨r.val / 2048, by omega⟩ ⟨r.val % 2048, by omega⟩ ⟨q.val / 64, by omega⟩ ⟨q.val % 64, by omega⟩) := by
  pointwise []

theorem turns_apply (U : FVec Ideal S8x2048x4x64 .f32) (C S : FVec Ideal S8x2048x4x8 .f32) (b : Fin 8) (s : Fin 2048) (h : Fin 4) (k : Fin 64) :
    (turns U C S (ix4 b s h k) : EReal) = turned (fun i => C (ix4 b s h i)) (fun i => S (ix4 b s h i)) (fun k => U (ix4 b s h k)) k := by
  have at_lane (a : Nat) (ha : a < 64) (l : Fin 64) (e : a = l.val) : (U (ix4 b s h ⟨a, ha⟩) : EReal) = U (ix4 b s h l) := congrArg (fun l => (U (ix4 b s h l) : EReal)) (Fin.ext e)
  pointwise [turns, firsts, seconds, others, turned]
  refine dite_congr rfl (fun h1 => ?_) fun h1 => dite_congr (propext ⟨fun h2 => by omega, fun h2 => by omega⟩) (fun h2 => ?_) fun h2 => ?_
  · rw [at_lane (8 + k.val) _ ⟨k.val + 8, by omega⟩ (by show 8 + k.val = k.val + 8; omega)]
  · rw [at_lane (8 + (k.val - 8)) _ k (by omega)]
  · exact at_lane _ _ k (by omega)

/-- The heads of the columns from `o` on. -/
theorem headed_apply (o : Nat) (ho : o + 256 ≤ 2608) (Y : FVec Ideal S16384x256 .f32) (hY : ∀ (r : Fin 16384) (q : Fin 256), (Y (ix2 r q) : EReal) = column (rowOf x g r) w ⟨o + q.val, by omega⟩)
    (r : Fin 16384) (q : Fin 256) : (headed hg Y (ix2 r q) : EReal)
      = turned (cosOf r) (sinOf r) (unit (fun k => hg (ix1 k)) fun k => column (rowOf x g r) w ⟨o + (64 * (q.val / 64) + k.val), by omega⟩) ⟨q.val % 64, by omega⟩ := by
  refine (merged_apply _ r q).trans ((turns_apply _ _ _ _ _ _ _).trans ?_)
  have hc : (fun i : Fin 8 => (along (Host.cos angles) (ix4 ⟨r.val / 2048, by omega⟩ ⟨r.val % 2048, by omega⟩ (⟨q.val / 64, by omega⟩ : Fin 4) i) : EReal)) = cosOf r :=
    funext fun i => (along_apply _ _ _ _ i).trans (congrArg Ideal.cos (angles_apply _ i))
  have hs : (fun i : Fin 8 => (along (Host.sin angles) (ix4 ⟨r.val / 2048, by omega⟩ ⟨r.val % 2048, by omega⟩ (⟨q.val / 64, by omega⟩ : Fin 4) i) : EReal)) = sinOf r :=
    funext fun i => (along_apply _ _ _ _ i).trans (congrArg Ideal.sin (angles_apply _ i))
  have hu : (fun k : Fin 64 => (units hg (split Y) (ix4 ⟨r.val / 2048, by omega⟩ ⟨r.val % 2048, by omega⟩ (⟨q.val / 64, by omega⟩ : Fin 4) k) : EReal))
      = unit (fun k => hg (ix1 k)) fun k => column (rowOf x g r) w ⟨o + (64 * (q.val / 64) + k.val), by omega⟩ := by
    refine funext fun k => (units_apply hg _ _ _ _ k).trans (congrArg (fun v => unit (fun k => hg (ix1 k)) v k) (funext fun k => ?_))
    refine (split_apply Y _ _ _ k).trans ((hY _ _).trans ?_)
    have hr : (⟨2048 * (r.val / 2048) + r.val % 2048, by omega⟩ : Fin 16384) = r := Fin.ext (by show 2048 * (r.val / 2048) + r.val % 2048 = r.val; omega)
    exact congrArg (fun r => column (rowOf x g r) w ⟨o + (64 * (q.val / 64) + k.val), by omega⟩) hr
  rw [hc, hs, hu]

end Four

/-! ## The results -/

/-- The scaled queries. -/
abbrev scaled (Y : FVec Ideal S16384x1024 .f32) : FVec Ideal S16384x1024 .f32 := mulf Y (broadcastInDim S16384x1024 ![] bcast_S_S16384x1024 (constant S_ .f32 0x3E000000#32))

/-- Keys and values side by side. -/
abbrev beside (A B : FVec Ideal S16384x256 .f32) : FVec Ideal S16384x512 .f32 :=
  concatenate S16384x512 1 [⟨S16384x256, (A : FVec Ideal S16384x256 .f32)⟩, ⟨S16384x256, (B : FVec Ideal S16384x256 .f32)⟩] concatenates_S16384x256_S16384x256_S16384x512_d1

/-- The three branches' gains. -/
abbrev gainsOf0 : FVec Ideal S64 .f32 := shapeCast S64 (extractStridedSlice S1x64 ![0, 0] kg slices_S3x64_S1x64_0_0) shapeCasts_S1x64_S64
abbrev gainsOf1 : FVec Ideal S64 .f32 := shapeCast S64 (extractStridedSlice S1x64 ![1, 0] kg slices_S3x64_S1x64_1_0) shapeCasts_S1x64_S64
abbrev gainsOf2 : FVec Ideal S64 .f32 := shapeCast S64 (extractStridedSlice S1x64 ![2, 0] kg slices_S3x64_S1x64_2_0) shapeCasts_S1x64_S64

/-- The gates: the last forty-eight columns and eighty of zeros, each value's logistic. -/
abbrev gated (P : FVec Ideal S16384x2608 .f32) : FVec Ideal S16384x128 .f32 :=
  Host.divf (broadcastInDim S16384x128 ![] bcast_S_S16384x128 (constant S_ .f32 0x3F800000#32)) (addf (broadcastInDim S16384x128 ![] bcast_S_S16384x128 (constant S_ .f32 0x3F800000#32))
    (Host.exp (Host.negf (pad S16384x128 ![0, 0] ![0, 80] ![0, 0] (extractStridedSlice S16384x48 ![0, 2560] P slices_S16384x2608_S16384x48_0_2560)
      (sitofp .f32 (constantI S_ 32 0#32)) pads_S16384x48_S16384x128_000_0800 h_S_))))

theorem scaled_apply (Y : FVec Ideal S16384x1024 .f32) (r : Fin 16384) (q : Fin 1024) : (scaled Y (ix2 r q) : EReal) = Y (ix2 r q) * eighth := by
  pointwise [scaled, eighth]

theorem beside_apply (A B : FVec Ideal S16384x256 .f32) (r : Fin 16384) (q : Fin 512) :
    (beside A B (ix2 r q) : EReal) = if h : q.val < 256 then A (ix2 r ⟨q.val, h⟩) else B (ix2 r ⟨q.val - 256, by omega⟩) := by
  pointwise [beside]

theorem gainsOf_apply (i : Nat) (hi : i < 3) (hs : S3x64.Slices ![i, 0] S1x64) (k : Fin 64) :
    (shapeCast S64 (extractStridedSlice S1x64 ![i, 0] kg hs) shapeCasts_S1x64_S64 (ix1 k) : EReal) = kg (ix2 ⟨i, hi⟩ k) := by
  pointwise []

theorem zero_word : (FloatOps.sitofp (F := Ideal) .f32 (0#32) : EReal) = 0 := by
  show (((0#32 : BitVec 32).toInt : ℝ) : EReal) = 0
  simp

theorem gated_apply (P : FVec Ideal S16384x2608 .f32) (r : Fin 16384) (l : Fin 128) :
    (gated P (ix2 r l) : EReal) = Ideal.logistic (if h : l.val < 48 then P (ix2 r ⟨2560 + l.val, by omega⟩) else 0) := by
  pointwise [gated]
  rw [zero_word]
  rfl

/-- A slice of 1024 columns of the product, from `o` on. -/
theorem columns_1024 (o : Nat) (ho : o + 1024 ≤ 2608) (hs : S16384x2608.Slices ![0, o] S16384x1024) (r : Fin 16384) (q : Fin 1024) :
    (extractStridedSlice S16384x1024 ![0, o] (projected x g w) hs (ix2 r q) : EReal) = column (rowOf x g r) w ⟨o + q.val, by omega⟩ := by
  have h (P : FVec Ideal S16384x2608 .f32) : (extractStridedSlice S16384x1024 ![0, o] P hs (ix2 r q) : EReal) = P (ix2 r ⟨o + q.val, by omega⟩) := by
    pointwise []
  exact (h _).trans (projected_apply x g w r _)

/-- A slice of 256 columns of the product, from `o` on. -/
theorem columns_256 (o : Nat) (ho : o + 256 ≤ 2608) (hs : S16384x2608.Slices ![0, o] S16384x256) (r : Fin 16384) (q : Fin 256) :
    (extractStridedSlice S16384x256 ![0, o] (projected x g w) hs (ix2 r q) : EReal) = column (rowOf x g r) w ⟨o + q.val, by omega⟩ := by
  have h (P : FVec Ideal S16384x2608 .f32) : (extractStridedSlice S16384x256 ![0, o] P hs (ix2 r q) : EReal) = P (ix2 r ⟨o + q.val, by omega⟩) := by
    pointwise []
  exact (h _).trans (projected_apply x g w r _)

theorem queries (r : Fin 16384) (q : Fin 1024) : (scaled (Sixteen.headed qg (extractStridedSlice S16384x1024 ![0, 0] (projected x g w) slices_S16384x2608_S16384x1024_0_0)) (ix2 r q) : EReal) = oddQ x g w qg r q := by
  refine (scaled_apply _ r q).trans (congrArg (· * eighth) ?_)
  refine (Sixteen.headed_apply x g w qg 0 (by omega) _ (fun r q => columns_1024 x g w 0 (by omega) _ r q) r q).trans ?_
  by_cases h : q.val < 512
  · rw [dif_pos h]
    rfl
  · rw [dif_neg h]
    unfold head
    have e2 : (⟨q.val % 64, by omega⟩ : Fin 64) = ⟨(q.val - 512) % 64, by omega⟩ := Fin.ext (by show q.val % 64 = (q.val - 512) % 64; omega)
    rw [e2]
    refine congrFun (congrArg (turned _ _) (congrArg (unit _) (funext fun k => congrArg (column _ w) (Fin.ext ?_)))) _
    show 0 + (64 * (q.val / 64) + k.val) = 512 + (64 * ((q.val - 512) / 64) + k.val)
    omega

/-- A branch's keys and values, with the gains it is handed. -/
theorem branch (i : Fin 3) (hg : FVec Ideal S64 .f32) (hk : ∀ k : Fin 64, (hg (ix1 k) : EReal) = kg (ix2 i k)) (K V : FVec Ideal S16384x256 .f32)
    (hK : ∀ (r : Fin 16384) (q : Fin 256), (K (ix2 r q) : EReal) = column (rowOf x g r) w ⟨1024 + 512 * i.val + q.val, by omega⟩)
    (hV : ∀ (r : Fin 16384) (q : Fin 256), (V (ix2 r q) : EReal) = column (rowOf x g r) w ⟨1280 + 512 * i.val + q.val, by omega⟩)
    (r : Fin 16384) (q : Fin 512) : (beside (Four.headed hg K) V (ix2 r q) : EReal) = oddKV x g w kg i r q := by
  refine (beside_apply _ _ r q).trans ?_
  unfold oddKV
  by_cases h : q.val < 256
  · rw [dif_pos h, if_pos h]
    refine (Four.headed_apply x g w hg (1024 + 512 * i.val) (by omega) K hK r _).trans ?_
    rw [show (fun k : Fin 64 => (hg (ix1 k) : EReal)) = fun k => kg (ix2 i k) from funext hk]
    rfl
  · rw [dif_neg h, if_neg h]
    refine (hV r _).trans (congrArg (column (rowOf x g r) w) (Fin.ext ?_))
    show 1280 + 512 * i.val + (q.val - 256) = 1024 + 512 * i.val + q.val
    omega

theorem gates (r : Fin 16384) (l : Fin 128) : (gated (projected x g w) (ix2 r l) : EReal) = oddGate x g w r l :=
  (gated_apply _ r l).trans (congrArg Ideal.logistic (dite_congr rfl (fun _ => projected_apply x g w r _) fun _ => rfl))

theorem branch0 (r : Fin 16384) (q : Fin 512) : ((beside (Four.headed (gainsOf0 kg) (extractStridedSlice S16384x256 ![0, 1024] (projected x g w) slices_S16384x2608_S16384x256_0_1024)) (extractStridedSlice S16384x256 ![0, 1280] (projected x g w) slices_S16384x2608_S16384x256_0_1280)) (ix2 r q) : EReal) = oddKV x g w kg 0 r q :=
  branch x g w kg 0 _ (fun k => gainsOf_apply kg 0 (by omega) _ k) _ _ (fun r q => columns_256 x g w 1024 (by omega) _ r q) (fun r q => columns_256 x g w 1280 (by omega) _ r q) r q

theorem branch1 (r : Fin 16384) (q : Fin 512) : ((beside (Four.headed (gainsOf1 kg) (extractStridedSlice S16384x256 ![0, 1536] (projected x g w) slices_S16384x2608_S16384x256_0_1536)) (extractStridedSlice S16384x256 ![0, 1792] (projected x g w) slices_S16384x2608_S16384x256_0_1792)) (ix2 r q) : EReal) = oddKV x g w kg 1 r q :=
  branch x g w kg 1 _ (fun k => gainsOf_apply kg 1 (by omega) _ k) _ _ (fun r q => columns_256 x g w 1536 (by omega) _ r q) (fun r q => columns_256 x g w 1792 (by omega) _ r q) r q

theorem branch2 (r : Fin 16384) (q : Fin 512) : ((beside (Four.headed (gainsOf2 kg) (extractStridedSlice S16384x256 ![0, 2048] (projected x g w) slices_S16384x2608_S16384x256_0_2048)) (extractStridedSlice S16384x256 ![0, 2304] (projected x g w) slices_S16384x2608_S16384x256_0_2304)) (ix2 r q) : EReal) = oddKV x g w kg 2 r q :=
  branch x g w kg 2 _ (fun k => gainsOf_apply kg 2 (by omega) _ k) _ _ (fun r q => columns_256 x g w 2048 (by omega) _ r q) (fun r q => columns_256 x g w 2304 (by omega) _ r q) r q

/-! ## The result arrays, of the arguments -/

theorem result0 : (truncf .bf16 (scaled (Sixteen.headed qg (extractStridedSlice S16384x1024 ![0, 0] (projected x g w) slices_S16384x2608_S16384x1024_0_0))) bitsLt_bf16_f32 : FVec Ideal S16384x1024 .bf16) = fun i => oddQ x g w qg (i 0) (i 1) := by
  funext i
  rw [eq_ix2 i]
  exact queries x g w qg (i 0) (i 1)

theorem result1 : (beside (Four.headed (gainsOf0 kg) (extractStridedSlice S16384x256 ![0, 1024] (projected x g w) slices_S16384x2608_S16384x256_0_1024)) (extractStridedSlice S16384x256 ![0, 1280] (projected x g w) slices_S16384x2608_S16384x256_0_1280) : FVec Ideal S16384x512 .f32) = fun i => oddKV x g w kg 0 (i 0) (i 1) := by
  funext i
  rw [eq_ix2 i]
  exact branch0 x g w kg (i 0) (i 1)

theorem result2 : (beside (Four.headed (gainsOf1 kg) (extractStridedSlice S16384x256 ![0, 1536] (projected x g w) slices_S16384x2608_S16384x256_0_1536)) (extractStridedSlice S16384x256 ![0, 1792] (projected x g w) slices_S16384x2608_S16384x256_0_1792) : FVec Ideal S16384x512 .f32) = fun i => oddKV x g w kg 1 (i 0) (i 1) := by
  funext i
  rw [eq_ix2 i]
  exact branch1 x g w kg (i 0) (i 1)

theorem result3 : (beside (Four.headed (gainsOf2 kg) (extractStridedSlice S16384x256 ![0, 2048] (projected x g w) slices_S16384x2608_S16384x256_0_2048)) (extractStridedSlice S16384x256 ![0, 2304] (projected x g w) slices_S16384x2608_S16384x256_0_2304) : FVec Ideal S16384x512 .f32) = fun i => oddKV x g w kg 2 (i 0) (i 1) := by
  funext i
  rw [eq_ix2 i]
  exact branch2 x g w kg (i 0) (i 1)

theorem result4 : (gated (projected x g w) : FVec Ideal S16384x128 .f32) = fun i => oddGate x g w (i 0) (i 1) := by
  funext i
  rw [eq_ix2 i]
  exact gates x g w (i 0) (i 1)

theorem result5 : (truncf .bf16 (beside (Four.headed (gainsOf1 kg) (extractStridedSlice S16384x256 ![0, 1536] (projected x g w) slices_S16384x2608_S16384x256_0_1536)) (extractStridedSlice S16384x256 ![0, 1792] (projected x g w) slices_S16384x2608_S16384x256_0_1792)) bitsLt_bf16_f32 : FVec Ideal S16384x512 .bf16) = fun i => oddKV x g w kg 1 (i 0) (i 1) := by
  funext i
  rw [eq_ix2 i]
  exact branch1 x g w kg (i 0) (i 1)

theorem result6 : (truncf .bf16 (beside (Four.headed (gainsOf2 kg) (extractStridedSlice S16384x256 ![0, 2048] (projected x g w) slices_S16384x2608_S16384x256_0_2048)) (extractStridedSlice S16384x256 ![0, 2304] (projected x g w) slices_S16384x2608_S16384x256_0_2304)) bitsLt_bf16_f32 : FVec Ideal S16384x512 .bf16) = fun i => oddKV x g w kg 2 (i 0) (i 1) := by
  funext i
  rw [eq_ix2 i]
  exact branch2 x g w kg (i 0) (i 1)

end Cert.Reference5Ideal.Odd

end
-- ==== Proof.Finite1.lean ====
/- The gains and the weights the precondition of the odd layer's projections admits. -/
module

public import proofs.«01_k».proof.Proof.Gen.Pre_finite1
public import Idealize.ShloMosaic.Lib.ReduceAll
public import proofs.«01_k».proof.Proof.Finite

@[expose] public section

noncomputable section

namespace Cert.Finite1

open Idealize.ShloMosaic Cert.Pre_finite1 Cert.Pre_finite1.Gen

/-- Under the precondition the gains of the rows and the weights are real numbers. -/
theorem reals (x : FVec Ideal S16384x1024 .f32) (g : FVec Ideal S1024 .f32) (w : FVec Ideal S1024x2608 .f32) (qg : FVec Ideal S64 .f32) (kg : FVec Ideal S3x64 .f32)
    (hp : fn x g w qg kg = fun _ => 1#1) : (∀ i, Heads.IsReal (g i)) ∧ ∀ i, Heads.IsReal (w i) := by
  have andi_one (a b : BitVec 1) : IntOp.andi a b = 1#1 ↔ a = 1#1 ∧ b = 1#1 := by revert a b; decide
  haveI : Subsingleton S_.Idx := ⟨fun a b => funext fun i => i.elim0⟩
  have e := congrFun hp (fun a => a.elim0)
  dsimp only [fn] at e
  simp only [andi, andi_one] at e
  refine ⟨fun i => Finite.isReal_of_abs _ ?_, fun i => Finite.isReal_of_abs _ ?_⟩
  · have hi := Host.reduce_andi_all _ _ _ _ _ e.1 i
    simp only [cmpf, broadcastInDim, constant] at hi
    exact hi
  · have hi := Host.reduce_andi_all _ _ _ _ _ e.2 i
    simp only [cmpf, broadcastInDim, constant] at hi
    exact hi

end Cert.Finite1

end
-- ==== Proof.SampleProjTile.lean ====
/- The even layer's projections on the sample's rows, all of them one tile: what the step leaves in the six results, read at an index. -/
module

public import proofs.«01_k».proof.Proof.HeadPoint
public import proofs.«01_k».proof.Proof.Gen.Kernel6Ideal.Value
public import Idealize.ShloMosaic.Lib.Pipeline.Value
public import Idealize.ShloMosaic.Lib.Pipeline.ValueKit
public import Idealize.ShloMosaic.Lib.Tactic

@[expose] public section

set_option maxRecDepth 16384

noncomputable section

namespace Cert.Kernel6Ideal.Proj

open Cert.Kernel6Ideal Cert.Kernel6Ideal.Gen Cert.Heads
open Cert.Kernel4Ideal.Proj (ones ones_apply)
open Idealize.ShloMosaic Idealize.ShloMosaic.TcCoe

theorem zero2 : (![0, 0] : Fin 2 → Nat) = fun _ => 0 := funext fun a => by fin_cases a <;> rfl

/-- A group's rows with each head over the root of its mean square, times the gains: the squares' sums are taken in two parts. -/
abbrev unitBlock (o : FVec Ideal S128x128 .bf16) (y : FVec Ideal S32x128 .f32) (g : FVec Ideal S1x128 .f32) : FVec Ideal S32x128 .f32 :=
  mulf (mulf y (rsqrt (addf (mulf (addf
      (matmul dot_S32x128_S128x128_S32x128_1_0_0_1_n_n none (truncf .bf16 (mulf y y) bitsLt_bf16_f32) o (constant S32x128 .f32 0x00000000#32))
      (matmul dot_S32x128_S128x128_S32x128_1_0_0_1_n_n none (truncf .bf16 (subf (mulf y y) (extf .f32 (truncf .bf16 (mulf y y) bitsLt_bf16_f32) bitsLt_bf16_f32)) bitsLt_bf16_f32) o (constant S32x128 .f32 0x00000000#32)))
      (broadcast S32x128 (Scalar.ofBits (F := Ideal) .f32 0x3C800000#32)))
      (broadcast S32x128 (Scalar.ofBits (F := Ideal) .f32 0x358637BD#32)))))
    (broadcastTo S32x128 g broadcasts_S1x128_S32x128)

/-- The rows turned: times the cosines, and the rows moved by eight lanes either way times the sines. -/
abbrev turnedBlock (c sa sb n : FVec Ideal S32x128 .f32) : FVec Ideal S32x128 .f32 :=
  addf (addf (mulf n c) (mulf (dynamicRotate 1 120#32 none n rotates_S32x128_d1) sa)) (mulf (dynamicRotate 1 8#32 none n rotates_S32x128_d1) sb)

theorem unitBlock_apply (y : FVec Ideal S32x128 .f32) (g : FVec Ideal S1x128 .f32) (v : Fin 128 → EReal) (gr : Fin 64 → EReal) (p : Fin 32) (l : Fin 128)
    (hy : ∀ l : Fin 128, (y (ix2 p l) : EReal) = v l) (hv : ∀ l, IsReal (v l)) (hg : ∀ l : Fin 128, (g (ix2 0 l) : EReal) = gr ⟨l.val % 64, by omega⟩) :
    (unitBlock ones y g (ix2 p l) : EReal) = unit gr (fun k => v ⟨64 * (l.val / 64) + k.val, by omega⟩) ⟨l.val % 64, by omega⟩ := by
  pointwise [unitBlock]
  simp only [hy, hg, ones_apply, ((hv _).mul (hv _)).sub_self, zero_mul, Finset.sum_const_zero, add_zero]
  rw [sum_group (fun x => v x * v x) l]
  unfold unit
  rw [div_64]
  have e : (⟨64 * (l.val / 64) + l.val % 64, by omega⟩ : Fin 128) = l := Fin.ext (by show 64 * (l.val / 64) + l.val % 64 = l.val; omega)
  dsimp only
  rw [e]

theorem turnedBlock_apply (c sa sb n : FVec Ideal S32x128 .f32) (cs sn : Fin 8 → EReal) (v : Fin 2 → Fin 64 → EReal) (p : Fin 32) (l : Fin 128)
    (hn : ∀ l : Fin 128, (n (ix2 p l) : EReal) = v ⟨l.val / 64, by omega⟩ ⟨l.val % 64, by omega⟩)
    (hc : ∀ l : Fin 128, (c (ix2 p l) : EReal) = if h : l.val % 64 < 8 then cs ⟨l.val % 64, h⟩ else if h : l.val % 64 < 16 then cs ⟨l.val % 64 - 8, by omega⟩ else 1)
    (hsa : ∀ l : Fin 128, (sa (ix2 p l) : EReal) = if h : l.val % 64 < 8 then -sn ⟨l.val % 64, h⟩ else 0)
    (hsb : ∀ l : Fin 128, (sb (ix2 p l) : EReal) = if l.val % 64 < 8 then 0 else if h : l.val % 64 < 16 then sn ⟨l.val % 64 - 8, by omega⟩ else 0) :
    (turnedBlock c sa sb n (ix2 p l) : EReal) = turned cs sn (v ⟨l.val / 64, by omega⟩) ⟨l.val % 64, by omega⟩ := by
  pointwise [turnedBlock]
  simp only [hn, hc, hsa, hsb]
  unfold turned
  have hl := l.isLt
  by_cases h1 : l.val % 64 < 8
  · have a1 : (⟨(l.val + 128 - 120) % 128 / 64, by omega⟩ : Fin 2) = ⟨l.val / 64, by omega⟩ := Fin.ext (by show (l.val + 128 - 120) % 128 / 64 = l.val / 64; omega)
    have a2 : (⟨(l.val + 128 - 120) % 128 % 64, by omega⟩ : Fin 64) = ⟨l.val % 64 + 8, by omega⟩ := Fin.ext (by show (l.val + 128 - 120) % 128 % 64 = l.val % 64 + 8; omega)
    rw [dif_pos h1, dif_pos h1, dif_pos h1, if_pos h1, a1, a2, mul_zero, add_zero, mul_neg, ← sub_eq_add_neg]
  · by_cases h2 : l.val % 64 < 16
    · have a1 : (⟨(l.val + 128 - 8) % 128 / 64, by omega⟩ : Fin 2) = ⟨l.val / 64, by omega⟩ := Fin.ext (by show (l.val + 128 - 8) % 128 / 64 = l.val / 64; omega)
      have a2 : (⟨(l.val + 128 - 8) % 128 % 64, by omega⟩ : Fin 64) = ⟨l.val % 64 - 8, by omega⟩ := Fin.ext (by show (l.val + 128 - 8) % 128 % 64 = l.val % 64 - 8; omega)
      rw [dif_neg h1, dif_neg h1, dif_neg h1, if_neg h1, dif_pos h2, dif_pos h2, dif_pos h2, a1, a2, mul_zero, add_zero]
    · rw [dif_neg h1, dif_neg h1, dif_neg h1, if_neg h1, dif_neg h2, dif_neg h2, dif_neg h2, mul_zero, mul_zero, mul_one, add_zero, add_zero]

section Tile

variable (x0 : Vec Ideal S32x1024 .f32) (x1 : Vec Ideal S1x1024 .f32) (x2 : Vec Ideal S1024x3072 .bf16) (x3 x4 : Vec Ideal S1x128 .f32) (x5 x6 x7 : Vec Ideal S32x128 .f32)
  (p : Fin 32) (hr : Fin 1024 → EReal) (w : S1024x3072.Idx → EReal) (qg kg : Fin 64 → EReal) (cs sn : Fin 8 → EReal)

/-- What the blocks hold for row `p` of the tile: the row normalized, the weights, the two gains once per head, and the
    three tables of the row's position. -/
structure Row : Prop where
  row : ∀ d : Fin 1024, ((k0_pay4 (F := Ideal) x0 x1) (ix2 p d) : EReal) = hr d
  weights : ∀ (d : Fin 1024) (n : Fin 3072), (x2 (ix2 d n) : EReal) = w (ix2 d n)
  row_real : ∀ d, IsReal (hr d)
  weights_real : ∀ i, IsReal (w i)
  q_gains : ∀ l : Fin 128, ((k0_pay13 (F := Ideal) x3) (ix2 0 l) : EReal) = qg ⟨l.val % 64, by omega⟩
  k_gains : ∀ l : Fin 128, ((k0_pay13 (F := Ideal) x4) (ix2 0 l) : EReal) = kg ⟨l.val % 64, by omega⟩
  cosines : ∀ l : Fin 128, ((k0_pay8 (F := Ideal) x5) (ix2 p l) : EReal) = if h : l.val % 64 < 8 then cs ⟨l.val % 64, h⟩ else if h : l.val % 64 < 16 then cs ⟨l.val % 64 - 8, by omega⟩ else 1
  sines_up : ∀ l : Fin 128, ((k0_pay9 (F := Ideal) x6) (ix2 p l) : EReal) = if h : l.val % 64 < 8 then -sn ⟨l.val % 64, h⟩ else 0
  sines_down : ∀ l : Fin 128, ((k0_pay10 (F := Ideal) x7) (ix2 p l) : EReal) = if l.val % 64 < 8 then 0 else if h : l.val % 64 < 16 then sn ⟨l.val % 64 - 8, by omega⟩ else 0

variable {x0 x1 x2 x3 x4 x5 x6 x7 p hr w qg kg cs sn} (R : Row x0 x1 x2 x3 x4 x5 x6 x7 p hr w qg kg cs sn)
include R

/-- A group of lanes of 512 columns' heads: with the gains it is handed, the heads' entries. -/
theorem group_head (b : Nat) (hb : b + 512 ≤ 3072) (j : Nat) (hj : j < 4) (y : FVec Ideal S32x128 .f32) (g : FVec Ideal S1x128 .f32) (gr : Fin 64 → EReal)
    (hy : ∀ l : Fin 128, (y (ix2 p l) : EReal) = column hr w ⟨b + (128 * j + l.val), by omega⟩)
    (hg : ∀ l : Fin 128, (g (ix2 0 l) : EReal) = gr ⟨l.val % 64, by omega⟩) (q : Fin 512) (l : Fin 128) (hq : q.val = 128 * j + l.val) :
    (turnedBlock (k0_pay8 (F := Ideal) x5) (k0_pay9 (F := Ideal) x6) (k0_pay10 (F := Ideal) x7) (unitBlock ones y g) (ix2 p l) : EReal) = head hr w b hb cs sn gr q := by
  refine (turnedBlock_apply _ _ _ _ cs sn (fun e => unit gr fun k => column hr w ⟨b + (128 * j + (64 * e.val + k.val)), by omega⟩) p l
    (fun l => (unitBlock_apply y g (fun l => column hr w ⟨b + (128 * j + l.val), by omega⟩) gr p l hy (fun _ => column_real hr w R.row_real R.weights_real _) hg).trans rfl)
    R.cosines R.sines_up R.sines_down).trans ?_
  unfold head
  have e1 : q.val / 64 = 2 * j + l.val / 64 := by omega
  have e2 : (⟨q.val % 64, by omega⟩ : Fin 64) = ⟨l.val % 64, by omega⟩ := Fin.ext (by show q.val % 64 = l.val % 64; omega)
  rw [e2]
  refine congrFun (congrArg (turned cs sn) (congrArg (unit gr) (funext fun k => congrArg (column hr w) (Fin.ext ?_)))) _
  show b + (128 * j + (64 * (l.val / 64) + k.val)) = b + (64 * (q.val / 64) + k.val)
  omega

theorem columns_512 (b : Nat) (hb : b + 512 ≤ 3072) (off : Fin 2 → Nat) (h0 : off 0 = 0) (h1 : off 1 = b) (inb) (n : Fin 512) :
    ((k0_pay11 (F := Ideal) (k0_pay4 x0 x1) (View.ld x2 (Rect.unit (s := S1024x3072) off ![1024, 512] inb))) (ix2 p n) : EReal) = column hr w ⟨b + n.val, by omega⟩ := by
  pointwise [k0_pay11, column]
  refine Finset.sum_congr rfl fun d _ => ?_
  rw [R.row d, ← R.weights d ⟨b + n.val, by omega⟩]
  exact congrArg (fun i => hr d * x2 i) (congrArg₂ ix2 (Fin.ext (by show off 0 + d.val = d.val; omega)) (Fin.ext (by show off 1 + n.val = b + n.val; omega)))

theorem columns_1024 (b : Nat) (hb : b + 1024 ≤ 3072) (off : Fin 2 → Nat) (h0 : off 0 = 0) (h1 : off 1 = b) (inb) (n : Fin 1024) :
    ((k0_pay3 (F := Ideal) (k0_pay4 x0 x1) (View.ld x2 (Rect.unit (s := S1024x3072) off ![1024, 1024] inb))) (ix2 p n) : EReal) = column hr w ⟨b + n.val, by omega⟩ := by
  pointwise [k0_pay3, k0_pay2, column]
  refine Finset.sum_congr rfl fun d _ => ?_
  rw [R.row d, ← R.weights d ⟨b + n.val, by omega⟩]
  exact congrArg (fun i => hr d * x2 i) (congrArg₂ ix2 (Fin.ext (by show off 0 + d.val = d.val; omega)) (Fin.ext (by show off 1 + n.val = b + n.val; omega)))

/-- The same of a slice of the product's columns, read at any index of the group. -/
theorem tile_head (b : Nat) (hb : b + 512 ≤ 3072) (j : Nat) (hj : j < 4) (Y : FVec Ideal S32x512 .f32) (g : FVec Ideal S1x128 .f32) (gr : Fin 64 → EReal)
    (hY : ∀ n : Fin 512, (Y (ix2 p n) : EReal) = column hr w ⟨b + n.val, by omega⟩)
    (hg : ∀ l : Fin 128, (g (ix2 0 l) : EReal) = gr ⟨l.val % 64, by omega⟩) (off : Fin 2 → Nat) (o0 : off 0 = 0) (o1 : off 1 = 128 * j) (sl) (q : Fin 512)
    (x : S32x128.Idx) (e0 : p.val = (x 0).val) (e1 : q.val = 128 * j + (x 1).val) :
    (turnedBlock (k0_pay8 (F := Ideal) x5) (k0_pay9 (F := Ideal) x6) (k0_pay10 (F := Ideal) x7) (unitBlock ones (extractStridedSlice S32x128 off Y sl) g) x : EReal) = head hr w b hb cs sn gr q := by
  have ex : x = ix2 p (x 1) := by
    refine (eq_ix2 x).trans (congrArg₂ ix2 (Fin.ext e0.symm) rfl)
  rw [ex]
  refine group_head R b hb j hj _ g gr (fun l => ?_) hg q (x 1) e1
  refine Eq.trans ?_ (hY ⟨128 * j + l.val, by omega⟩)
  pointwise
  exact congrArg Y (congrArg₂ ix2 (Fin.ext (by show off 0 + p.val = p.val; omega)) (Fin.ext (by show off 1 + l.val = 128 * j + l.val; omega)))

variable (c : Dev nD) (i : grid0.Coords) (a1 : Memref sig .tc .vmem S32x1024 .f32) (w1 : a1.IsWhole) (a2 : Memref sig .tc .vmem S1x1024 .f32) (w2 : a2.IsWhole) (a3 : Memref sig .tc .vmem S1024x3072 .bf16) (w3 : a3.IsWhole) (a4 : Memref sig .tc .vmem S1x128 .f32) (w4 : a4.IsWhole) (a5 : Memref sig .tc .vmem S1x128 .f32) (w5 : a5.IsWhole) (a6 : Memref sig .tc .vmem S32x128 .f32) (w6 : a6.IsWhole) (a7 : Memref sig .tc .vmem S32x128 .f32) (w7 : a7.IsWhole) (a8 : Memref sig .tc .vmem S32x128 .f32) (w8 : a8.IsWhole) (a9 : Memref sig .tc .vmem S32x512 .bf16) (w9 : a9.IsWhole) (a10 : Memref sig .tc .vmem S32x1024 .f32) (w10 : a10.IsWhole) (a11 : Memref sig .tc .vmem S32x512 .bf16) (w11 : a11.IsWhole) (a12 : Memref sig .tc .vmem S32x1024 .f32) (w12 : a12.IsWhole) (a13 : Memref sig .tc .vmem S32x1024 .bf16) (w13 : a13.IsWhole) (a14 : Memref sig .tc .vmem S32x1024 .bf16) (w14 : a14.IsWhole)

theorem out8 (q : Fin 512) : (out0_A_8 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = head hr w 0 (by omega) cs sn qg q * Ideal.ofBits .f32 0x3E000000#32 := by
  unfold out0_A_8
  rw [View.read_writes_eq_canon _ _ _ (cover0_A_8 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S32x1024) zero2, View.ld_unit_zero (S := S1x1024) zero2, View.ld_unit_zero (S := S1x128) zero2, View.ld_unit_zero (S := S32x128) zero2]
  canon_tiles x h
  · exact congrArg (· * Ideal.ofBits .f32 0x3E000000#32) (tile_head R 0 (by omega) 3 (by omega) _ (k0_pay13 x3) qg (fun n => columns_512 R 0 (by omega) _ rfl rfl _ n) R.q_gains ![0, 384] rfl rfl slices_S32x512_o0_384_S32x128 _ x h0 (by simpa using h1))
  · exact congrArg (· * Ideal.ofBits .f32 0x3E000000#32) (tile_head R 0 (by omega) 2 (by omega) _ (k0_pay13 x3) qg (fun n => columns_512 R 0 (by omega) _ rfl rfl _ n) R.q_gains ![0, 256] rfl rfl slices_S32x512_o0_256_S32x128 _ x h0 (by simpa using h1))
  · exact congrArg (· * Ideal.ofBits .f32 0x3E000000#32) (tile_head R 0 (by omega) 1 (by omega) _ (k0_pay13 x3) qg (fun n => columns_512 R 0 (by omega) _ rfl rfl _ n) R.q_gains ![0, 128] rfl rfl slices_S32x512_o0_128_S32x128 _ x h0 (by simpa using h1))
  · exact congrArg (· * Ideal.ofBits .f32 0x3E000000#32) (tile_head R 0 (by omega) 0 (by omega) _ (k0_pay13 x3) qg (fun n => columns_512 R 0 (by omega) _ rfl rfl _ n) R.q_gains ![0, 0] rfl rfl slices_S32x512_o0_0_S32x128 _ x h0 (by simpa using h1))

theorem out9 (q : Fin 1024) : (out0_A_9 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = if h : q.val < 512 then head hr w 512 (by omega) cs sn kg ⟨q.val, h⟩ else column hr w ⟨512 + q.val, by omega⟩ := by
  unfold out0_A_9
  rw [View.read_writes_eq_canon _ _ _ (cover0_A_9 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S32x1024) zero2, View.ld_unit_zero (S := S1x1024) zero2, View.ld_unit_zero (S := S1x128) zero2, View.ld_unit_zero (S := S32x128) zero2]
  canon_tiles x h using (View.cover_of_tiledBy _ ![32, 128] (by sl_kernel_rfl) _)
  · have hq : ¬ q.val < 512 := by have := h1; simp at this; omega
    have ex : x = ix2 p (x 1) := (eq_ix2 x).trans (congrArg₂ ix2 (Fin.ext h0.symm) rfl)
    rw [dif_neg hq, ex]
    refine (columns_512 R 1024 (by omega) ![0, 1024] rfl rfl inb_S1024x3072_S1024x512_0_1024 (x 1)).trans (congrArg (column hr w) (Fin.ext ?_))
    show 1024 + (x 1).val = 512 + q.val
    have := h1; simp at this; omega
  · have hq : q.val < 512 := by have := h1; simp at this; omega
    rw [dif_pos hq]
    exact (tile_head R 512 (by omega) 3 (by omega) _ (k0_pay13 x4) kg (fun n => columns_512 R 512 (by omega) _ rfl rfl _ n) R.k_gains ![0, 384] rfl rfl slices_S32x512_o0_384_S32x128 _ x h0 (by simpa using h1))
  · have hq : q.val < 512 := by have := h1; simp at this; omega
    rw [dif_pos hq]
    exact (tile_head R 512 (by omega) 2 (by omega) _ (k0_pay13 x4) kg (fun n => columns_512 R 512 (by omega) _ rfl rfl _ n) R.k_gains ![0, 256] rfl rfl slices_S32x512_o0_256_S32x128 _ x h0 (by simpa using h1))
  · have hq : q.val < 512 := by have := h1; simp at this; omega
    rw [dif_pos hq]
    exact (tile_head R 512 (by omega) 1 (by omega) _ (k0_pay13 x4) kg (fun n => columns_512 R 512 (by omega) _ rfl rfl _ n) R.k_gains ![0, 128] rfl rfl slices_S32x512_o0_128_S32x128 _ x h0 (by simpa using h1))
  · have hq : q.val < 512 := by have := h1; simp at this; omega
    rw [dif_pos hq]
    exact (tile_head R 512 (by omega) 0 (by omega) _ (k0_pay13 x4) kg (fun n => columns_512 R 512 (by omega) _ rfl rfl _ n) R.k_gains ![0, 0] rfl rfl slices_S32x512_o0_0_S32x128 _ x h0 (by simpa using h1))

theorem out10 (q : Fin 512) : (out0_A_10 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = column hr w ⟨1536 + q.val, by omega⟩ * Ideal.ofBits .f32 0x3E000000#32 := by
  unfold out0_A_10
  rw [View.read_writes_eq_canon _ _ _ (cover0_A_10 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S32x1024) zero2, View.ld_unit_zero (S := S1x1024) zero2, View.ld_unit_zero (S := S1x128) zero2, View.ld_unit_zero (S := S32x128) zero2]
  canon_tiles x h
  have ex : x = ix2 p (x 1) := (eq_ix2 x).trans (congrArg₂ ix2 (Fin.ext h0.symm) rfl)
  rw [ex]
  refine congrArg (· * Ideal.ofBits .f32 0x3E000000#32) ((columns_512 R 1536 (by omega) ![0, 1536] rfl rfl inb_S1024x3072_S1024x512_0_1536 (x 1)).trans (congrArg (column hr w) (Fin.ext ?_)))
  show 1536 + (x 1).val = 1536 + q.val
  have := h1; simp at this; omega

theorem out11 (q : Fin 1024) : (out0_A_11 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = column hr w ⟨2048 + q.val, by omega⟩ := by
  unfold out0_A_11
  rw [View.read_writes_eq_canon _ _ _ (cover0_A_11 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S32x1024) zero2, View.ld_unit_zero (S := S1x1024) zero2, View.ld_unit_zero (S := S1x128) zero2, View.ld_unit_zero (S := S32x128) zero2]
  canon_tiles x h
  have ex : x = ix2 p (x 1) := (eq_ix2 x).trans (congrArg₂ ix2 (Fin.ext h0.symm) rfl)
  rw [ex]
  refine (columns_1024 R 2048 (by omega) ![0, 2048] rfl rfl inb_S1024x3072_S1024x1024_0_2048 (x 1)).trans (congrArg (column hr w) (Fin.ext ?_))
  show 2048 + (x 1).val = 2048 + q.val
  have := h1; simp at this; omega

theorem out12 (q : Fin 1024) : (out0_A_12 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = if h : q.val < 512 then head hr w 512 (by omega) cs sn kg ⟨q.val, h⟩ else column hr w ⟨512 + q.val, by omega⟩ := by
  unfold out0_A_12
  rw [View.read_writes_eq_canon _ _ _ (cover0_A_12 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S32x1024) zero2, View.ld_unit_zero (S := S1x1024) zero2, View.ld_unit_zero (S := S1x128) zero2, View.ld_unit_zero (S := S32x128) zero2]
  canon_tiles x h using (View.cover_of_tiledBy _ ![32, 128] (by sl_kernel_rfl) _)
  · have hq : ¬ q.val < 512 := by have := h1; simp at this; omega
    have ex : x = ix2 p (x 1) := (eq_ix2 x).trans (congrArg₂ ix2 (Fin.ext h0.symm) rfl)
    rw [dif_neg hq, ex]
    refine (columns_512 R 1024 (by omega) ![0, 1024] rfl rfl inb_S1024x3072_S1024x512_0_1024 (x 1)).trans (congrArg (column hr w) (Fin.ext ?_))
    show 1024 + (x 1).val = 512 + q.val
    have := h1; simp at this; omega
  · have hq : q.val < 512 := by have := h1; simp at this; omega
    rw [dif_pos hq]
    exact (tile_head R 512 (by omega) 3 (by omega) _ (k0_pay13 x4) kg (fun n => columns_512 R 512 (by omega) _ rfl rfl _ n) R.k_gains ![0, 384] rfl rfl slices_S32x512_o0_384_S32x128 _ x h0 (by simpa using h1))
  · have hq : q.val < 512 := by have := h1; simp at this; omega
    rw [dif_pos hq]
    exact (tile_head R 512 (by omega) 2 (by omega) _ (k0_pay13 x4) kg (fun n => columns_512 R 512 (by omega) _ rfl rfl _ n) R.k_gains ![0, 256] rfl rfl slices_S32x512_o0_256_S32x128 _ x h0 (by simpa using h1))
  · have hq : q.val < 512 := by have := h1; simp at this; omega
    rw [dif_pos hq]
    exact (tile_head R 512 (by omega) 1 (by omega) _ (k0_pay13 x4) kg (fun n => columns_512 R 512 (by omega) _ rfl rfl _ n) R.k_gains ![0, 128] rfl rfl slices_S32x512_o0_128_S32x128 _ x h0 (by simpa using h1))
  · have hq : q.val < 512 := by have := h1; simp at this; omega
    rw [dif_pos hq]
    exact (tile_head R 512 (by omega) 0 (by omega) _ (k0_pay13 x4) kg (fun n => columns_512 R 512 (by omega) _ rfl rfl _ n) R.k_gains ![0, 0] rfl rfl slices_S32x512_o0_0_S32x128 _ x h0 (by simpa using h1))

theorem out13 (q : Fin 1024) : (out0_A_13 c i a1 w1 a2 w2 a3 w3 a4 w4 a5 w5 a6 w6 a7 w7 a8 w8 a9 w9 a10 w10 a11 w11 a12 w12 a13 w13 a14 w14 x0 x1 x2 x3 x4 x5 x6 x7 (ix2 p q) : EReal) = column hr w ⟨2048 + q.val, by omega⟩ := by
  unfold out0_A_13
  rw [View.read_writes_eq_canon _ _ _ (cover0_A_13 c i a1 w1 a2 w2 a3 w3 a4 w4 a5 w5 a6 w6 a7 w7 a8 w8 a9 w9 a10 w10 a11 w11 a12 w12 a13 w13 a14 w14 x0 x1 x2 x3 x4 x5 x6 x7)]
  unfold kernelRun0_A
  dsimp only
  sl_unfold_words
  simp only [View.readAt_eq_ld, w1.read_unread, w2.read_unread, w3.read_unread, w4.read_unread, w5.read_unread, w6.read_unread, w7.read_unread, w8.read_unread, View.ld_unit_zero (S := S32x1024) zero2, View.ld_unit_zero (S := S1x1024) zero2, View.ld_unit_zero (S := S1x128) zero2, View.ld_unit_zero (S := S32x128) zero2]
  canon_tiles x h
  have ex : x = ix2 p (x 1) := (eq_ix2 x).trans (congrArg₂ ix2 (Fin.ext h0.symm) rfl)
  rw [ex]
  refine (columns_1024 R 2048 (by omega) ![0, 2048] rfl rfl inb_S1024x3072_S1024x1024_0_2048 (x 1)).trans (congrArg (column hr w) (Fin.ext ?_))
  show 2048 + (x 1).val = 2048 + q.val
  have := h1; simp at this; omega

end Tile

end Cert.Kernel6Ideal.Proj
-- ==== Proof.SampleProjValue.lean ====
/- The even layer's projections on the sample's rows: what the host prepares and what the tiles leave in the results. -/
module

public import proofs.«01_k».proof.Proof.SampleProjTile
public import proofs.«01_k».proof.Proof.Gen.Kernel6Ideal.Value
public import Idealize.ShloMosaic.Lib.StableHlo.RunRead

@[expose] public section

set_option maxRecDepth 16384

noncomputable section

namespace Cert.Kernel6Ideal.Proj

open Cert.Kernel6Ideal Cert.Kernel6Ideal.Gen Cert.Heads
open Idealize.ShloMosaic Idealize.ShloMosaic.TcCoe

variable (m : (ℓ : Loc nD τ sig) → Buf (Elt Ideal) ℓ)

/-- Two copies of a table side by side. -/
theorem doubled (y : FVec Ideal S32x64 .f32) (s : Fin 32) (l : Fin 128) :
    (concatenate S32x128 1 [⟨S32x64, y⟩, ⟨S32x64, y⟩] concatenates_S32x64_S32x64_S32x128_d1 (ix2 s l) : EReal) = y (ix2 s ⟨l.val % 64, by omega⟩) := by
  pointwise []
  split
  · exact congrArg (fun k => y (ix2 s k)) (Fin.ext (by show l.val = l.val % 64; omega))
  · exact congrArg (fun k => y (ix2 s k)) (Fin.ext (by show l.val - 64 = l.val % 64; omega))

/-- A table of a head's lanes in three parts. -/
theorem joined (a b : FVec Ideal S32x8 .f32) (d : FVec Ideal S32x48 .f32) (s : Fin 32) (k : Fin 64) :
    (concatenate S32x64 1 [⟨S32x8, a⟩, ⟨S32x8, b⟩, ⟨S32x48, d⟩] concatenates_S32x8_S32x8_S32x48_S32x64_d1 (ix2 s k) : EReal)
      = if h : k.val < 8 then a (ix2 s ⟨k.val, h⟩) else if h : k.val < 16 then b (ix2 s ⟨k.val - 8, by omega⟩) else d (ix2 s ⟨k.val - 16, by omega⟩) := by
  pointwise []
  refine dite_congr rfl (fun h => rfl) fun h => ?_
  have e : (k.val - 8 < 8) = (k.val < 16) := propext (by omega)
  refine dite_congr e (fun _ => rfl) fun _ => ?_
  exact congrArg (fun k => d (ix2 s k)) (Fin.ext (by show k.val - 8 - 8 = k.val - 16; omega))

/-- The angles' array as the host computes it. -/
theorem angles_apply (V0 : Valuation τ sig (Elt Ideal)) (s : Fin 32) (i : Fin 8) :
    ((show FVec Ideal S32x8 .f32 from StableHlo.upto hostOps0 V0 19 (Proc.devRef .tc main_v14)) (ix2 s i) : EReal) = angle 8192 i := by
  show StableHlo.upto hostOps0 V0 19 (Proc.devRef .tc main_v14) (ix2 s i) = _
  after_reads_simp
  pointwise [angle]

theorem V_cosines (c : Dev nD) (s : Fin 32) (l : Fin 128) : ((show FVec Ideal S32x128 .f32 from V m c main_v24) (ix2 s l) : EReal)
    = if h : l.val % 64 < 8 then Ideal.cos (angle 8192 ⟨l.val % 64, h⟩) else if h : l.val % 64 < 16 then Ideal.cos (angle 8192 ⟨l.val % 64 - 8, by omega⟩) else 1 := by
  show StableHlo.after hostOps0 (fun b => m (c, b)) (Proc.devRef .tc main_v24) (ix2 s l) = _
  after_reads_simp
  refine (doubled _ s l).trans ?_
  after_reads_simp
  refine (joined _ _ _ s ⟨l.val % 64, by omega⟩).trans ?_
  refine dite_congr rfl (fun h => ?_) fun _ => dite_congr rfl (fun h => ?_) fun _ => ?_
  · refine (congrFun (StableHlo.unary_result _ _ _ _ _ _) _).trans ?_
    exact congrArg Ideal.cos (angles_apply (fun b => m (c, b)) s _)
  · refine (congrFun (StableHlo.unary_result _ _ _ _ _ _) _).trans ?_
    exact congrArg Ideal.cos (angles_apply (fun b => m (c, b)) s _)
  · refine (congrFun (StableHlo.unary_result _ _ _ _ _ _) _).trans ?_
    after_reads_simp
    pointwise []
theorem V_up (c : Dev nD) (s : Fin 32) (l : Fin 128) : ((show FVec Ideal S32x128 .f32 from V m c main_v25) (ix2 s l) : EReal)
    = if h : l.val % 64 < 8 then -Ideal.sin (angle 8192 ⟨l.val % 64, h⟩) else 0 := by
  show StableHlo.after hostOps0 (fun b => m (c, b)) (Proc.devRef .tc main_v25) (ix2 s l) = _
  after_reads_simp
  refine (doubled _ s l).trans ?_
  after_reads_simp
  refine (joined _ _ _ s ⟨l.val % 64, by omega⟩).trans ?_
  have hz (h : ¬ l.val % 64 < 8) : (0 : EReal) = if h : l.val % 64 < 16 then 0 else 0 := by split <;> rfl
  refine dite_congr rfl (fun h => ?_) fun h => (dite_congr rfl (fun h => ?_) fun _ => ?_).trans (hz h).symm
  · refine (congrFun (StableHlo.unary_result _ _ _ _ _ _) _).trans ?_
    after_reads_simp
    exact congrArg (fun v : EReal => -Ideal.sin v) (angles_apply (fun b => m (c, b)) s _)
  · refine (congrFun (StableHlo.unary_result _ _ _ _ _ _) _).trans ?_
    after_reads_simp
    pointwise []
  · refine (congrFun (StableHlo.unary_result _ _ _ _ _ _) _).trans ?_
    after_reads_simp
    pointwise []
theorem V_down (c : Dev nD) (s : Fin 32) (l : Fin 128) : ((show FVec Ideal S32x128 .f32 from V m c main_v26) (ix2 s l) : EReal)
    = if l.val % 64 < 8 then 0 else if h : l.val % 64 < 16 then Ideal.sin (angle 8192 ⟨l.val % 64 - 8, by omega⟩) else 0 := by
  show StableHlo.after hostOps0 (fun b => m (c, b)) (Proc.devRef .tc main_v26) (ix2 s l) = _
  after_reads_simp
  refine (doubled _ s l).trans ?_
  after_reads_simp
  refine (joined _ _ _ s ⟨l.val % 64, by omega⟩).trans ?_
  refine dite_congr rfl (fun h => ?_) fun _ => dite_congr rfl (fun h => ?_) fun _ => ?_
  · refine (congrFun (StableHlo.unary_result _ _ _ _ _ _) _).trans ?_
    after_reads_simp
    pointwise []
  · refine (congrFun (StableHlo.unary_result _ _ _ _ _ _) _).trans ?_
    after_reads_simp
    exact congrArg Ideal.sin (angles_apply (fun b => m (c, b)) s _)
  · refine (congrFun (StableHlo.unary_result _ _ _ _ _ _) _).trans ?_
    after_reads_simp
    pointwise []

/-! ## The windows' blocks -/

/-- The arguments as launched: rows, gains, weights, the queries' gains, the keys'. -/
abbrev X (c : Dev nD) : FVec Ideal S32x1024 .f32 := m ((c : Thread nD τ).loc main_arg0)
abbrev NG (c : Dev nD) : FVec Ideal S1024 .f32 := m ((c : Thread nD τ).loc main_arg1)
abbrev W (c : Dev nD) : FVec Ideal S1024x3072 .f32 := m ((c : Thread nD τ).loc main_arg2)
abbrev QG (c : Dev nD) : FVec Ideal S64 .f32 := m ((c : Thread nD τ).loc main_arg3)
abbrev KG (c : Dev nD) : FVec Ideal S64 .f32 := m ((c : Thread nD τ).loc main_arg4)

/-- Narrowing the weights changes nothing over the reals. -/
theorem V_weights (c : Dev nD) : (show FVec Ideal S1024x3072 .bf16 from V m c main_v28) = W m c := by
  show V m c main_v28 = _
  entry_read
  rfl

/-- The gains, as one row. -/
theorem V_gains (c : Dev nD) (d : Fin 1024) : (show FVec Ideal S1x1024 .f32 from V m c main_v27) (ix2 0 d) = NG m c (ix1 d) := by
  show V m c main_v27 (ix2 0 d) = _
  entry_read
  pointwise []

/-- The heads' gains, once per head of a group. -/
theorem V_q_gains (c : Dev nD) (l : Fin 128) : (show FVec Ideal S1x128 .f32 from V m c main_v32) (ix2 0 l) = QG m c (ix1 ⟨l.val % 64, by omega⟩) := by
  show V m c main_v32 (ix2 0 l) = _
  entry_read
  pointwise []

theorem V_k_gains (c : Dev nD) (l : Fin 128) : (show FVec Ideal S1x128 .f32 from V m c main_v36) (ix2 0 l) = KG m c (ix1 ⟨l.val % 64, by omega⟩) := by
  show V m c main_v36 (ix2 0 l) = _
  entry_read
  pointwise []

theorem x_index : ∀ t : Fin cfg0.N, win0_0.index t = ![t.val, 0] := (by decide +kernel : ∀ t : Fin grid0.N, win0_0.index t = ![t.val, 0])
theorem gains_index : ∀ t : Fin cfg0.N, win0_1.index t = ![0, 0] := (by decide +kernel : ∀ t : Fin grid0.N, win0_1.index t = ![0, 0])
theorem weights_index : ∀ t : Fin cfg0.N, win0_2.index t = ![0, 0] := (by decide +kernel : ∀ t : Fin grid0.N, win0_2.index t = ![0, 0])
theorem q_index : ∀ t : Fin cfg0.N, win0_3.index t = ![0, 0] := (by decide +kernel : ∀ t : Fin grid0.N, win0_3.index t = ![0, 0])
theorem k_index : ∀ t : Fin cfg0.N, win0_4.index t = ![0, 0] := (by decide +kernel : ∀ t : Fin grid0.N, win0_4.index t = ![0, 0])
theorem cos_index : ∀ t : Fin cfg0.N, win0_5.index t = ![0, 0] := (by decide +kernel : ∀ t : Fin grid0.N, win0_5.index t = ![0, 0])
theorem up_index : ∀ t : Fin cfg0.N, win0_6.index t = ![0, 0] := (by decide +kernel : ∀ t : Fin grid0.N, win0_6.index t = ![0, 0])
theorem down_index : ∀ t : Fin cfg0.N, win0_7.index t = ![0, 0] := (by decide +kernel : ∀ t : Fin grid0.N, win0_7.index t = ![0, 0])

/-- A tile's rows. -/
theorem x_block (c : Dev nD) (t : Fin cfg0.N) (p : Fin 32) (d : Fin 1024) (r : Fin 32) (hr : r.val = 32 * t.val + p.val) :
    (iblk m c 0 t : FVec Ideal S32x1024 .f32) (ix2 p d) = X m c (ix2 r d) := by
  rw [show X m c = V m c main_arg0 from (V_main_arg0 m c).symm]
  refine congrArg (V m c main_arg0) (funext fun a => Fin.ext ?_)
  refine (Pipeline.Window.rect_emb_val (cfg0.win 0) t (ix2 p d) a).trans ?_
  have e := x_index t
  match a with
  | ⟨0, _⟩ => show win0_0.index t 0 * 32 + p.val = r.val; rw [e]; show t.val * 32 + p.val = r.val; omega
  | ⟨1, _⟩ => show win0_0.index t 1 * 1024 + d.val = d.val; rw [e]; show 0 * 1024 + d.val = d.val; omega

/-- The gains', the weights' and the heads' gains' blocks are their arrays. -/
theorem gains_block (c : Dev nD) (t : Fin cfg0.N) (d : Fin 1024) : (iblk m c 1 t : FVec Ideal S1x1024 .f32) (ix2 0 d) = NG m c (ix1 d) := by
  rw [← V_gains m c d]
  refine congrArg (V m c main_v27) (funext fun a => Fin.ext ?_)
  refine (Pipeline.Window.rect_emb_val (cfg0.win 1) t (ix2 0 d) a).trans ?_
  have e := gains_index t
  match a with
  | ⟨0, _⟩ => show win0_1.index t 0 * 1 + 0 = 0; rw [e]; show 0 * 1 + 0 = 0; omega
  | ⟨1, _⟩ => show win0_1.index t 1 * 1024 + d.val = d.val; rw [e]; show 0 * 1024 + d.val = d.val; omega

theorem weights_block (c : Dev nD) (t : Fin cfg0.N) (d : Fin 1024) (n : Fin 3072) : (iblk m c 2 t : FVec Ideal S1024x3072 .bf16) (ix2 d n) = W m c (ix2 d n) := by
  rw [← V_weights m c]
  refine congrArg (V m c main_v28) (funext fun a => Fin.ext ?_)
  refine (Pipeline.Window.rect_emb_val (cfg0.win 2) t (ix2 d n) a).trans ?_
  have e := weights_index t
  match a with
  | ⟨0, _⟩ => show win0_2.index t 0 * 1024 + d.val = d.val; rw [e]; show 0 * 1024 + d.val = d.val; omega
  | ⟨1, _⟩ => show win0_2.index t 1 * 3072 + n.val = n.val; rw [e]; show 0 * 3072 + n.val = n.val; omega

theorem q_block (c : Dev nD) (t : Fin cfg0.N) (l : Fin 128) : (iblk m c 3 t : FVec Ideal S1x128 .f32) (ix2 0 l) = QG m c (ix1 ⟨l.val % 64, by omega⟩) := by
  rw [← V_q_gains m c l]
  refine congrArg (V m c main_v32) (funext fun a => Fin.ext ?_)
  refine (Pipeline.Window.rect_emb_val (cfg0.win 3) t (ix2 0 l) a).trans ?_
  have e := q_index t
  match a with
  | ⟨0, _⟩ => show win0_3.index t 0 * 1 + 0 = 0; rw [e]; show 0 * 1 + 0 = 0; omega
  | ⟨1, _⟩ => show win0_3.index t 1 * 128 + l.val = l.val; rw [e]; show 0 * 128 + l.val = l.val; omega

theorem k_block (c : Dev nD) (t : Fin cfg0.N) (l : Fin 128) : (iblk m c 4 t : FVec Ideal S1x128 .f32) (ix2 0 l) = KG m c (ix1 ⟨l.val % 64, by omega⟩) := by
  rw [← V_k_gains m c l]
  refine congrArg (V m c main_v36) (funext fun a => Fin.ext ?_)
  refine (Pipeline.Window.rect_emb_val (cfg0.win 4) t (ix2 0 l) a).trans ?_
  have e := k_index t
  match a with
  | ⟨0, _⟩ => show win0_4.index t 0 * 1 + 0 = 0; rw [e]; show 0 * 1 + 0 = 0; omega
  | ⟨1, _⟩ => show win0_4.index t 1 * 128 + l.val = l.val; rw [e]; show 0 * 128 + l.val = l.val; omega

/-- A tile's rows of the tables: the tables have as many rows as the tile. -/
theorem cos_block (c : Dev nD) (t : Fin cfg0.N) (p : Fin 32) (l : Fin 128) :
    (iblk m c 5 t : FVec Ideal S32x128 .f32) (ix2 p l) = (show FVec Ideal S32x128 .f32 from V m c main_v24) (ix2 p l) := by
  refine congrArg (V m c main_v24) (funext fun a => Fin.ext ?_)
  refine (Pipeline.Window.rect_emb_val (cfg0.win 5) t (ix2 p l) a).trans ?_
  have e := cos_index t
  match a with
  | ⟨0, _⟩ => show win0_5.index t 0 * 32 + p.val = p.val; rw [e]; show 0 * 32 + p.val = p.val; omega
  | ⟨1, _⟩ => show win0_5.index t 1 * 128 + l.val = l.val; rw [e]; show 0 * 128 + l.val = l.val; omega

theorem up_block (c : Dev nD) (t : Fin cfg0.N) (p : Fin 32) (l : Fin 128) :
    (iblk m c 6 t : FVec Ideal S32x128 .f32) (ix2 p l) = (show FVec Ideal S32x128 .f32 from V m c main_v25) (ix2 p l) := by
  refine congrArg (V m c main_v25) (funext fun a => Fin.ext ?_)
  refine (Pipeline.Window.rect_emb_val (cfg0.win 6) t (ix2 p l) a).trans ?_
  have e := up_index t
  match a with
  | ⟨0, _⟩ => show win0_6.index t 0 * 32 + p.val = p.val; rw [e]; show 0 * 32 + p.val = p.val; omega
  | ⟨1, _⟩ => show win0_6.index t 1 * 128 + l.val = l.val; rw [e]; show 0 * 128 + l.val = l.val; omega

theorem down_block (c : Dev nD) (t : Fin cfg0.N) (p : Fin 32) (l : Fin 128) :
    (iblk m c 7 t : FVec Ideal S32x128 .f32) (ix2 p l) = (show FVec Ideal S32x128 .f32 from V m c main_v26) (ix2 p l) := by
  refine congrArg (V m c main_v26) (funext fun a => Fin.ext ?_)
  refine (Pipeline.Window.rect_emb_val (cfg0.win 7) t (ix2 p l) a).trans ?_
  have e := down_index t
  match a with
  | ⟨0, _⟩ => show win0_7.index t 0 * 32 + p.val = p.val; rw [e]; show 0 * 32 + p.val = p.val; omega
  | ⟨1, _⟩ => show win0_7.index t 1 * 128 + l.val = l.val; rw [e]; show 0 * 128 + l.val = l.val; omega

/-- What a point's blocks hold for a row of its tile. -/
theorem row_blocks (c : Dev nD) (hg : ∀ i, IsReal (NG m c i)) (hw : ∀ i, IsReal (W m c i)) (t : Fin cfg0.N) (p : Fin 32) (r : Fin 32) (hr : r.val = 32 * t.val + p.val) :
    Row (iblk m c 0 t) (iblk m c 1 t) (iblk m c 2 t) (iblk m c 3 t) (iblk m c 4 t) (iblk m c 5 t) (iblk m c 6 t) (iblk m c 7 t) p (rowOf (X m c) (NG m c) r) (W m c)
      (fun k => QG m c (ix1 k)) (fun k => KG m c (ix1 k)) (cosAt 8192) (sinAt 8192) where
  row d := by
    pointwise [k0_pay4]
    simp only [x_block m c t p _ r hr, gains_block m c t]
    rfl
  weights d n := weights_block m c t d n
  row_real := normed_real _ _ fun _ => hg _
  weights_real := hw
  q_gains l := by
    pointwise [k0_pay13]
    exact q_block m c t l
  k_gains l := by
    pointwise [k0_pay13]
    exact k_block m c t l
  cosines l := by
    pointwise [k0_pay8]
    exact (cos_block m c t p l).trans (V_cosines m c _ l)
  sines_up l := by
    pointwise [k0_pay9]
    exact (up_block m c t p l).trans (V_up m c _ l)
  sines_down l := by
    pointwise [k0_pay10]
    exact (down_block m c t p l).trans (V_down m c _ l)

/-! ## The results -/

theorem index8 : ∀ t : Fin cfg0.N, win0_8.index t = ![t.val, 0] := (by decide +kernel : ∀ t : Fin grid0.N, win0_8.index t = ![t.val, 0])

theorem result8 (c : Dev nD) (hg : ∀ i, IsReal (NG m c i)) (hw : ∀ i, IsReal (W m c i)) :
    (dats m 0 c).arrAt 8 cfg0.N = (fun i => denseQAt (X m c) (NG m c) (W m c) (QG m c) 8192 (i 0) (i 1) : FVec Ideal S32x512 .bf16) := by
  refine (dats m 0 c).arrAt_eq_of_covers 8 _ (by decide +kernel) fun t hf y => ?_
  blk_simp
  rw [after0_8]
  simp only [outsAt0]
  have ey : (y : (⟨2, ![32, 512]⟩ : Shape).Idx) = ix2 (y 0) (y 1) := eq_ix2 _
  have er : ((win0_8.blk t).view.emb y 0).val = 32 * t.val + (y 0).val := by
    blk_simp [index8]
    omega
  have eq : (y 1 : Fin 512) = (win0_8.blk t).view.emb y 1 := by
    refine Fin.ext ?_
    blk_simp [index8]
  refine (congrArg _ ey).trans ((out8 (row_blocks m c hg hw t (y 0) ((win0_8.blk t).view.emb y 0) er) c _ _ _ _ _ _ _ _ _ _ _ _ _ _ _ _ _ _ _ _ _ _ _ _ _ _ _ _ _ (y 1)).trans ?_)
  rw [← eq]
  rfl

theorem index9 : ∀ t : Fin cfg0.N, win0_9.index t = ![t.val, 0] := (by decide +kernel : ∀ t : Fin grid0.N, win0_9.index t = ![t.val, 0])

theorem result9 (c : Dev nD) (hg : ∀ i, IsReal (NG m c i)) (hw : ∀ i, IsReal (W m c i)) :
    (dats m 0 c).arrAt 9 cfg0.N = (fun i => denseKVAt (X m c) (NG m c) (W m c) (KG m c) 8192 (i 0) (i 1) : FVec Ideal S32x1024 .f32) := by
  refine (dats m 0 c).arrAt_eq_of_covers 9 _ (by decide +kernel) fun t hf y => ?_
  blk_simp
  rw [after0_9]
  simp only [outsAt0]
  have ey : (y : (⟨2, ![32, 1024]⟩ : Shape).Idx) = ix2 (y 0) (y 1) := eq_ix2 _
  have er : ((win0_9.blk t).view.emb y 0).val = 32 * t.val + (y 0).val := by
    blk_simp [index9]
    omega
  have eq : (y 1 : Fin 1024) = (win0_9.blk t).view.emb y 1 := by
    refine Fin.ext ?_
    blk_simp [index9]
  refine (congrArg _ ey).trans ((out9 (row_blocks m c hg hw t (y 0) ((win0_9.blk t).view.emb y 0) er) c _ _ _ _ _ _ _ _ _ _ _ _ _ _ _ _ _ _ _ _ _ _ _ _ _ _ _ _ _ (y 1)).trans ?_)
  rw [← eq]
  rfl

theorem index10 : ∀ t : Fin cfg0.N, win0_10.index t = ![t.val, 0] := (by decide +kernel : ∀ t : Fin grid0.N, win0_10.index t = ![t.val, 0])

theorem result10 (c : Dev nD) (hg : ∀ i, IsReal (NG m c i)) (hw : ∀ i, IsReal (W m c i)) :
    (dats m 0 c).arrAt 10 cfg0.N = (fun i => sparseQ (X m c) (NG m c) (W m c) (i 0) (i 1) : FVec Ideal S32x512 .bf16) := by
  refine (dats m 0 c).arrAt_eq_of_covers 10 _ (by decide +kernel) fun t hf y => ?_
  blk_simp
  rw [after0_10]
  simp only [outsAt0]
  have ey : (y : (⟨2, ![32, 512]⟩ : Shape).Idx) = ix2 (y 0) (y 1) := eq_ix2 _
  have er : ((win0_10.blk t).view.emb y 0).val = 32 * t.val + (y 0).val := by
    blk_simp [index10]
    omega
  have eq : (y 1 : Fin 512) = (win0_10.blk t).view.emb y 1 := by
    refine Fin.ext ?_
    blk_simp [index10]
  refine (congrArg _ ey).trans ((out10 (row_blocks m c hg hw t (y 0) ((win0_10.blk t).view.emb y 0) er) c _ _ _ _ _ _ _ _ _ _ _ _ _ _ _ _ _ _ _ _ _ _ _ _ _ _ _ _ _ (y 1)).trans ?_)
  rw [← eq]
  rfl

theorem index11 : ∀ t : Fin cfg0.N, win0_11.index t = ![t.val, 0] := (by decide +kernel : ∀ t : Fin grid0.N, win0_11.index t = ![t.val, 0])

theorem result11 (c : Dev nD) (hg : ∀ i, IsReal (NG m c i)) (hw : ∀ i, IsReal (W m c i)) :
    (dats m 0 c).arrAt 11 cfg0.N = (fun i => sparseKV (X m c) (NG m c) (W m c) (i 0) (i 1) : FVec Ideal S32x1024 .f32) := by
  refine (dats m 0 c).arrAt_eq_of_covers 11 _ (by decide +kernel) fun t hf y => ?_
  blk_simp
  rw [after0_11]
  simp only [outsAt0]
  have ey : (y : (⟨2, ![32, 1024]⟩ : Shape).Idx) = ix2 (y 0) (y 1) := eq_ix2 _
  have er : ((win0_11.blk t).view.emb y 0).val = 32 * t.val + (y 0).val := by
    blk_simp [index11]
    omega
  have eq : (y 1 : Fin 1024) = (win0_11.blk t).view.emb y 1 := by
    refine Fin.ext ?_
    blk_simp [index11]
  refine (congrArg _ ey).trans ((out11 (row_blocks m c hg hw t (y 0) ((win0_11.blk t).view.emb y 0) er) c _ _ _ _ _ _ _ _ _ _ _ _ _ _ _ _ _ _ _ _ _ _ _ _ _ _ _ _ _ (y 1)).trans ?_)
  rw [← eq]
  rfl

theorem index12 : ∀ t : Fin cfg0.N, win0_12.index t = ![t.val, 0] := (by decide +kernel : ∀ t : Fin grid0.N, win0_12.index t = ![t.val, 0])

theorem result12 (c : Dev nD) (hg : ∀ i, IsReal (NG m c i)) (hw : ∀ i, IsReal (W m c i)) :
    (dats m 0 c).arrAt 12 cfg0.N = (fun i => denseKVAt (X m c) (NG m c) (W m c) (KG m c) 8192 (i 0) (i 1) : FVec Ideal S32x1024 .bf16) := by
  refine (dats m 0 c).arrAt_eq_of_covers 12 _ (by decide +kernel) fun t hf y => ?_
  blk_simp
  rw [after0_12]
  simp only [outsAt0]
  have ey : (y : (⟨2, ![32, 1024]⟩ : Shape).Idx) = ix2 (y 0) (y 1) := eq_ix2 _
  have er : ((win0_12.blk t).view.emb y 0).val = 32 * t.val + (y 0).val := by
    blk_simp [index12]
    omega
  have eq : (y 1 : Fin 1024) = (win0_12.blk t).view.emb y 1 := by
    refine Fin.ext ?_
    blk_simp [index12]
  refine (congrArg _ ey).trans ((out12 (row_blocks m c hg hw t (y 0) ((win0_12.blk t).view.emb y 0) er) c _ _ _ _ _ _ _ _ _ _ _ _ _ _ _ _ _ _ _ _ _ _ _ _ _ _ _ _ _ (y 1)).trans ?_)
  rw [← eq]
  rfl

theorem index13 : ∀ t : Fin cfg0.N, win0_13.index t = ![t.val, 0] := (by decide +kernel : ∀ t : Fin grid0.N, win0_13.index t = ![t.val, 0])

theorem result13 (c : Dev nD) (hg : ∀ i, IsReal (NG m c i)) (hw : ∀ i, IsReal (W m c i)) :
    (dats m 0 c).arrAt 13 cfg0.N = (fun i => sparseKV (X m c) (NG m c) (W m c) (i 0) (i 1) : FVec Ideal S32x1024 .bf16) := by
  refine (dats m 0 c).arrAt_eq_of_covers 13 _ (by decide +kernel) fun t hf y => ?_
  blk_simp
  rw [after0_13]
  simp only [outsAt0]
  have ey : (y : (⟨2, ![32, 1024]⟩ : Shape).Idx) = ix2 (y 0) (y 1) := eq_ix2 _
  have er : ((win0_13.blk t).view.emb y 0).val = 32 * t.val + (y 0).val := by
    blk_simp [index13]
    omega
  have eq : (y 1 : Fin 1024) = (win0_13.blk t).view.emb y 1 := by
    refine Fin.ext ?_
    blk_simp [index13]
  refine (congrArg _ ey).trans ((out13 (row_blocks m c hg hw t (y 0) ((win0_13.blk t).view.emb y 0) er) c _ _ _ _ _ _ _ _ _ _ _ _ _ _ _ _ _ _ _ _ _ _ _ _ _ _ _ _ _ (y 1)).trans ?_)
  rw [← eq]
  rfl

end Cert.Kernel6Ideal.Proj
-- ==== Proof.SampleProjRef.lean ====
/- The reference of the even layer's projections on the sample's rows, read at an index. -/
module

public import proofs.«01_k».proof.Proof.Gen.Reference6Ideal.Run
public import proofs.«01_k».proof.Proof.Heads

@[expose] public section

set_option maxRecDepth 16384

noncomputable section

namespace Cert.Reference6Ideal.Proj

open Cert.Reference6Ideal Cert.Reference6Ideal.Gen Cert.Heads
open Idealize.ShloMosaic Idealize.ShloMosaic.TcCoe

variable (x : FVec Ideal S32x1024 .f32) (g : FVec Ideal S1024 .f32) (w : FVec Ideal S1024x3072 .f32) (hg : FVec Ideal S64 .f32)

/-! ## The reference's steps -/

/-- Rows normalized. -/
abbrev normalized : FVec Ideal S32x1024 .f32 :=
  mulf (mulf x (broadcastInDim S32x1024 ![0, 1] bcast_S32x1_S32x1024_0_1 (Host.rsqrt (addf
    (Host.divf (broadcastInDim S32x1 ![0] bcast_S32_S32x1_0 (Host.reduceAdd (mulf x x) (constant S_ .f32 0x00000000#32) reducesTo_S32x1024_S32_d1 h_S_))
      (broadcastInDim S32x1 ![] bcast_S_S32x1 (constant S_ .f32 0x44800000#32)))
    (broadcastInDim S32x1 ![] bcast_S_S32x1 (constant S_ .f32 0x358637BD#32))))))
    (broadcastInDim S32x1024 ![0, 1] bcast_S1x1024_S32x1024_0_1 (broadcastInDim S1x1024 ![1] bcast_S1024_S1x1024_1 g))

/-- Normalized rows times the weights. -/
abbrev projected : FVec Ideal S32x3072 .f32 := Host.dotGeneral dot_S32x1024_S1024x3072_S32x3072_1_0_0_1_n_n none (normalized x g) w

/-- Columns split into sequences, positions, heads and their entries. -/
abbrev split (Y : FVec Ideal S32x512 .f32) : FVec Ideal S32x1x8x64 .f32 := shapeCast S32x1x8x64 Y shapeCasts_S32x512_S32x1x8x64

/-- Heads normalized. -/
abbrev units (A : FVec Ideal S32x1x8x64 .f32) : FVec Ideal S32x1x8x64 .f32 :=
  mulf (mulf A (broadcastInDim S32x1x8x64 ![0, 1, 2, 3] bcast_S32x1x8x1_S32x1x8x64_0_1_2_3 (Host.rsqrt (addf
    (Host.divf (broadcastInDim S32x1x8x1 ![0, 1, 2] bcast_S32x1x8_S32x1x8x1_0_1_2 (Host.reduceAdd (mulf A A) (constant S_ .f32 0x00000000#32) reducesTo_S32x1x8x64_S32x1x8_d3 h_S_))
      (broadcastInDim S32x1x8x1 ![] bcast_S_S32x1x8x1 (constant S_ .f32 0x42800000#32)))
    (broadcastInDim S32x1x8x1 ![] bcast_S_S32x1x8x1 (constant S_ .f32 0x358637BD#32))))))
    (broadcastInDim S32x1x8x64 ![0, 1, 2, 3] bcast_S1x1x1x64_S32x1x8x64_0_1_2_3 (broadcastInDim S1x1x1x64 ![3] bcast_S64_S1x1x1x64_3 hg))

/-- The angles of the positions. -/
abbrev angles : FVec Ideal S1x8 .f32 :=
  mulf (broadcastInDim S1x8 ![0, 1] bcast_S1x1_S1x8_0_1 (broadcastInDim S1x1 ![0] bcast_S1_S1x1_0 (sitofp .f32 (addi (broadcastInDim S1 ![] bcast_S_S1 (constantI S_ 32 8192#32)) (iotaInDim S1 32 0)))))
    (broadcastInDim S1x8 ![1] bcast_S8_S1x8_1 (Host.powf (broadcastInDim S8 ![] bcast_S_S8 (constant S_ .f32 0x48F42400#32))
      (Host.divf (mulf (Host.negf (sitofp .f32 (iotaInDim S8 32 0))) (broadcastInDim S8 ![] bcast_S_S8 (constant S_ .f32 0x40000000#32))) (broadcastInDim S8 ![] bcast_S_S8 (constant S_ .f32 0x41800000#32)))))

/-- A table of the positions, for every sequence and head. -/
abbrev along (T : FVec Ideal S1x8 .f32) : FVec Ideal S32x1x8x8 .f32 :=
  broadcastInDim S32x1x8x8 ![0, 1, 2, 3] bcast_S1x1x1x8_S32x1x8x8_0_1_2_3 (broadcastInDim S1x1x1x8 ![1, 2, 3] bcast_S1x1x8_S1x1x1x8_1_2_3 (shapeCast S1x1x8 T shapeCasts_S1x8_S1x1x8))

/-- The eight entries of each head that start at its first and at its ninth, and those that are not turned. -/
abbrev firsts (U : FVec Ideal S32x1x8x64 .f32) : FVec Ideal S32x1x8x8 .f32 := extractStridedSlice S32x1x8x8 ![0, 0, 0, 0] U slices_S32x1x8x64_S32x1x8x8_0_0_0_0
abbrev seconds (U : FVec Ideal S32x1x8x64 .f32) : FVec Ideal S32x1x8x8 .f32 := extractStridedSlice S32x1x8x8 ![0, 0, 0, 8] U slices_S32x1x8x64_S32x1x8x8_0_0_0_8
abbrev others (U : FVec Ideal S32x1x8x64 .f32) : FVec Ideal S32x1x8x48 .f32 := extractStridedSlice S32x1x8x48 ![0, 0, 0, 16] U slices_S32x1x8x64_S32x1x8x48_0_0_0_16

/-- Heads turned. -/
abbrev turns (U : FVec Ideal S32x1x8x64 .f32) (C S : FVec Ideal S32x1x8x8 .f32) : FVec Ideal S32x1x8x64 .f32 :=
  concatenate S32x1x8x64 3 [⟨S32x1x8x8, (subf (mulf (firsts U) C) (mulf (seconds U) S) : FVec Ideal S32x1x8x8 .f32)⟩,
    ⟨S32x1x8x8, (addf (mulf (seconds U) C) (mulf (firsts U) S) : FVec Ideal S32x1x8x8 .f32)⟩,
    ⟨S32x1x8x48, (others U : FVec Ideal S32x1x8x48 .f32)⟩] concatenates_S32x1x8x8_S32x1x8x8_S32x1x8x48_S32x1x8x64_d3

/-- Columns of heads, normalized and turned. -/
abbrev headed (Y : FVec Ideal S32x512 .f32) : FVec Ideal S32x512 .f32 :=
  shapeCast S32x512 (turns (units hg (split Y)) (along (Host.cos angles)) (along (Host.sin angles))) shapeCasts_S32x1x8x64_S32x512

/-- The scaled columns. -/
abbrev scaled (Y : FVec Ideal S32x512 .f32) : FVec Ideal S32x512 .f32 := mulf Y (broadcastInDim S32x512 ![] bcast_S_S32x512 (constant S_ .f32 0x3E000000#32))

/-- Two arrays side by side. -/
abbrev beside (A B : FVec Ideal S32x512 .f32) : FVec Ideal S32x1024 .f32 :=
  concatenate S32x1024 1 [⟨S32x512, (A : FVec Ideal S32x512 .f32)⟩, ⟨S32x512, (B : FVec Ideal S32x512 .f32)⟩] concatenates_S32x512_S32x512_S32x1024_d1

/-! ## The steps read at an index -/

theorem normalized_apply (r : Fin 32) (q : Fin 1024) : (normalized x g (ix2 r q) : EReal) = rowOf x g r q := by
  pointwise [normalized, rowOf, Dense.normed]

theorem projected_apply (r : Fin 32) (n : Fin 3072) : (projected x g w (ix2 r n) : EReal) = column (rowOf x g r) w n := by
  have h (N : FVec Ideal S32x1024 .f32) : (Host.dotGeneral dot_S32x1024_S1024x3072_S32x3072_1_0_0_1_n_n none N w (ix2 r n) : EReal)
      = ∑ d : Fin 1024, (N (ix2 r d) : EReal) * w (ix2 d n) := by
    pointwise []
  exact (h _).trans (Finset.sum_congr rfl fun d _ => congrArg (· * _) (normalized_apply x g r d))

theorem units_apply (A : FVec Ideal S32x1x8x64 .f32) (b : Fin 32) (h : Fin 8) (k : Fin 64) :
    (units hg A (ix4 b 0 h k) : EReal) = unit (fun k => hg (ix1 k)) (fun k => A (ix4 b 0 h k)) k := by
  pointwise [units, unit]

theorem angles_apply (i : Fin 8) : (angles (ix2 0 i) : EReal) = angle 8192 i := by
  pointwise [angles, angle]
  rfl

theorem along_apply (T : FVec Ideal S1x8 .f32) (b : Fin 32) (h : Fin 8) (i : Fin 8) : (along T (ix4 b 0 h i) : EReal) = T (ix2 0 i) := by
  pointwise [along]

theorem split_apply (Y : FVec Ideal S32x512 .f32) (b : Fin 32) (h : Fin 8) (k : Fin 64) :
    (split Y (ix4 b 0 h k) : EReal) = Y (ix2 b ⟨64 * h.val + k.val, by omega⟩) := by
  pointwise [split]
  exact congrArg Y (congrArg (ix2 b) (Fin.ext (by show h.val * 64 + k.val = 64 * h.val + k.val; omega)))

theorem merged_apply (T : FVec Ideal S32x1x8x64 .f32) (r : Fin 32) (q : Fin 512) :
    (shapeCast S32x512 T shapeCasts_S32x1x8x64_S32x512 (ix2 r q) : EReal)
      = T (ix4 r 0 ⟨q.val / 64, by omega⟩ ⟨q.val % 64, by omega⟩) := by
  pointwise []

theorem turns_apply (U : FVec Ideal S32x1x8x64 .f32) (C S : FVec Ideal S32x1x8x8 .f32) (b : Fin 32) (h : Fin 8) (k : Fin 64) :
    (turns U C S (ix4 b 0 h k) : EReal) = turned (fun i => C (ix4 b 0 h i)) (fun i => S (ix4 b 0 h i)) (fun k => U (ix4 b 0 h k)) k := by
  have at_lane (a : Nat) (ha : a < 64) (l : Fin 64) (e : a = l.val) : (U (ix4 b 0 h ⟨a, ha⟩) : EReal) = U (ix4 b 0 h l) := congrArg (fun l => (U (ix4 b 0 h l) : EReal)) (Fin.ext e)
  pointwise [turns, firsts, seconds, others, turned]
  refine dite_congr rfl (fun h1 => ?_) fun h1 => dite_congr (propext ⟨fun h2 => by omega, fun h2 => by omega⟩) (fun h2 => ?_) fun h2 => ?_
  · rw [at_lane (8 + k.val) _ ⟨k.val + 8, by omega⟩ (by show 8 + k.val = k.val + 8; omega)]
  · rw [at_lane (8 + (k.val - 8)) _ k (by omega)]
  · exact at_lane _ _ k (by omega)

theorem scaled_apply (Y : FVec Ideal S32x512 .f32) (r : Fin 32) (q : Fin 512) : (scaled Y (ix2 r q) : EReal) = Y (ix2 r q) * eighth := by
  pointwise [scaled, eighth]

theorem beside_apply (A B : FVec Ideal S32x512 .f32) (r : Fin 32) (q : Fin 1024) :
    (beside A B (ix2 r q) : EReal) = if h : q.val < 512 then A (ix2 r ⟨q.val, h⟩) else B (ix2 r ⟨q.val - 512, by omega⟩) := by
  pointwise [beside]

/-- The heads of the columns from `o` on. -/
theorem headed_apply (o : Nat) (ho : o + 512 ≤ 3072) (Y : FVec Ideal S32x512 .f32) (hY : ∀ (r : Fin 32) (q : Fin 512), (Y (ix2 r q) : EReal) = column (rowOf x g r) w ⟨o + q.val, by omega⟩)
    (r : Fin 32) (q : Fin 512) : (headed hg Y (ix2 r q) : EReal) = head (rowOf x g r) w o ho (cosAt 8192) (sinAt 8192) (fun k => hg (ix1 k)) q := by
  refine (merged_apply _ r q).trans ((turns_apply _ _ _ _ _ _).trans ?_)
  unfold head
  have hc : (fun i : Fin 8 => (along (Host.cos angles) (ix4 r 0 (⟨q.val / 64, by omega⟩ : Fin 8) i) : EReal)) = cosAt 8192 :=
    funext fun i => (along_apply _ _ _ i).trans (congrArg Ideal.cos (angles_apply i))
  have hs : (fun i : Fin 8 => (along (Host.sin angles) (ix4 r 0 (⟨q.val / 64, by omega⟩ : Fin 8) i) : EReal)) = sinAt 8192 :=
    funext fun i => (along_apply _ _ _ i).trans (congrArg Ideal.sin (angles_apply i))
  have hu : (fun k : Fin 64 => (units hg (split Y) (ix4 r 0 (⟨q.val / 64, by omega⟩ : Fin 8) k) : EReal))
      = unit (fun k => hg (ix1 k)) fun k => column (rowOf x g r) w ⟨o + (64 * (q.val / 64) + k.val), by omega⟩ := by
    refine funext fun k => (units_apply hg _ _ _ k).trans (congrArg (fun v => unit (fun k => hg (ix1 k)) v k) (funext fun k => ?_))
    refine (split_apply Y _ _ k).trans ((hY _ _).trans ?_)
    rfl
  rw [hc, hs, hu]

/-- The columns of the product from `0`, `512`, … on. -/
abbrev columns0 : FVec Ideal S32x512 .f32 := extractStridedSlice S32x512 ![0, 0] (projected x g w) slices_S32x3072_S32x512_0_0
abbrev columns512 : FVec Ideal S32x512 .f32 := extractStridedSlice S32x512 ![0, 512] (projected x g w) slices_S32x3072_S32x512_0_512
abbrev columns1024 : FVec Ideal S32x512 .f32 := extractStridedSlice S32x512 ![0, 1024] (projected x g w) slices_S32x3072_S32x512_0_1024
abbrev columns1536 : FVec Ideal S32x512 .f32 := extractStridedSlice S32x512 ![0, 1536] (projected x g w) slices_S32x3072_S32x512_0_1536
abbrev columns2048 : FVec Ideal S32x512 .f32 := extractStridedSlice S32x512 ![0, 2048] (projected x g w) slices_S32x3072_S32x512_0_2048
abbrev columns2560 : FVec Ideal S32x512 .f32 := extractStridedSlice S32x512 ![0, 2560] (projected x g w) slices_S32x3072_S32x512_0_2560

/-- A slice of columns, from `o` on. -/
theorem slice_apply (o : Nat) (ho : o + 512 ≤ 3072) (P : FVec Ideal S32x3072 .f32) (hs : S32x3072.Slices ![0, o] S32x512) (r : Fin 32) (q : Fin 512) :
    (extractStridedSlice S32x512 ![0, o] P hs (ix2 r q) : EReal) = P (ix2 r ⟨o + q.val, by omega⟩) := by
  pointwise []

theorem columns_apply (o : Nat) (ho : o + 512 ≤ 3072) (hs : S32x3072.Slices ![0, o] S32x512) (r : Fin 32) (q : Fin 512) :
    (extractStridedSlice S32x512 ![0, o] (projected x g w) hs (ix2 r q) : EReal) = column (rowOf x g r) w ⟨o + q.val, by omega⟩ :=
  (slice_apply o ho _ hs r q).trans (projected_apply x g w r _)

/-! ## The results -/

theorem dense_queries (r : Fin 32) (q : Fin 512) : (scaled (headed hg (columns0 x g w)) (ix2 r q) : EReal) = denseQAt x g w hg 8192 r q :=
  (scaled_apply _ r q).trans (congrArg (· * eighth) (headed_apply x g w hg 0 (by omega) _ (fun r q => columns_apply x g w 0 (by omega) _ r q) r q))

theorem dense_keys (r : Fin 32) (q : Fin 1024) : (beside (headed hg (columns512 x g w)) (columns1024 x g w) (ix2 r q) : EReal) = denseKVAt x g w hg 8192 r q := by
  refine (beside_apply _ _ r q).trans (dite_congr rfl (fun h => ?_) fun h => ?_)
  · exact headed_apply x g w hg 512 (by omega) _ (fun r q => columns_apply x g w 512 (by omega) _ r q) r _
  · refine (columns_apply x g w 1024 (by omega) _ r _).trans (congrArg (column (rowOf x g r) w) (Fin.ext ?_))
    show 1024 + (q.val - 512) = 512 + q.val
    omega

theorem sparse_queries (r : Fin 32) (q : Fin 512) : (scaled (columns1536 x g w) (ix2 r q) : EReal) = sparseQ x g w r q :=
  (scaled_apply _ r q).trans (congrArg (· * eighth) (columns_apply x g w 1536 (by omega) _ r q))

theorem sparse_keys (r : Fin 32) (q : Fin 1024) : (beside (columns2048 x g w) (columns2560 x g w) (ix2 r q) : EReal) = sparseKV x g w r q := by
  refine (beside_apply _ _ r q).trans ?_
  unfold sparseKV
  by_cases h : q.val < 512
  · rw [dif_pos h]
    exact columns_apply x g w 2048 (by omega) _ r _
  · rw [dif_neg h]
    refine (columns_apply x g w 2560 (by omega) _ r _).trans (congrArg (column (rowOf x g r) w) (Fin.ext ?_))
    show 2560 + (q.val - 512) = 2048 + q.val
    omega

theorem res0_total (m : (ℓ : Loc nD τ sig) → Buf (Elt Ideal) ℓ) (c : Dev nD) :
    Value.res_main_v127 m c = (fun (x : FVec Ideal S32x1024 .f32) g w hg => truncf .bf16 (scaled (headed hg (columns0 x g w))) bitsLt_bf16_f32)
      (m (c.tc.loc main_arg0)) (m (c.tc.loc main_arg1)) (m (c.tc.loc main_arg2)) (m (c.tc.loc main_arg3)) := by
  unfold Value.res_main_v127
  rfl

theorem res1_total (m : (ℓ : Loc nD τ sig) → Buf (Elt Ideal) ℓ) (c : Dev nD) :
    Value.res_main_v123 m c = (fun (x : FVec Ideal S32x1024 .f32) g w hg => beside (headed hg (columns512 x g w)) (columns1024 x g w))
      (m (c.tc.loc main_arg0)) (m (c.tc.loc main_arg1)) (m (c.tc.loc main_arg2)) (m (c.tc.loc main_arg4)) := by
  unfold Value.res_main_v123
  rfl

theorem res4_total (m : (ℓ : Loc nD τ sig) → Buf (Elt Ideal) ℓ) (c : Dev nD) :
    Value.res_main_v131 m c = (fun (x : FVec Ideal S32x1024 .f32) g w hg => truncf .bf16 (beside (headed hg (columns512 x g w)) (columns1024 x g w)) bitsLt_bf16_f32)
      (m (c.tc.loc main_arg0)) (m (c.tc.loc main_arg1)) (m (c.tc.loc main_arg2)) (m (c.tc.loc main_arg4)) := by
  unfold Value.res_main_v131
  rfl

/-! ## The result arrays, of the arguments -/

theorem result0 (m : (ℓ : Loc nD τ sig) → Buf (Elt Ideal) ℓ) (c : Dev nD) :
    Value.res_main_v127 m c = (fun i => denseQAt (m (c.tc.loc main_arg0)) (m (c.tc.loc main_arg1)) (m (c.tc.loc main_arg2)) (m (c.tc.loc main_arg3)) 8192 (i 0) (i 1) : FVec Ideal S32x512 .bf16) := by
  refine (res0_total m c).trans (funext fun i => ?_)
  rw [eq_ix2 i]
  exact dense_queries _ _ _ _ (i 0) (i 1)

theorem result1 (m : (ℓ : Loc nD τ sig) → Buf (Elt Ideal) ℓ) (c : Dev nD) :
    Value.res_main_v123 m c = (fun i => denseKVAt (m (c.tc.loc main_arg0)) (m (c.tc.loc main_arg1)) (m (c.tc.loc main_arg2)) (m (c.tc.loc main_arg4)) 8192 (i 0) (i 1) : FVec Ideal S32x1024 .f32) := by
  refine (res1_total m c).trans (funext fun i => ?_)
  rw [eq_ix2 i]
  exact dense_keys _ _ _ _ (i 0) (i 1)

theorem result2 : (truncf .bf16 (scaled (columns1536 x g w)) bitsLt_bf16_f32 : FVec Ideal S32x512 .bf16) = fun i => sparseQ x g w (i 0) (i 1) := by
  funext i
  rw [eq_ix2 i]
  exact sparse_queries x g w (i 0) (i 1)

theorem result3 : beside (columns2048 x g w) (columns2560 x g w) = fun i => sparseKV x g w (i 0) (i 1) := by
  funext i
  rw [eq_ix2 i]
  exact sparse_keys x g w (i 0) (i 1)

theorem result4 (m : (ℓ : Loc nD τ sig) → Buf (Elt Ideal) ℓ) (c : Dev nD) :
    Value.res_main_v131 m c = (fun i => denseKVAt (m (c.tc.loc main_arg0)) (m (c.tc.loc main_arg1)) (m (c.tc.loc main_arg2)) (m (c.tc.loc main_arg4)) 8192 (i 0) (i 1) : FVec Ideal S32x1024 .bf16) := by
  refine (res4_total m c).trans (funext fun i => ?_)
  rw [eq_ix2 i]
  exact dense_keys _ _ _ _ (i 0) (i 1)

theorem result5 : (truncf .bf16 (beside (columns2048 x g w) (columns2560 x g w)) bitsLt_bf16_f32 : FVec Ideal S32x1024 .bf16) = fun i => sparseKV x g w (i 0) (i 1) := by
  funext i
  rw [eq_ix2 i]
  exact sparse_keys x g w (i 0) (i 1)

end Cert.Reference6Ideal.Proj

end
-- ==== Proof.Finite2.lean ====
/- The gains and the weights the precondition of the projections on the sample's rows admits. -/
module

public import proofs.«01_k».proof.Proof.Gen.Pre_finite2
public import Idealize.ShloMosaic.Lib.ReduceAll
public import proofs.«01_k».proof.Proof.Finite

@[expose] public section

noncomputable section

namespace Cert.Finite2

open Idealize.ShloMosaic Cert.Pre_finite2 Cert.Pre_finite2.Gen

/-- Under the precondition the gains of the rows and the weights are real numbers. -/
theorem reals (x : FVec Ideal S32x1024 .f32) (g : FVec Ideal S1024 .f32) (w : FVec Ideal S1024x3072 .f32) (qg : FVec Ideal S64 .f32) (kg : FVec Ideal S64 .f32)
    (hp : fn x g w qg kg = fun _ => 1#1) : (∀ i, Heads.IsReal (g i)) ∧ ∀ i, Heads.IsReal (w i) := by
  have andi_one (a b : BitVec 1) : IntOp.andi a b = 1#1 ↔ a = 1#1 ∧ b = 1#1 := by revert a b; decide
  haveI : Subsingleton S_.Idx := ⟨fun a b => funext fun i => i.elim0⟩
  have e := congrFun hp (fun a => a.elim0)
  dsimp only [fn] at e
  simp only [andi, andi_one] at e
  refine ⟨fun i => Finite.isReal_of_abs _ ?_, fun i => Finite.isReal_of_abs _ ?_⟩
  · have hi := Host.reduce_andi_all _ _ _ _ _ e.1 i
    simp only [cmpf, broadcastInDim, constant] at hi
    exact hi
  · have hi := Host.reduce_andi_all _ _ _ _ _ e.2 i
    simp only [cmpf, broadcastInDim, constant] at hi
    exact hi

end Cert.Finite2

end
-- ==== Proof.lean ====
/-
  The certificate: for each of the six calls the kernel's and its idealization's frames, the reference's run, and the
  equality of the kernel's results with the reference's over the extended reals.
-/
module

public import proofs.«01_k».proof.Defs
public import proofs.«01_k».proof.Proof.OkBits
public import proofs.«01_k».proof.Proof.OkIdeal
public import proofs.«01_k».proof.Proof.KernelValue
public import proofs.«01_k».proof.Proof.RefValue
public import proofs.«01_k».proof.Proof.SampleValue
public import proofs.«01_k».proof.Proof.SampleRef
public import proofs.«01_k».proof.Proof.Weights
public import proofs.«01_k».proof.Proof.FfnValue
public import proofs.«01_k».proof.Proof.FfnRef
public import proofs.«01_k».proof.Proof.Gen.Kernel2.Frame
public import proofs.«01_k».proof.Proof.Gen.Kernel3.Frame
public import proofs.«01_k».proof.Proof.Gen.Kernel4.Frame
public import proofs.«01_k».proof.Proof.ProjValue
public import proofs.«01_k».proof.Proof.ProjRef
public import proofs.«01_k».proof.Proof.Finite
public import proofs.«01_k».proof.Proof.Gen.Kernel5.Frame
public import proofs.«01_k».proof.Proof.OddValue
public import proofs.«01_k».proof.Proof.OddRef
public import proofs.«01_k».proof.Proof.Finite1
public import proofs.«01_k».proof.Proof.Gen.Kernel6.Frame
public import proofs.«01_k».proof.Proof.SampleProjValue
public import proofs.«01_k».proof.Proof.SampleProjRef
public import proofs.«01_k».proof.Proof.Finite2

@[expose] public section

noncomputable section

namespace Cert.Proof

open Idealize.ShloMosaic Idealize.SL.Sem

/-- The reference has no semaphore, so each of its counters is at zero. -/
theorem reference_counters (f : GSem Cert.ReferenceIdeal.nD Cert.ReferenceIdeal.τ Cert.ReferenceIdeal.sig → ℤ) : f = fun _ => 0 := by
  funext g
  rcases g with ⟨_, ⟨s⟩ | ⟨s⟩⟩ <;> exact s.elim0

/-- The reference's frame. -/
theorem reference_frame : Cert.quiescent_ReferenceIdeal := fun m g _ =>
  (θ_run _ _ _).mono (fun r h => ⟨fun c => (h c).2, reference_counters _⟩) (Cert.ReferenceIdeal.Value.run m g)

/-- Over the extended reals the kernel's result array is the reference's. -/
theorem results_agree : Cert.algebraic_KernelIdeal_ReferenceIdeal := by
  intro m g m' g' hp ha
  refine ⟨fun c => Cert.KernelIdeal.Rows.G m c, ?_, ?_⟩
  · exact (θ_run _ _ _).mono (fun r h c => ⟨Cert.KernelIdeal.Rows.result_eq m (Cert.KernelIdeal.Rows.ok_of_pre m hp) c
      (Cert.ExpertIds.id_lt _ _ _ _ _ (hp c)) r h.1, Cert.KernelIdeal.Rows.args_of_post m (Cert.KernelIdeal.Rows.ok_of_pre m hp) r h.1 c⟩)
      (Cert.KernelIdeal.Rows.run_main m g (Cert.KernelIdeal.Rows.ok_of_pre m hp))
  · refine (θ_run _ _ _).mono (fun r h c => ⟨(h c).1.trans ?_, (h c).2⟩) (Cert.ReferenceIdeal.Value.run m' g')
    obtain ⟨a0, a1, a2, a3, a4⟩ := ha c
    funext i
    rw [eq_ix2 i]
    have hte : ∀ w, ((m' (c.tc.loc Cert.ReferenceIdeal.main_arg1) : IVec Cert.ReferenceIdeal.S72 32) w).toNat < 8 := by
      rw [a1]
      exact Cert.ExpertIds.id_lt _ _ _ _ _ (hp c)
    refine (Cert.ReferenceIdeal.Rows.result_apply _ _ _ (StableHlo.launchContents m' c) _ _ rfl rfl rfl rfl rfl hte _ rfl (i 0) (i 1)).trans ?_
    show Cert.Routed.out (m' (c.tc.loc Cert.ReferenceIdeal.main_arg0)) (m' (c.tc.loc Cert.ReferenceIdeal.main_arg3))
      (m' (c.tc.loc Cert.ReferenceIdeal.main_arg4)) (m' (c.tc.loc Cert.ReferenceIdeal.main_arg1)) (m' (c.tc.loc Cert.ReferenceIdeal.main_arg2)) (i 0) (i 1) = _
    rw [a0, a1, a2, a3, a4]
    rfl

/-! ## The experts over the sample rows -/

theorem sample_counters (f : GSem Cert.Reference2Ideal.nD Cert.Reference2Ideal.τ Cert.Reference2Ideal.sig → ℤ) : f = fun _ => 0 := by
  funext g
  rcases g with ⟨_, ⟨s⟩ | ⟨s⟩⟩ <;> exact s.elim0

/-- The sample rows' reference's frame. -/
theorem sample_reference_frame : Cert.quiescent_Reference2Ideal := fun m g _ =>
  (θ_run _ _ _).mono (fun r h => ⟨fun c => (h c).2, sample_counters _⟩) (Cert.Reference2Ideal.Value.run m g)

/-- Over the extended reals the kernel's result array over the sample rows is the reference's. -/
theorem sample_results_agree : Cert.algebraic_Kernel2Ideal_Reference2Ideal := by
  intro m g m' g' hp ha
  refine ⟨fun c => Cert.Kernel2Ideal.Sample.G m c, ?_, ?_⟩
  · exact (θ_run _ _ _).mono (fun r h c => ⟨(h c).1.trans (Cert.Kernel2Ideal.Sample.result_eq m c (Cert.Weights.weight_bounds _ _ _ _ _ (hp c))), (h c).2⟩)
      (Cert.Kernel2Ideal.Value.run m g)
  · refine (θ_run _ _ _).mono (fun r h c => ⟨(h c).1.trans ?_, (h c).2⟩) (Cert.Reference2Ideal.Value.run m' g')
    obtain ⟨a0, a1, a2, a3, a4⟩ := ha c
    refine (Cert.Reference2Ideal.Sample.result_total _ _ _ _ _ (StableHlo.launchContents m' c) rfl rfl rfl rfl rfl _ rfl).trans ?_
    funext i
    rw [eq_ix2 i]
    refine (Cert.Reference2Ideal.Sample.total_apply _ _ _ _ _ (i 0) (i 1)).trans ?_
    show Cert.Routed.mixture (R := 32) (m' (c.tc.loc Cert.Reference2Ideal.main_arg1)) (m' (c.tc.loc Cert.Reference2Ideal.main_arg3)) (m' (c.tc.loc Cert.Reference2Ideal.main_arg4))
      (m' (c.tc.loc Cert.Reference2Ideal.main_arg0)) (m' (c.tc.loc Cert.Reference2Ideal.main_arg2)) (i 0) (i 1) = _
    rw [a0, a1, a2, a3, a4]
    rfl

/-! ## The output projection and the dense block -/

theorem dense_counters (f : GSem Cert.Reference3Ideal.nD Cert.Reference3Ideal.τ Cert.Reference3Ideal.sig → ℤ) : f = fun _ => 0 := by
  funext g
  rcases g with ⟨_, ⟨s⟩ | ⟨s⟩⟩ <;> exact s.elim0

/-- The dense block's reference's frame. -/
theorem dense_reference_frame : Cert.quiescent_Reference3Ideal := fun m g _ =>
  (θ_run _ _ _).mono (fun r h => ⟨fun c => (h c).2, dense_counters _⟩) (Cert.Reference3Ideal.Value.run m g)

/-- Over the extended reals the dense block's result array is the reference's. -/
theorem dense_results_agree : Cert.algebraic_Kernel3Ideal_Reference3Ideal := by
  intro m g m' g' _ ha
  refine ⟨fun c => Cert.Kernel3Ideal.Ffn.G m c, ?_, ?_⟩
  · exact (θ_run _ _ _).mono (fun r h c => ⟨(h c).1.trans (Cert.Kernel3Ideal.Ffn.result_eq m c), (h c).2⟩) (Cert.Kernel3Ideal.Value.run m g)
  · refine (θ_run _ _ _).mono (fun r h c => ⟨(h c).1.trans ?_, (h c).2⟩) (Cert.Reference3Ideal.Value.run m' g')
    obtain ⟨a0, a1, a2, a3, a4, a5⟩ := ha c
    refine (Cert.Reference3Ideal.Ffn.result_total m' c).trans ?_
    funext i
    rw [eq_ix2 i]
    refine (Cert.Reference3Ideal.Ffn.total_apply _ _ _ _ _ _ (i 0) (i 1)).trans ?_
    show Cert.Kernel3Ideal.Ffn.rowOf (m' (c.tc.loc Cert.Reference3Ideal.main_arg0)) (m' (c.tc.loc Cert.Reference3Ideal.main_arg1)) (m' (c.tc.loc Cert.Reference3Ideal.main_arg2))
      (m' (c.tc.loc Cert.Reference3Ideal.main_arg3)) (m' (c.tc.loc Cert.Reference3Ideal.main_arg4)) (m' (c.tc.loc Cert.Reference3Ideal.main_arg5)) (i 0) (i 1) = _
    rw [a0, a1, a2, a3, a4, a5]
    rfl

/-! ## The projections -/

theorem proj_counters (f : GSem Cert.Reference4Ideal.nD Cert.Reference4Ideal.τ Cert.Reference4Ideal.sig → ℤ) : f = fun _ => 0 := by
  funext g
  rcases g with ⟨_, ⟨s⟩ | ⟨s⟩⟩ <;> exact s.elim0

/-- The projections' reference's frame. -/
theorem proj_reference_frame : Cert.quiescent_Reference4Ideal := fun m g _ =>
  (θ_run _ _ _).mono (fun r h => ⟨fun c => (h c).2.2.2.2.2.2, proj_counters _⟩) (Cert.Reference4Ideal.Value.run m g)

/-- Over the extended reals the projections' six result arrays are the reference's. -/
theorem proj_results_agree : Cert.algebraic_Kernel4Ideal_Reference4Ideal_pre_finite := by
  intro m g m' g' hp ha
  open Cert.Kernel4Ideal.Proj Cert.Heads in
  refine ⟨fun c => (fun i => denseQ (X m c) (NG m c) (W m c) (QG m c) (i 0) (i 1)), fun c => (fun i => denseKV (X m c) (NG m c) (W m c) (KG m c) (i 0) (i 1)),
    fun c => (fun i => sparseQ (X m c) (NG m c) (W m c) (i 0) (i 1)), fun c => (fun i => sparseKV (X m c) (NG m c) (W m c) (i 0) (i 1)),
    fun c => (fun i => denseKV (X m c) (NG m c) (W m c) (KG m c) (i 0) (i 1)), fun c => (fun i => sparseKV (X m c) (NG m c) (W m c) (i 0) (i 1)), ?_, ?_⟩
  · refine (θ_run _ _ _).mono (fun r h c => ?_) (Cert.Kernel4Ideal.Value.run_blocks m g)
    obtain ⟨h0, h1, h2, h3, h4, h5, hk⟩ := h c
    obtain ⟨hg, hw⟩ := Cert.Finite.reals _ _ _ _ _ (hp c)
    exact ⟨h0.trans (result8 m c hg hw), h1.trans (result9 m c hg hw), h2.trans (result10 m c hg hw), h3.trans (result11 m c hg hw), h4.trans (result12 m c hg hw), h5.trans (result13 m c hg hw), hk⟩
  · refine (θ_run _ _ _).mono (fun r h c => ?_) (Cert.Reference4Ideal.Value.run m' g')
    obtain ⟨h0, h1, h2, h3, h4, h5, hk⟩ := h c
    obtain ⟨a0, a1, a2, a3, a4⟩ := ha c
    have r0 := h0.trans (Cert.Reference4Ideal.Proj.result0 m' c)
    have r1 := h1.trans (Cert.Reference4Ideal.Proj.result1 m' c)
    have r2 := h2.trans (Cert.Reference4Ideal.Proj.result2 (m' (c.tc.loc Cert.Reference4Ideal.main_arg0)) (m' (c.tc.loc Cert.Reference4Ideal.main_arg1)) (m' (c.tc.loc Cert.Reference4Ideal.main_arg2)))
    have r3 := h3.trans (Cert.Reference4Ideal.Proj.result3 (m' (c.tc.loc Cert.Reference4Ideal.main_arg0)) (m' (c.tc.loc Cert.Reference4Ideal.main_arg1)) (m' (c.tc.loc Cert.Reference4Ideal.main_arg2)))
    have r4 := h4.trans (Cert.Reference4Ideal.Proj.result4 m' c)
    have r5 := h5.trans (Cert.Reference4Ideal.Proj.result5 (m' (c.tc.loc Cert.Reference4Ideal.main_arg0)) (m' (c.tc.loc Cert.Reference4Ideal.main_arg1)) (m' (c.tc.loc Cert.Reference4Ideal.main_arg2)))
    rw [a0, a1, a2, a3] at r0
    rw [a0, a1, a2, a4] at r1 r4
    rw [a0, a1, a2] at r2 r3 r5
    exact ⟨r0, r1, r2, r3, r4, r5, hk⟩

/-! ## The odd layer's projections -/

theorem odd_counters (f : GSem Cert.Reference5Ideal.nD Cert.Reference5Ideal.τ Cert.Reference5Ideal.sig → ℤ) : f = fun _ => 0 := by
  funext g
  rcases g with ⟨_, ⟨s⟩ | ⟨s⟩⟩ <;> exact s.elim0

/-- The odd layer's reference's frame. -/
theorem odd_reference_frame : Cert.quiescent_Reference5Ideal := fun m g _ =>
  (θ_run _ _ _).mono (fun r h => ⟨fun c => (h c).2.2.2.2.2.2.2, odd_counters _⟩) (Cert.Reference5Ideal.Value.run m g)

/-- Over the extended reals the odd layer's seven result arrays are the reference's. -/
theorem odd_results_agree : Cert.algebraic_Kernel5Ideal_Reference5Ideal_pre_finite1 := by
  intro m g m' g' hp ha
  open Cert.Kernel5Ideal.Odd Cert.Heads in
  refine ⟨fun c => (fun i => oddQ (X m c) (NG m c) (W m c) (QG m c) (i 0) (i 1)), fun c => (fun i => oddKV (X m c) (NG m c) (W m c) (KG m c) 0 (i 0) (i 1)),
    fun c => (fun i => oddKV (X m c) (NG m c) (W m c) (KG m c) 1 (i 0) (i 1)), fun c => (fun i => oddKV (X m c) (NG m c) (W m c) (KG m c) 2 (i 0) (i 1)),
    fun c => (fun i => oddGate (X m c) (NG m c) (W m c) (i 0) (i 1)), fun c => (fun i => oddKV (X m c) (NG m c) (W m c) (KG m c) 1 (i 0) (i 1)),
    fun c => (fun i => oddKV (X m c) (NG m c) (W m c) (KG m c) 2 (i 0) (i 1)), ?_, ?_⟩
  · refine (θ_run _ _ _).mono (fun r h c => ?_) (Cert.Kernel5Ideal.Value.run_blocks m g)
    obtain ⟨h0, h1, h2, h3, h4, h5, h6, hk⟩ := h c
    obtain ⟨hg, hw⟩ := Cert.Finite1.reals _ _ _ _ _ (hp c)
    exact ⟨h0.trans (result8 m c hg hw), h1.trans (result9 m c hg hw), h2.trans (result10 m c hg hw), h3.trans (result11 m c hg hw), h4.trans (result12 m c hg hw),
      h5.trans (result13 m c hg hw), h6.trans (result14 m c hg hw), hk⟩
  · refine (θ_run _ _ _).mono (fun r h c => ?_) (Cert.Reference5Ideal.Value.run m' g')
    obtain ⟨h0, h1, h2, h3, h4, h5, h6, hk⟩ := h c
    obtain ⟨a0, a1, a2, a3, a4⟩ := ha c
    have r0 := h0.trans (Cert.Reference5Ideal.Odd.result0 (m' (c.tc.loc Cert.Reference5Ideal.main_arg0)) (m' (c.tc.loc Cert.Reference5Ideal.main_arg1)) (m' (c.tc.loc Cert.Reference5Ideal.main_arg2)) (m' (c.tc.loc Cert.Reference5Ideal.main_arg3)))
    have r1 := h1.trans (Cert.Reference5Ideal.Odd.result1 (m' (c.tc.loc Cert.Reference5Ideal.main_arg0)) (m' (c.tc.loc Cert.Reference5Ideal.main_arg1)) (m' (c.tc.loc Cert.Reference5Ideal.main_arg2)) (m' (c.tc.loc Cert.Reference5Ideal.main_arg4)))
    have r2 := h2.trans (Cert.Reference5Ideal.Odd.result2 (m' (c.tc.loc Cert.Reference5Ideal.main_arg0)) (m' (c.tc.loc Cert.Reference5Ideal.main_arg1)) (m' (c.tc.loc Cert.Reference5Ideal.main_arg2)) (m' (c.tc.loc Cert.Reference5Ideal.main_arg4)))
    have r3 := h3.trans (Cert.Reference5Ideal.Odd.result3 (m' (c.tc.loc Cert.Reference5Ideal.main_arg0)) (m' (c.tc.loc Cert.Reference5Ideal.main_arg1)) (m' (c.tc.loc Cert.Reference5Ideal.main_arg2)) (m' (c.tc.loc Cert.Reference5Ideal.main_arg4)))
    have r4 := h4.trans (Cert.Reference5Ideal.Odd.result4 (m' (c.tc.loc Cert.Reference5Ideal.main_arg0)) (m' (c.tc.loc Cert.Reference5Ideal.main_arg1)) (m' (c.tc.loc Cert.Reference5Ideal.main_arg2)))
    have r5 := h5.trans (Cert.Reference5Ideal.Odd.result5 (m' (c.tc.loc Cert.Reference5Ideal.main_arg0)) (m' (c.tc.loc Cert.Reference5Ideal.main_arg1)) (m' (c.tc.loc Cert.Reference5Ideal.main_arg2)) (m' (c.tc.loc Cert.Reference5Ideal.main_arg4)))
    have r6 := h6.trans (Cert.Reference5Ideal.Odd.result6 (m' (c.tc.loc Cert.Reference5Ideal.main_arg0)) (m' (c.tc.loc Cert.Reference5Ideal.main_arg1)) (m' (c.tc.loc Cert.Reference5Ideal.main_arg2)) (m' (c.tc.loc Cert.Reference5Ideal.main_arg4)))
    rw [a0, a1, a2, a3] at r0
    rw [a0, a1, a2, a4] at r1 r2 r3 r5 r6
    rw [a0, a1, a2] at r4
    exact ⟨r0, r1, r2, r3, r4, r5, r6, hk⟩

/-! ## The projections on the sample's rows -/

theorem sample_proj_counters (f : GSem Cert.Reference6Ideal.nD Cert.Reference6Ideal.τ Cert.Reference6Ideal.sig → ℤ) : f = fun _ => 0 := by
  funext g
  rcases g with ⟨_, ⟨s⟩ | ⟨s⟩⟩ <;> exact s.elim0

/-- The frame of the reference of the projections on the sample's rows. -/
theorem sample_proj_reference_frame : Cert.quiescent_Reference6Ideal := fun m g _ =>
  (θ_run _ _ _).mono (fun r h => ⟨fun c => (h c).2.2.2.2.2.2, sample_proj_counters _⟩) (Cert.Reference6Ideal.Value.run m g)

/-- Over the extended reals the six result arrays of the projections on the sample's rows are the reference's. -/
theorem sample_proj_results_agree : Cert.algebraic_Kernel6Ideal_Reference6Ideal_pre_finite2 := by
  intro m g m' g' hp ha
  open Cert.Kernel6Ideal.Proj Cert.Heads in
  refine ⟨fun c => (fun i => denseQAt (X m c) (NG m c) (W m c) (QG m c) 8192 (i 0) (i 1)), fun c => (fun i => denseKVAt (X m c) (NG m c) (W m c) (KG m c) 8192 (i 0) (i 1)),
    fun c => (fun i => sparseQ (X m c) (NG m c) (W m c) (i 0) (i 1)), fun c => (fun i => sparseKV (X m c) (NG m c) (W m c) (i 0) (i 1)),
    fun c => (fun i => denseKVAt (X m c) (NG m c) (W m c) (KG m c) 8192 (i 0) (i 1)), fun c => (fun i => sparseKV (X m c) (NG m c) (W m c) (i 0) (i 1)), ?_, ?_⟩
  · refine (θ_run _ _ _).mono (fun r h c => ?_) (Cert.Kernel6Ideal.Value.run_blocks m g)
    obtain ⟨h0, h1, h2, h3, h4, h5, hk⟩ := h c
    obtain ⟨hg, hw⟩ := Cert.Finite2.reals _ _ _ _ _ (hp c)
    exact ⟨h0.trans (result8 m c hg hw), h1.trans (result9 m c hg hw), h2.trans (result10 m c hg hw), h3.trans (result11 m c hg hw), h4.trans (result12 m c hg hw), h5.trans (result13 m c hg hw), hk⟩
  · refine (θ_run _ _ _).mono (fun r h c => ?_) (Cert.Reference6Ideal.Value.run m' g')
    obtain ⟨h0, h1, h2, h3, h4, h5, hk⟩ := h c
    obtain ⟨a0, a1, a2, a3, a4⟩ := ha c
    have r0 := h0.trans (Cert.Reference6Ideal.Proj.result0 m' c)
    have r1 := h1.trans (Cert.Reference6Ideal.Proj.result1 m' c)
    have r2 := h2.trans (Cert.Reference6Ideal.Proj.result2 (m' (c.tc.loc Cert.Reference6Ideal.main_arg0)) (m' (c.tc.loc Cert.Reference6Ideal.main_arg1)) (m' (c.tc.loc Cert.Reference6Ideal.main_arg2)))
    have r3 := h3.trans (Cert.Reference6Ideal.Proj.result3 (m' (c.tc.loc Cert.Reference6Ideal.main_arg0)) (m' (c.tc.loc Cert.Reference6Ideal.main_arg1)) (m' (c.tc.loc Cert.Reference6Ideal.main_arg2)))
    have r4 := h4.trans (Cert.Reference6Ideal.Proj.result4 m' c)
    have r5 := h5.trans (Cert.Reference6Ideal.Proj.result5 (m' (c.tc.loc Cert.Reference6Ideal.main_arg0)) (m' (c.tc.loc Cert.Reference6Ideal.main_arg1)) (m' (c.tc.loc Cert.Reference6Ideal.main_arg2)))
    rw [a0, a1, a2, a3] at r0
    rw [a0, a1, a2, a4] at r1 r4
    rw [a0, a1, a2] at r2 r3 r5
    exact ⟨r0, r1, r2, r3, r4, r5, hk⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_expert_ids.Gen.facts, Cert.Pre_weights.Gen.facts, Cert.Pre_finite.Gen.facts, Cert.Pre_finite1.Gen.facts, Cert.Pre_finite2.Gen.facts,
  fun m g h => Cert.Kernel.Rows.frame m g (Cert.Kernel.Rows.ok_of_pre m h),
  fun m g h => Cert.KernelIdeal.Rows.frame m g (Cert.KernelIdeal.Rows.ok_of_pre m h),
  reference_frame,
  fun m g _ => Cert.Kernel2.Gen.frame m g,
  fun m g _ => Cert.Kernel2Ideal.Gen.frame m g,
  sample_reference_frame,
  fun m g _ => Cert.Kernel3.Gen.frame m g,
  fun m g _ => Cert.Kernel3Ideal.Gen.frame m g,
  dense_reference_frame,
  fun m g _ => Cert.Kernel4.Gen.frame m g,
  fun m g _ => Cert.Kernel4Ideal.Gen.frame m g,
  fun m g _ => Cert.Kernel4Ideal.Gen.frame m g,
  proj_reference_frame,
  fun m g _ => proj_reference_frame m g trivial,
  fun m g _ => Cert.Kernel5.Gen.frame m g,
  fun m g _ => Cert.Kernel5Ideal.Gen.frame m g,
  fun m g _ => Cert.Kernel5Ideal.Gen.frame m g,
  odd_reference_frame,
  fun m g _ => odd_reference_frame m g trivial,
  fun m g _ => Cert.Kernel6.Gen.frame m g,
  fun m g _ => Cert.Kernel6Ideal.Gen.frame m g,
  fun m g _ => Cert.Kernel6Ideal.Gen.frame m g,
  sample_proj_reference_frame,
  fun m g _ => sample_proj_reference_frame m g trivial,
  trivial, results_agree, trivial, sample_results_agree, trivial, dense_results_agree, trivial, proj_results_agree,
  trivial, odd_results_agree, trivial, sample_proj_results_agree⟩

end Cert.Proof

end
